-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)) (v5 : (c : Dev Cert.Kernel3Ideal.nD) → Buf (Elt Ideal) ((c.tc : Thread Cert.Kernel3Ideal.nD Cert.Kernel3Ideal.τ).loc Cert.Kernel3Ideal.main_v9_5)) (v6 : (c : Dev Cert.Kernel3Ideal.nD) → Buf (Elt Ideal) ((c.tc : Thread Cert.Kernel3Ideal.nD Cert.Kernel3Ideal.τ).loc Cert.Kernel3Ideal.main_v9_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_v9_5) = v5 c
          ∧ r.2.mem ((c.tc : Thread Cert.Kernel3Ideal.nD Cert.Kernel3Ideal.τ).loc Cert.Kernel3Ideal.main_v9_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_v105) = v1 c
          ∧ r.2.mem ((c.tc : Thread Cert.Reference3Ideal.nD Cert.Reference3Ideal.τ).loc Cert.Reference3Ideal.main_v110) = v2 c
          ∧ r.2.mem ((c.tc : Thread Cert.Reference3Ideal.nD Cert.Reference3Ideal.τ).loc Cert.Reference3Ideal.main_v65) = v3 c
          ∧ r.2.mem ((c.tc : Thread Cert.Reference3Ideal.nD Cert.Reference3Ideal.τ).loc Cert.Reference3Ideal.main_v67) = v4 c
          ∧ r.2.mem ((c.tc : Thread Cert.Reference3Ideal.nD Cert.Reference3Ideal.τ).loc Cert.Reference3Ideal.main_v97) = v5 c
          ∧ r.2.mem ((c.tc : Thread Cert.Reference3Ideal.nD Cert.Reference3Ideal.τ).loc Cert.Reference3Ideal.main_v99) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)) (v4 : (c : Dev Cert.Kernel4Ideal.nD) → Buf (Elt Ideal) ((c.tc : Thread Cert.Kernel4Ideal.nD Cert.Kernel4Ideal.τ).loc Cert.Kernel4Ideal.main_v42_4)) (v5 : (c : Dev Cert.Kernel4Ideal.nD) → Buf (Elt Ideal) ((c.tc : Thread Cert.Kernel4Ideal.nD Cert.Kernel4Ideal.τ).loc Cert.Kernel4Ideal.main_v42_5)) (v6 : (c : Dev Cert.Kernel4Ideal.nD) → Buf (Elt Ideal) ((c.tc : Thread Cert.Kernel4Ideal.nD Cert.Kernel4Ideal.τ).loc Cert.Kernel4Ideal.main_v42_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_v42_4) = v4 c
          ∧ r.2.mem ((c.tc : Thread Cert.Kernel4Ideal.nD Cert.Kernel4Ideal.τ).loc Cert.Kernel4Ideal.main_v42_5) = v5 c
          ∧ r.2.mem ((c.tc : Thread Cert.Kernel4Ideal.nD Cert.Kernel4Ideal.τ).loc Cert.Kernel4Ideal.main_v42_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v224) = v0 c
          ∧ r.2.mem ((c.tc : Thread Cert.Reference4Ideal.nD Cert.Reference4Ideal.τ).loc Cert.Reference4Ideal.main_v229) = v1 c
          ∧ r.2.mem ((c.tc : Thread Cert.Reference4Ideal.nD Cert.Reference4Ideal.τ).loc Cert.Reference4Ideal.main_v232) = v2 c
          ∧ r.2.mem ((c.tc : Thread Cert.Reference4Ideal.nD Cert.Reference4Ideal.τ).loc Cert.Reference4Ideal.main_v235) = v3 c
          ∧ r.2.mem ((c.tc : Thread Cert.Reference4Ideal.nD Cert.Reference4Ideal.τ).loc Cert.Reference4Ideal.main_v240) = v4 c
          ∧ r.2.mem ((c.tc : Thread Cert.Reference4Ideal.nD Cert.Reference4Ideal.τ).loc Cert.Reference4Ideal.main_v243) = v5 c
          ∧ r.2.mem ((c.tc : Thread Cert.Reference4Ideal.nD Cert.Reference4Ideal.τ).loc Cert.Reference4Ideal.main_v246) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S2x4096x768 : Shape := ⟨3, ![2, 4096, 768]⟩
abbrev S2x4096x256 : Shape := ⟨3, ![2, 4096, 256]⟩
abbrev S2x2x2x256x128 : Shape := ⟨5, ![2, 2, 2, 256, 128]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S2x4096x256 : S_.BroadcastsInDim S2x4096x256 (![] : Fin 0 → Fin S2x4096x256.rank)
  reducesTo_S2x4096x256_S_d0_1_2 : S2x4096x256.ReducesTo [0, 1, 2] S_
  bcast_S_S2x2x2x256x128 : S_.BroadcastsInDim S2x2x2x256x128 (![] : Fin 0 → Fin S2x2x2x256x128.rank)
  reducesTo_S2x2x2x256x128_S_d0_1_2_3_4 : S2x2x2x256x128.ReducesTo [0, 1, 2, 3, 4] S_

variable [Facts]

def fn {F : FTy → Type} [FloatOps F] (main_arg0 : FVec F S2x4096x768 .f32) (main_arg1 : FVec F S2x4096x256 .f32) (main_arg2 : FVec F S2x4096x256 .f32) (main_arg3 : FVec F S2x2x2x256x128 .f32) (main_arg4 : FVec F S2x2x2x256x128 .f32) : IVec S_ 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S2x4096x256 .f32 := Host.absf main_arg1
  let main_cst_0 : FVec F S_ .f32 := constant S_ .f32 0x7F800000#32
  let main_v5 : FVec F S2x4096x256 .f32 := broadcastInDim S2x4096x256 ![] bcast_S_S2x4096x256 main_cst_0
  let main_v6 : IVec S2x4096x256 1 := cmpf .olt main_v4 main_v5
  let main_c_1 : IVec S_ 1 := constantI S_ 1 1#1
  let main_v7 : IVec S_ 1 := (fun x v => Host.reduce IntOp.andi x v reducesTo_S2x4096x256_S_d0_1_2 h_S_) main_v6 main_c_1
  let main_v8 : IVec S_ 1 := andi main_v3 main_v7
  let main_v9 : FVec F S2x2x2x256x128 .f32 := Host.absf main_arg3
  let main_cst_2 : FVec F S_ .f32 := constant S_ .f32 0x7F800000#32
  let main_v10 : FVec F S2x2x2x256x128 .f32 := broadcastInDim S2x2x2x256x128 ![] bcast_S_S2x2x2x256x128 main_cst_2
  let main_v11 : IVec S2x2x2x256x128 1 := cmpf .olt main_v9 main_v10
  let main_c_3 : IVec S_ 1 := constantI S_ 1 1#1
  let main_v12 : IVec S_ 1 := (fun x v => Host.reduce IntOp.andi x v reducesTo_S2x2x2x256x128_S_d0_1_2_3_4 h_S_) main_v11 main_c_3
  let main_v13 : IVec S_ 1 := andi main_v8 main_v12
  main_v13
-- ==== Kernel.lean ====
abbrev S2x4096x768 : Shape := ⟨3, ![2, 4096, 768]⟩
abbrev S2x4096x256 : Shape := ⟨3, ![2, 4096, 256]⟩
abbrev S2x2x2x256x128 : Shape := ⟨5, ![2, 2, 2, 256, 128]⟩
abbrev S8192x768 : Shape := ⟨2, ![8192, 768]⟩
abbrev S8192x256 : Shape := ⟨2, ![8192, 256]⟩
abbrev S256x384 : Shape := ⟨2, ![256, 384]⟩
abbrev S4096x128 : Shape := ⟨2, ![4096, 128]⟩
abbrev S1x1x1x256x128 : Shape := ⟨5, ![1, 1, 1, 256, 128]⟩
abbrev S4352x128 : Shape := ⟨2, ![4352, 128]⟩
abbrev S4352x256 : Shape := ⟨2, ![4352, 256]⟩
abbrev S768x128 : Shape := ⟨2, ![768, 128]⟩
abbrev S768x256 : Shape := ⟨2, ![768, 256]⟩
abbrev S256x128 : Shape := ⟨2, ![256, 128]⟩
abbrev S512x128 : Shape := ⟨2, ![512, 128]⟩
abbrev S768x512 : Shape := ⟨2, ![768, 512]⟩
abbrev S768 : Shape := ⟨1, ![768]⟩
abbrev S768x1 : Shape := ⟨2, ![768, 1]⟩
abbrev S512x256 : Shape := ⟨2, ![512, 256]⟩
abbrev S256x256 : Shape := ⟨2, ![256, 256]⟩

abbrev nBuf : Space → Nat
  | .hbm => 11
  | .vmem => 16
  | .smem => 0
  | _ => 0

abbrev bufTy : (tb : Table) → Fin (tcTables nBuf tb) → BufTy
  | .hbm, ⟨0, _⟩ => ⟨S2x4096x768, .f32⟩
  | .hbm, ⟨1, _⟩ => ⟨S2x4096x256, .f32⟩
  | .hbm, ⟨2, _⟩ => ⟨S2x4096x256, .f32⟩
  | .hbm, ⟨3, _⟩ => ⟨S2x2x2x256x128, .f32⟩
  | .hbm, ⟨4, _⟩ => ⟨S2x2x2x256x128, .f32⟩
  | .hbm, ⟨5, _⟩ => ⟨S8192x768, .f32⟩
  | .hbm, ⟨6, _⟩ => ⟨S8192x256, .f32⟩
  | .hbm, ⟨7, _⟩ => ⟨S8192x256, .bf16⟩
  | .hbm, ⟨8, _⟩ => ⟨S8192x256, .f32⟩
  | .hbm, ⟨9, _⟩ => ⟨S8192x256, .bf16⟩
  | .hbm, ⟨10, _⟩ => ⟨S8192x768, .bf16⟩
  | .local _ .vmem, ⟨0, _⟩ => ⟨S256x384, .f32⟩
  | .local _ .vmem, ⟨1, _⟩ => ⟨S256x384, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x1x256x128, .f32⟩
  | .local _ .vmem, ⟨7, _⟩ => ⟨S1x1x1x256x128, .f32⟩
  | .local _ .vmem, ⟨8, _⟩ => ⟨S1x1x1x256x128, .f32⟩
  | .local _ .vmem, ⟨9, _⟩ => ⟨S1x1x1x256x128, .f32⟩
  | .local _ .vmem, ⟨10, _⟩ => ⟨S256x384, .bf16⟩
  | .local _ .vmem, ⟨11, _⟩ => ⟨S256x384, .bf16⟩
  | .local _ .vmem, ⟨12, _⟩ => ⟨S4352x128, .bf16⟩
  | .local _ .vmem, ⟨13, _⟩ => ⟨S4352x256, .bf16⟩
  | .local _ .vmem, ⟨14, _⟩ => ⟨S768x128, .f32⟩
  | .local _ .vmem, ⟨15, _⟩ => ⟨S768x256, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def k0_mult1 : BitVec 32 :=
  let c0_i32_10 : BitVec 32 := 0#32
  let c512_i32 : BitVec 32 := 512#32
  let v21 : BitVec 32 := Scalar.muli c0_i32_10 c512_i32
  v21
def k0_off1 (c0_i32_10 : BitVec 32) : Fin 2 → Nat :=
  let c512_i32 : BitVec 32 := 512#32
  let v21 : BitVec 32 := Scalar.muli c0_i32_10 c512_i32
  let v22 : BitVec 32 := v21
  let v23 : Index := Scalar.indexCast v22
  let c0_11 : Index := 0#32
  ![v23.toNat, 0]
def k0_off2 (c0_i32_10 : BitVec 32) : Fin 2 → Nat :=
  let c512_i32 : BitVec 32 := 512#32
  let v21 : BitVec 32 := Scalar.muli c0_i32_10 c512_i32
  let v22 : BitVec 32 := v21
  let v40 : Index := Scalar.indexCast v22
  let c0_18 : Index := 0#32
  ![v40.toNat, 0]
def k0_mult2 : BitVec 32 :=
  let c1_i32 : BitVec 32 := 1#32
  let c512_i32_24 : BitVec 32 := 512#32
  let v50 : BitVec 32 := Scalar.muli c1_i32 c512_i32_24
  v50
def k0_mult3 : BitVec 32 :=
  let c2_i32 : BitVec 32 := 2#32
  let c512_i32_38 : BitVec 32 := 512#32
  let v79 : BitVec 32 := Scalar.muli c2_i32 c512_i32_38
  v79
def k0_mult4 : BitVec 32 :=
  let c3_i32 : BitVec 32 := 3#32
  let c512_i32_52 : BitVec 32 := 512#32
  let v108 : BitVec 32 := Scalar.muli c3_i32 c512_i32_52
  v108
def k0_mult5 : BitVec 32 :=
  let c4_i32 : BitVec 32 := 4#32
  let c512_i32_66 : BitVec 32 := 512#32
  let v137 : BitVec 32 := Scalar.muli c4_i32 c512_i32_66
  v137
def k0_mult6 : BitVec 32 :=
  let c5_i32 : BitVec 32 := 5#32
  let c512_i32_80 : BitVec 32 := 512#32
  let v166 : BitVec 32 := Scalar.muli c5_i32 c512_i32_80
  v166
def k0_mult7 : BitVec 32 :=
  let c6_i32 : BitVec 32 := 6#32
  let c512_i32_94 : BitVec 32 := 512#32
  let v195 : BitVec 32 := Scalar.muli c6_i32 c512_i32_94
  v195
def k0_mult8 : BitVec 32 :=
  let c7_i32 : BitVec 32 := 7#32
  let c512_i32_108 : BitVec 32 := 512#32
  let v224 : BitVec 32 := Scalar.muli c7_i32 c512_i32_108
  v224
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qscale" => some (((11863283 / 134217728) * (Real.log 2)⁻¹ : ℝ) : EReal)
  | _ => none
-- ==== ReferenceIdeal.lean ====
abbrev S2x4096x768 : Shape := ⟨3, ![2, 4096, 768]⟩
abbrev S2x4096x256 : Shape := ⟨3, ![2, 4096, 256]⟩
abbrev S2x2x2x256x128 : Shape := ⟨5, ![2, 2, 2, 256, 128]⟩
abbrev S2x4096x6x128 : Shape := ⟨4, ![2, 4096, 6, 128]⟩
abbrev S2x6x4096x128 : Shape := ⟨4, ![2, 6, 4096, 128]⟩
abbrev S2x4096x2x128 : Shape := ⟨4, ![2, 4096, 2, 128]⟩
abbrev S2x2x4096x128 : Shape := ⟨4, ![2, 2, 4096, 128]⟩
abbrev S2x1x2x256x128 : Shape := ⟨5, ![2, 1, 2, 256, 128]⟩
abbrev S2x2x256x128 : Shape := ⟨4, ![2, 2, 256, 128]⟩
abbrev S2x2x4352x128 : Shape := ⟨4, ![2, 2, 4352, 128]⟩
abbrev S2x2x3x4096x128 : Shape := ⟨5, ![2, 2, 3, 4096, 128]⟩
abbrev S2x2x3x4096x4352 : Shape := ⟨5, ![2, 2, 3, 4096, 4352]⟩
abbrev S_ : Shape := ⟨0, ![]⟩
abbrev S2x2x3x4096 : Shape := ⟨4, ![2, 2, 3, 4096]⟩
abbrev S2x2x3x4096x1 : Shape := ⟨5, ![2, 2, 3, 4096, 1]⟩
abbrev S8192x768 : Shape := ⟨2, ![8192, 768]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S2x4096x256, .f32⟩
  | .hbm, ⟨2, _⟩ => ⟨S2x4096x256, .f32⟩
  | .hbm, ⟨3, _⟩ => ⟨S2x2x2x256x128, .f32⟩
  | .hbm, ⟨4, _⟩ => ⟨S2x2x2x256x128, .f32⟩
  | .hbm, ⟨5, _⟩ => ⟨S2x4096x6x128, .f32⟩
  | .hbm, ⟨6, _⟩ => ⟨S2x6x4096x128, .f32⟩
  | .hbm, ⟨7, _⟩ => ⟨S2x4096x2x128, .f32⟩
  | .hbm, ⟨8, _⟩ => ⟨S2x2x4096x128, .f32⟩
  | .hbm, ⟨9, _⟩ => ⟨S2x1x2x256x128, .f32⟩
  | .hbm, ⟨10, _⟩ => ⟨S2x2x256x128, .f32⟩
  | .hbm, ⟨11, _⟩ => ⟨S2x2x4352x128, .f32⟩
  | .hbm, ⟨12, _⟩ => ⟨S2x4096x2x128, .f32⟩
  | .hbm, ⟨13, _⟩ => ⟨S2x2x4096x128, .f32⟩
  | .hbm, ⟨14, _⟩ => ⟨S2x1x2x256x128, .f32⟩
  | .hbm, ⟨15, _⟩ => ⟨S2x2x256x128, .f32⟩
  | .hbm, ⟨16, _⟩ => ⟨S2x2x4352x128, .f32⟩
  | .hbm, ⟨17, _⟩ => ⟨S2x2x3x4096x128, .f32⟩
  | .hbm, ⟨18, _⟩ => ⟨S2x2x3x4096x4352, .f32⟩
  | .hbm, ⟨19, _⟩ => ⟨S_, .f32⟩
  | .hbm, ⟨20, _⟩ => ⟨S2x2x3x4096x4352, .f32⟩
  | .hbm, ⟨21, _⟩ => ⟨S2x2x3x4096x4352, .f32⟩
  | .hbm, ⟨22, _⟩ => ⟨S_, .f32⟩
  | .hbm, ⟨23, _⟩ => ⟨S2x2x3x4096, .f32⟩
  | .hbm, ⟨24, _⟩ => ⟨S_, .f32⟩
  | .hbm, ⟨25, _⟩ => ⟨S2x2x3x4096, .f32⟩
  | .hbm, ⟨26, _⟩ => ⟨S2x2x3x4096, .f32⟩
  | .hbm, ⟨27, _⟩ => ⟨S2x2x3x4096x1, .f32⟩
  | .hbm, ⟨28, _⟩ => ⟨S2x2x3x4096x4352, .f32⟩
  | .hbm, ⟨29, _⟩ => ⟨S2x2x3x4096x4352, .f32⟩
  | .hbm, ⟨30, _⟩ => ⟨S2x2x3x4096x4352, .f32⟩
  | .hbm, ⟨31, _⟩ => ⟨S_, .f32⟩
  | .hbm, ⟨32, _⟩ => ⟨S2x2x3x4096, .f32⟩
  | .hbm, ⟨33, _⟩ => ⟨S2x2x3x4096x1, .f32⟩
  | .hbm, ⟨34, _⟩ => ⟨S2x2x3x4096x4352, .f32⟩
  | .hbm, ⟨35, _⟩ => ⟨S2x2x3x4096x4352, .f32⟩
  | .hbm, ⟨36, _⟩ => ⟨S2x2x3x4096x128, .f32⟩
  | .hbm, ⟨37, _⟩ => ⟨S2x6x4096x128, .f32⟩
  | .hbm, ⟨38, _⟩ => ⟨S2x4096x6x128, .f32⟩
  | .hbm, ⟨39, _⟩ => ⟨S8192x768, .f32⟩
  | .hbm, ⟨40, _⟩ => ⟨S8192x768, .bf16⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel2.lean ====
abbrev S2x16x512x2048 : Shape := ⟨4, ![2, 16, 512, 2048]⟩
abbrev S2x16x2048x2048 : Shape := ⟨4, ![2, 16, 2048, 2048]⟩
abbrev S16x2x512x2048 : Shape := ⟨4, ![16, 2, 512, 2048]⟩
abbrev S16x1024x2048 : Shape := ⟨3, ![16, 1024, 2048]⟩
abbrev S1x1024x2048 : Shape := ⟨3, ![1, 1024, 2048]⟩
abbrev S1x1x2048x512 : Shape := ⟨4, ![1, 1, 2048, 512]⟩
abbrev S1x1x512x2048 : Shape := ⟨4, ![1, 1, 512, 2048]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S2x16x512x2048, .f32⟩
  | .hbm, ⟨1, _⟩ => ⟨S2x16x2048x2048, .f32⟩
  | .hbm, ⟨2, _⟩ => ⟨S2x16x2048x2048, .f32⟩
  | .hbm, ⟨3, _⟩ => ⟨S2x16x2048x2048, .f32⟩
  | .hbm, ⟨4, _⟩ => ⟨S16x2x512x2048, .f32⟩
  | .hbm, ⟨5, _⟩ => ⟨S16x1024x2048, .f32⟩
  | .hbm, ⟨6, _⟩ => ⟨S16x1024x2048, .bf16⟩
  | .hbm, ⟨7, _⟩ => ⟨S16x1024x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1024x2048, .f32⟩
  | _, _ => ⟨S2x16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_21 : BitVec 32 := 0#32
  let v28 : BitVec 1 := Scalar.cmpi .ne v27 c0_i32_21
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S2x16x512x2048 : Shape := ⟨4, ![2, 16, 512, 2048]⟩
abbrev S2x16x2048x2048 : Shape := ⟨4, ![2, 16, 2048, 2048]⟩
abbrev S1x16x2048x2048 : Shape := ⟨4, ![1, 16, 2048, 2048]⟩
abbrev S16x2048x2048 : Shape := ⟨3, ![16, 2048, 2048]⟩
abbrev S16x2048x2x512 : Shape := ⟨4, ![16, 2048, 2, 512]⟩
abbrev S_ : Shape := ⟨0, ![]⟩
abbrev S16x2x512x2048 : Shape := ⟨4, ![16, 2, 512, 2048]⟩
abbrev S16x1024x2048 : Shape := ⟨3, ![16, 1024, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x16x512x2048, .f32⟩
  | .hbm, ⟨1, _⟩ => ⟨S2x16x2048x2048, .f32⟩
  | .hbm, ⟨2, _⟩ => ⟨S2x16x2048x2048, .f32⟩
  | .hbm, ⟨3, _⟩ => ⟨S2x16x2048x2048, .f32⟩
  | .hbm, ⟨4, _⟩ => ⟨S1x16x2048x2048, .f32⟩
  | .hbm, ⟨5, _⟩ => ⟨S16x2048x2048, .f32⟩
  | .hbm, ⟨6, _⟩ => ⟨S16x2048x2x512, .f32⟩
  | .hbm, ⟨7, _⟩ => ⟨S2x16x512x2048, .f32⟩
  | .hbm, ⟨8, _⟩ => ⟨S1x16x2048x2048, .f32⟩
  | .hbm, ⟨9, _⟩ => ⟨S16x2048x2048, .f32⟩
  | .hbm, ⟨10, _⟩ => ⟨S16x2048x2x512, .f32⟩
  | .hbm, ⟨11, _⟩ => ⟨S2x16x512x2048, .f32⟩
  | .hbm, ⟨12, _⟩ => ⟨S2x16x512x2048, .f32⟩
  | .hbm, ⟨13, _⟩ => ⟨S2x16x512x2048, .f32⟩
  | .hbm, ⟨14, _⟩ => ⟨S_, .f32⟩
  | .hbm, ⟨15, _⟩ => ⟨S2x16x512x2048, .f32⟩
  | .hbm, ⟨16, _⟩ => ⟨S2x16x512x2048, .f32⟩
  | .hbm, ⟨17, _⟩ => ⟨S_, .f32⟩
  | .hbm, ⟨18, _⟩ => ⟨S2x16x512x2048, .f32⟩
  | .hbm, ⟨19, _⟩ => ⟨S2x16x512x2048, .f32⟩
  | .hbm, ⟨20, _⟩ => ⟨S2x16x512x2048, .f32⟩
  | .hbm, ⟨21, _⟩ => ⟨S2x16x512x2048, .f32⟩
  | .hbm, ⟨22, _⟩ => ⟨S1x16x2048x2048, .f32⟩
  | .hbm, ⟨23, _⟩ => ⟨S16x2048x2048, .f32⟩
  | .hbm, ⟨24, _⟩ => ⟨S16x2048x2x512, .f32⟩
  | .hbm, ⟨25, _⟩ => ⟨S2x16x512x2048, .f32⟩
  | .hbm, ⟨26, _⟩ => ⟨S16x2x512x2048, .f32⟩
  | .hbm, ⟨27, _⟩ => ⟨S16x1024x2048, .f32⟩
  | .hbm, ⟨28, _⟩ => ⟨S16x1024x2048, .bf16⟩
  | _, _ => ⟨S2x16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel3.lean ====
abbrev S32x256x2048 : Shape := ⟨3, ![32, 256, 2048]⟩
abbrev S8x12288 : Shape := ⟨2, ![8, 12288]⟩
abbrev S2048 : Shape := ⟨1, ![2048]⟩
abbrev S2048x5120 : Shape := ⟨2, ![2048, 5120]⟩
abbrev S128 : Shape := ⟨1, ![128]⟩
abbrev S1x128 : Shape := ⟨2, ![1, 128]⟩
abbrev S4x128 : Shape := ⟨2, ![4, 128]⟩
abbrev S8192x2048 : Shape := ⟨2, ![8192, 2048]⟩
abbrev S8x1x12288 : Shape := ⟨3, ![8, 1, 12288]⟩
abbrev S1x2048 : Shape := ⟨2, ![1, 2048]⟩
abbrev S8192x1536 : Shape := ⟨2, ![8192, 1536]⟩
abbrev S8192x768 : Shape := ⟨2, ![8192, 768]⟩
abbrev S32x6x256x128 : Shape := ⟨4, ![32, 6, 256, 128]⟩
abbrev S32x2x256x128 : Shape := ⟨4, ![32, 2, 256, 128]⟩
abbrev S512x2048 : Shape := ⟨2, ![512, 2048]⟩
abbrev S1x1x12288 : Shape := ⟨3, ![1, 1, 12288]⟩
abbrev S512x1536 : Shape := ⟨2, ![512, 1536]⟩
abbrev S512x768 : Shape := ⟨2, ![512, 768]⟩
abbrev S2x6x256x128 : Shape := ⟨4, ![2, 6, 256, 128]⟩
abbrev S2x2x256x128 : Shape := ⟨4, ![2, 2, 256, 128]⟩
abbrev S1x12288 : Shape := ⟨2, ![1, 12288]⟩
abbrev S512 : Shape := ⟨1, ![512]⟩
abbrev S512x1 : Shape := ⟨2, ![512, 1]⟩
abbrev S2048x1536 : Shape := ⟨2, ![2048, 1536]⟩
abbrev S2048x768 : Shape := ⟨2, ![2048, 768]⟩
abbrev S2048x256 : Shape := ⟨2, ![2048, 256]⟩
abbrev S512x256 : Shape := ⟨2, ![512, 256]⟩
abbrev S512x128 : Shape := ⟨2, ![512, 128]⟩
abbrev S256x128 : Shape := ⟨2, ![256, 128]⟩
abbrev S1x1x256x128 : Shape := ⟨4, ![1, 1, 256, 128]⟩

abbrev nBuf : Space → Nat
  | .hbm => 24
  | .vmem => 20
  | .smem => 0
  | _ => 0

abbrev bufTy : (tb : Table) → Fin (tcTables nBuf tb) → BufTy
  | .hbm, ⟨0, _⟩ => ⟨S32x256x2048, .f32⟩
  | .hbm, ⟨1, _⟩ => ⟨S8x12288, .f32⟩
  | .hbm, ⟨2, _⟩ => ⟨S2048, .f32⟩
  | .hbm, ⟨3, _⟩ => ⟨S2048x5120, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S4x128, .f32⟩
  | .hbm, ⟨13, _⟩ => ⟨S8192x2048, .f32⟩
  | .hbm, ⟨14, _⟩ => ⟨S8x1x12288, .f32⟩
  | .hbm, ⟨15, _⟩ => ⟨S2048x5120, .bf16⟩
  | .hbm, ⟨16, _⟩ => ⟨S1x2048, .f32⟩
  | .hbm, ⟨17, _⟩ => ⟨S8192x1536, .f32⟩
  | .hbm, ⟨18, _⟩ => ⟨S8192x768, .bf16⟩
  | .hbm, ⟨19, _⟩ => ⟨S8192x768, .bf16⟩
  | .hbm, ⟨20, _⟩ => ⟨S32x6x256x128, .f32⟩
  | .hbm, ⟨21, _⟩ => ⟨S32x6x256x128, .f32⟩
  | .hbm, ⟨22, _⟩ => ⟨S32x2x256x128, .f32⟩
  | .hbm, ⟨23, _⟩ => ⟨S32x2x256x128, .f32⟩
  | .local _ .vmem, ⟨0, _⟩ => ⟨S512x2048, .f32⟩
  | .local _ .vmem, ⟨1, _⟩ => ⟨S512x2048, .f32⟩
  | .local _ .vmem, ⟨2, _⟩ => ⟨S1x1x12288, .f32⟩
  | .local _ .vmem, ⟨3, _⟩ => ⟨S1x2048, .f32⟩
  | .local _ .vmem, ⟨4, _⟩ => ⟨S2048x5120, .bf16⟩
  | .local _ .vmem, ⟨5, _⟩ => ⟨S4x128, .f32⟩
  | .local _ .vmem, ⟨6, _⟩ => ⟨S512x1536, .f32⟩
  | .local _ .vmem, ⟨7, _⟩ => ⟨S512x1536, .f32⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S2x6x256x128, .f32⟩
  | .local _ .vmem, ⟨13, _⟩ => ⟨S2x6x256x128, .f32⟩
  | .local _ .vmem, ⟨14, _⟩ => ⟨S2x6x256x128, .f32⟩
  | .local _ .vmem, ⟨15, _⟩ => ⟨S2x6x256x128, .f32⟩
  | .local _ .vmem, ⟨16, _⟩ => ⟨S2x2x256x128, .f32⟩
  | .local _ .vmem, ⟨17, _⟩ => ⟨S2x2x256x128, .f32⟩
  | .local _ .vmem, ⟨18, _⟩ => ⟨S2x2x256x128, .f32⟩
  | .local _ .vmem, ⟨19, _⟩ => ⟨S2x2x256x128, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x6x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x6x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x2x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32x256x2048 : Shape := ⟨3, ![32, 256, 2048]⟩
abbrev S8x12288 : Shape := ⟨2, ![8, 12288]⟩
abbrev S2048 : Shape := ⟨1, ![2048]⟩
abbrev S2048x5120 : Shape := ⟨2, ![2048, 5120]⟩
abbrev S128 : Shape := ⟨1, ![128]⟩
abbrev S1x12288 : Shape := ⟨2, ![1, 12288]⟩
abbrev S1x2048 : Shape := ⟨2, ![1, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S32x256x5120 : Shape := ⟨3, ![32, 256, 5120]⟩
abbrev S32x256x1536 : Shape := ⟨3, ![32, 256, 1536]⟩
abbrev S32x256x768 : Shape := ⟨3, ![32, 256, 768]⟩
abbrev S32x256x256 : Shape := ⟨3, ![32, 256, 256]⟩
abbrev S32x256x6x128 : Shape := ⟨4, ![32, 256, 6, 128]⟩
abbrev S32x6x256x128 : Shape := ⟨4, ![32, 6, 256, 128]⟩
abbrev S32x6x256 : Shape := ⟨3, ![32, 6, 256]⟩
abbrev S32x6x256x1 : Shape := ⟨4, ![32, 6, 256, 1]⟩
abbrev S1x1x1x128 : Shape := ⟨4, ![1, 1, 1, 128]⟩
abbrev S32x256x2x128 : Shape := ⟨4, ![32, 256, 2, 128]⟩
abbrev S32x2x256x128 : Shape := ⟨4, ![32, 2, 256, 128]⟩
abbrev S32x2x256 : Shape := ⟨3, ![32, 2, 256]⟩
abbrev S32x2x256x1 : Shape := ⟨4, ![32, 2, 256, 1]⟩
abbrev S8192x1536 : Shape := ⟨2, ![8192, 1536]⟩
abbrev S8192x768 : Shape := ⟨2, ![8192, 768]⟩

abbrev nBuf : Space → Nat
  | .hbm => 137
  | .vmem => 0
  | .smem => 0
  | _ => 0

abbrev hbmTy0_0 (i : Nat) : BufTy := match i % 128 with
  | 0 => ⟨S32x256x2048, .f32⟩
  | 1 => ⟨S8x12288, .f32⟩
  | 2 => ⟨S2048, .f32⟩
  | 3 => ⟨S2048x5120, .f32⟩
  | 4 => ⟨S128, .f32⟩
  | 5 => ⟨S128, .f32⟩
  | 6 => ⟨S128, .f32⟩
  | 7 => ⟨S128, .f32⟩
  | 8 => ⟨S1x12288, .f32⟩
  | 9 => ⟨S1x2048, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S32x256x2048, .f32⟩
  | 16 => ⟨S_, .f32⟩
  | 17 => ⟨S32x256, .f32⟩
  | 18 => ⟨S32x256x1, .f32⟩
  | 19 => ⟨S_, .f32⟩
  | 20 => ⟨S32x256x1, .f32⟩
  | 21 => ⟨S32x256x1, .f32⟩
  | 22 => ⟨S_, .f32⟩
  | 23 => ⟨S32x256x1, .f32⟩
  | 24 => ⟨S32x256x1, .f32⟩
  | 25 => ⟨S32x256x1, .f32⟩
  | 26 => ⟨S32x256x2048, .f32⟩
  | 27 => ⟨S32x256x2048, .f32⟩
  | 28 => ⟨S1x1x2048, .f32⟩
  | 29 => ⟨S32x256x2048, .f32⟩
  | 30 => ⟨S32x256x2048, .f32⟩
  | 31 => ⟨S1x1x2048, .f32⟩
  | 32 => ⟨S_, .f32⟩
  | 33 => ⟨S1x1x2048, .f32⟩
  | 34 => ⟨S1x1x2048, .f32⟩
  | 35 => ⟨S32x256x2048, .f32⟩
  | 36 => ⟨S32x256x2048, .f32⟩
  | 37 => ⟨S1x1x2048, .f32⟩
  | 38 => ⟨S32x256x2048, .f32⟩
  | 39 => ⟨S32x256x2048, .f32⟩
  | 40 => ⟨S32x256x5120, .f32⟩
  | 41 => ⟨S32x256x1536, .f32⟩
  | 42 => ⟨S32x256x768, .f32⟩
  | 43 => ⟨S32x256x768, .f32⟩
  | 44 => ⟨S32x256x768, .f32⟩
  | 45 => ⟨S32x256x768, .f32⟩
  | 46 => ⟨S32x256x256, .f32⟩
  | 47 => ⟨S32x256x256, .f32⟩
  | 48 => ⟨S32x256x6x128, .f32⟩
  | 49 => ⟨S32x6x256x128, .f32⟩
  | 50 => ⟨S32x6x256x128, .f32⟩
  | 51 => ⟨S_, .f32⟩
  | 52 => ⟨S32x6x256, .f32⟩
  | 53 => ⟨S32x6x256x1, .f32⟩
  | 54 => ⟨S_, .f32⟩
  | 55 => ⟨S32x6x256x1, .f32⟩
  | 56 => ⟨S32x6x256x1, .f32⟩
  | 57 => ⟨S_, .f32⟩
  | 58 => ⟨S32x6x256x1, .f32⟩
  | 59 => ⟨S32x6x256x1, .f32⟩
  | 60 => ⟨S32x6x256x1, .f32⟩
  | 61 => ⟨S32x6x256x128, .f32⟩
  | 62 => ⟨S32x6x256x128, .f32⟩
  | 63 => ⟨S1x1x1x128, .f32⟩
  | 64 => ⟨S32x6x256x128, .f32⟩
  | 65 => ⟨S32x6x256x128, .f32⟩
  | 66 => ⟨S32x256x6x128, .f32⟩
  | 67 => ⟨S32x6x256x128, .f32⟩
  | 68 => ⟨S32x6x256x128, .f32⟩
  | 69 => ⟨S_, .f32⟩
  | 70 => ⟨S32x6x256, .f32⟩
  | 71 => ⟨S32x6x256x1, .f32⟩
  | 72 => ⟨S_, .f32⟩
  | 73 => ⟨S32x6x256x1, .f32⟩
  | 74 => ⟨S32x6x256x1, .f32⟩
  | 75 => ⟨S_, .f32⟩
  | 76 => ⟨S32x6x256x1, .f32⟩
  | 77 => ⟨S32x6x256x1, .f32⟩
  | 78 => ⟨S32x6x256x1, .f32⟩
  | 79 => ⟨S32x6x256x128, .f32⟩
  | 80 => ⟨S32x6x256x128, .f32⟩
  | 81 => ⟨S1x1x1x128, .f32⟩
  | 82 => ⟨S32x6x256x128, .f32⟩
  | 83 => ⟨S32x6x256x128, .f32⟩
  | 84 => ⟨S32x256x6x128, .f32⟩
  | 85 => ⟨S32x6x256x128, .f32⟩
  | 86 => ⟨S32x256x6x128, .f32⟩
  | 87 => ⟨S32x6x256x128, .f32⟩
  | 88 => ⟨S32x6x256x128, .f32⟩
  | 89 => ⟨S_, .f32⟩
  | 90 => ⟨S32x6x256, .f32⟩
  | 91 => ⟨S32x6x256x1, .f32⟩
  | 92 => ⟨S_, .f32⟩
  | 93 => ⟨S32x6x256x1, .f32⟩
  | 94 => ⟨S32x6x256x1, .f32⟩
  | 95 => ⟨S_, .f32⟩
  | 96 => ⟨S32x6x256x1, .f32⟩
  | 97 => ⟨S32x6x256x1, .f32⟩
  | 98 => ⟨S32x6x256x1, .f32⟩
  | 99 => ⟨S32x6x256x128, .f32⟩
  | 100 => ⟨S32x6x256x128, .f32⟩
  | 101 => ⟨S1x1x1x128, .f32⟩
  | 102 => ⟨S32x6x256x128, .f32⟩
  | 103 => ⟨S32x6x256x128, .f32⟩
  | 104 => ⟨S32x256x2x128, .f32⟩
  | 105 => ⟨S32x2x256x128, .f32⟩
  | 106 => ⟨S32x2x256x128, .f32⟩
  | 107 => ⟨S_, .f32⟩
  | 108 => ⟨S32x2x256, .f32⟩
  | 109 => ⟨S32x2x256x1, .f32⟩
  | 110 => ⟨S_, .f32⟩
  | 111 => ⟨S32x2x256x1, .f32⟩
  | 112 => ⟨S32x2x256x1, .f32⟩
  | 113 => ⟨S_, .f32⟩
  | 114 => ⟨S32x2x256x1, .f32⟩
  | 115 => ⟨S32x2x256x1, .f32⟩
  | 116 => ⟨S32x2x256x1, .f32⟩
  | 117 => ⟨S32x2x256x128, .f32⟩
  | 118 => ⟨S32x2x256x128, .f32⟩
  | 119 => ⟨S1x1x1x128, .f32⟩
  | 120 => ⟨S32x2x256x128, .f32⟩
  | 121 => ⟨S32x2x256x128, .f32⟩
  | 122 => ⟨S32x256x2x128, .f32⟩
  | 123 => ⟨S32x2x256x128, .f32⟩
  | 124 => ⟨S8192x1536, .f32⟩
  | 125 => ⟨S32x256x6x128, .f32⟩
  | 126 => ⟨S8192x768, .f32⟩
  | 127 => ⟨S_, .f32⟩
  | _ => ⟨S32x256x2048, .f32⟩

abbrev hbmTy0_1 (i : Nat) : BufTy := match i % 128 with
  | 0 => ⟨S8192x768, .f32⟩
  | 1 => ⟨S8192x768, .f32⟩
  | 2 => ⟨S8192x768, .bf16⟩
  | 3 => ⟨S32x256x6x128, .f32⟩
  | 4 => ⟨S8192x768, .f32⟩
  | 5 => ⟨S_, .f32⟩
  | 6 => ⟨S8192x768, .f32⟩
  | 7 => ⟨S8192x768, .f32⟩
  | 8 => ⟨S8192x768, .bf16⟩
  | _ => ⟨S32x256x2048, .f32⟩

abbrev hbmTy (i : Nat) : BufTy := match i / 128 with
  | 0 => hbmTy0_0 i
  | 1 => hbmTy0_1 i
  | _ => ⟨S32x256x2048, .f32⟩

abbrev bufTy : (tb : Table) → Fin (tcTables nBuf tb) → BufTy
  | .hbm, ⟨i, _⟩ => hbmTy i
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_cst_13 : Ref sig .tc := ⟨.hbm, 110, rfl⟩
abbrev main_v88 : Ref sig .tc := ⟨.hbm, 111, rfl⟩
abbrev main_v89 : Ref sig .tc := ⟨.hbm, 112, rfl⟩
abbrev main_cst_14 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_15 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_16 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩

abbrev nD : Nat := 1
abbrev τ : Topo := Topo.v7x

variable {F : FTy → Type} [FloatOps F]
-- ==== Kernel4.lean ====
abbrev S2x4096x2048 : Shape := ⟨3, ![2, 4096, 2048]⟩
abbrev S8x12288 : Shape := ⟨2, ![8, 12288]⟩
abbrev S2048 : Shape := ⟨1, ![2048]⟩
abbrev S2048x5120 : Shape := ⟨2, ![2048, 5120]⟩
abbrev S128 : Shape := ⟨1, ![128]⟩
abbrev S1x128 : Shape := ⟨2, ![1, 128]⟩
abbrev S4x128 : Shape := ⟨2, ![4, 128]⟩
abbrev S8192x2048 : Shape := ⟨2, ![8192, 2048]⟩
abbrev S8x1x12288 : Shape := ⟨3, ![8, 1, 12288]⟩
abbrev S1x2048 : Shape := ⟨2, ![1, 2048]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S8192x1536 : Shape := ⟨2, ![8192, 1536]⟩
abbrev S8192x768 : Shape := ⟨2, ![8192, 768]⟩
abbrev S8192x256 : Shape := ⟨2, ![8192, 256]⟩
abbrev S512x2048 : Shape := ⟨2, ![512, 2048]⟩
abbrev S1x1x12288 : Shape := ⟨3, ![1, 1, 12288]⟩
abbrev S512x128 : Shape := ⟨2, ![512, 128]⟩
abbrev S512x1536 : Shape := ⟨2, ![512, 1536]⟩
abbrev S512x768 : Shape := ⟨2, ![512, 768]⟩
abbrev S512x256 : Shape := ⟨2, ![512, 256]⟩
abbrev S1x12288 : Shape := ⟨2, ![1, 12288]⟩
abbrev S512 : Shape := ⟨1, ![512]⟩
abbrev S512x1 : Shape := ⟨2, ![512, 1]⟩
abbrev S2048x1536 : Shape := ⟨2, ![2048, 1536]⟩
abbrev S2048x768 : Shape := ⟨2, ![2048, 768]⟩
abbrev S2048x256 : Shape := ⟨2, ![2048, 256]⟩

abbrev nBuf : Space → Nat
  | .hbm => 97
  | .vmem => 25
  | .smem => 0
  | _ => 0

abbrev bufTy : (tb : Table) → Fin (tcTables nBuf tb) → BufTy
  | .hbm, ⟨0, _⟩ => ⟨S2x4096x2048, .f32⟩
  | .hbm, ⟨1, _⟩ => ⟨S8x12288, .f32⟩
  | .hbm, ⟨2, _⟩ => ⟨S2048, .f32⟩
  | .hbm, ⟨3, _⟩ => ⟨S2048x5120, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S4x128, .f32⟩
  | .hbm, ⟨13, _⟩ => ⟨S8192x2048, .f32⟩
  | .hbm, ⟨14, _⟩ => ⟨S8x1x12288, .f32⟩
  | .hbm, ⟨15, _⟩ => ⟨S2048x5120, .bf16⟩
  | .hbm, ⟨16, _⟩ => ⟨S1x2048, .f32⟩
  | .hbm, ⟨17, _⟩ => ⟨S4096, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S_, .i1⟩
  | .hbm, ⟨53, _⟩ => ⟨S4096, .i1⟩
  | .hbm, ⟨54, _⟩ => ⟨S4096, .i1⟩
  | .hbm, ⟨55, _⟩ => ⟨S4096, .i1⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S4096x1, .f32⟩
  | .hbm, ⟨69, _⟩ => ⟨S1x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x1, .f32⟩
  | .hbm, ⟨74, _⟩ => ⟨S1x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S4096x32, .f32⟩
  | .hbm, ⟨82, _⟩ => ⟨S4096x128, .f32⟩
  | .hbm, ⟨83, _⟩ => ⟨S4096x32, .f32⟩
  | .hbm, ⟨84, _⟩ => ⟨S4096x32, .f32⟩
  | .hbm, ⟨85, _⟩ => ⟨S4096x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x128, .f32⟩
  | .hbm, ⟨90, _⟩ => ⟨S8192x1536, .f32⟩
  | .hbm, ⟨91, _⟩ => ⟨S8192x768, .bf16⟩
  | .hbm, ⟨92, _⟩ => ⟨S8192x768, .bf16⟩
  | .hbm, ⟨93, _⟩ => ⟨S8192x768, .bf16⟩
  | .hbm, ⟨94, _⟩ => ⟨S8192x768, .bf16⟩
  | .hbm, ⟨95, _⟩ => ⟨S8192x256, .bf16⟩
  | .hbm, ⟨96, _⟩ => ⟨S8192x256, .bf16⟩
  | .local _ .vmem, ⟨0, _⟩ => ⟨S512x2048, .f32⟩
  | .local _ .vmem, ⟨1, _⟩ => ⟨S512x2048, .f32⟩
  | .local _ .vmem, ⟨2, _⟩ => ⟨S1x1x12288, .f32⟩
  | .local _ .vmem, ⟨3, _⟩ => ⟨S1x1x12288, .f32⟩
  | .local _ .vmem, ⟨4, _⟩ => ⟨S1x2048, .f32⟩
  | .local _ .vmem, ⟨5, _⟩ => ⟨S2048x5120, .bf16⟩
  | .local _ .vmem, ⟨6, _⟩ => ⟨S4x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1536, .f32⟩
  | .local _ .vmem, ⟨12, _⟩ => ⟨S512x1536, .f32⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst : Ref sig .tc := ⟨.hbm, 62, rfl⟩
abbrev main_v16 : Ref sig .tc := ⟨.hbm, 63, rfl⟩
abbrev main_v17 : Ref sig .tc := ⟨.hbm, 64, rfl⟩
abbrev main_cst_1 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42_0 : Ref sig .tc := ⟨.hbm, 90, rfl⟩
abbrev main_v42_1 : Ref sig .tc := ⟨.hbm, 91, rfl⟩
abbrev main_v42_2 : Ref sig .tc := ⟨.hbm, 92, rfl⟩
abbrev main_v42_3 : Ref sig .tc := ⟨.hbm, 93, rfl⟩
abbrev main_v42_4 : Ref sig .tc := ⟨.hbm, 94, rfl⟩
abbrev main_v42_5 : Ref sig .tc := ⟨.hbm, 95, rfl⟩
abbrev main_v42_6 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S2x4096x2048 : Shape := ⟨3, ![2, 4096, 2048]⟩
abbrev S8x12288 : Shape := ⟨2, ![8, 12288]⟩
abbrev S2048 : Shape := ⟨1, ![2048]⟩
abbrev S2048x5120 : Shape := ⟨2, ![2048, 5120]⟩
abbrev S128 : Shape := ⟨1, ![128]⟩
abbrev S2x12288 : Shape := ⟨2, ![2, 12288]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x5120 : Shape := ⟨3, ![2, 4096, 5120]⟩
abbrev S2x4096x1536 : Shape := ⟨3, ![2, 4096, 1536]⟩
abbrev S2x4096x768 : Shape := ⟨3, ![2, 4096, 768]⟩
abbrev S2x4096x256 : Shape := ⟨3, ![2, 4096, 256]⟩
abbrev S2x4096x6x128 : Shape := ⟨4, ![2, 4096, 6, 128]⟩
abbrev S2x6x4096x128 : Shape := ⟨4, ![2, 6, 4096, 128]⟩
abbrev S2x6x4096 : Shape := ⟨3, ![2, 6, 4096]⟩
abbrev S2x6x4096x1 : Shape := ⟨4, ![2, 6, 4096, 1]⟩
abbrev S1x1x1x128 : Shape := ⟨4, ![1, 1, 1, 128]⟩
abbrev S4096 : Shape := ⟨1, ![4096]⟩
abbrev S32 : Shape := ⟨1, ![32]⟩
abbrev S2x6x4096x64 : Shape := ⟨4, ![2, 6, 4096, 64]⟩
abbrev S4096x1 : Shape := ⟨2, ![4096, 1]⟩
abbrev S1x32 : Shape := ⟨2, ![1, 32]⟩
abbrev S4096x32 : Shape := ⟨2, ![4096, 32]⟩
abbrev S2x6x4096x32 : Shape := ⟨4, ![2, 6, 4096, 32]⟩
abbrev S1x1x4096x32 : Shape := ⟨4, ![1, 1, 4096, 32]⟩
abbrev S2x4096x2x128 : Shape := ⟨4, ![2, 4096, 2, 128]⟩
abbrev S2x2x4096x128 : Shape := ⟨4, ![2, 2, 4096, 128]⟩
abbrev S2x2x4096 : Shape := ⟨3, ![2, 2, 4096]⟩
abbrev S2x2x4096x1 : Shape := ⟨4, ![2, 2, 4096, 1]⟩
abbrev S2x2x4096x64 : Shape := ⟨4, ![2, 2, 4096, 64]⟩
abbrev S2x2x4096x32 : Shape := ⟨4, ![2, 2, 4096, 32]⟩
abbrev S8192x1536 : Shape := ⟨2, ![8192, 1536]⟩
abbrev S8192x768 : Shape := ⟨2, ![8192, 768]⟩
abbrev S8192x256 : Shape := ⟨2, ![8192, 256]⟩

abbrev nBuf : Space → Nat
  | .hbm => 353
  | .vmem => 0
  | .smem => 0
  | _ => 0

abbrev hbmTy0_0 (i : Nat) : BufTy := match i % 128 with
  | 0 => ⟨S2x4096x2048, .f32⟩
  | 1 => ⟨S8x12288, .f32⟩
  | 2 => ⟨S2048, .f32⟩
  | 3 => ⟨S2048x5120, .f32⟩
  | 4 => ⟨S128, .f32⟩
  | 5 => ⟨S128, .f32⟩
  | 6 => ⟨S128, .f32⟩
  | 7 => ⟨S128, .f32⟩
  | 8 => ⟨S2x12288, .f32⟩
  | 9 => ⟨S2x2048, .f32⟩
  | 10 => ⟨S2x2048, .f32⟩
  | 11 => ⟨S2x2048, .f32⟩
  | 12 => ⟨S2x2048, .f32⟩
  | 13 => ⟨S2x2048, .f32⟩
  | 14 => ⟨S2x2048, .f32⟩
  | 15 => ⟨S2x4096x2048, .f32⟩
  | 16 => ⟨S_, .f32⟩
  | 17 => ⟨S2x4096, .f32⟩
  | 18 => ⟨S2x4096x1, .f32⟩
  | 19 => ⟨S_, .f32⟩
  | 20 => ⟨S2x4096x1, .f32⟩
  | 21 => ⟨S2x4096x1, .f32⟩
  | 22 => ⟨S_, .f32⟩
  | 23 => ⟨S2x4096x1, .f32⟩
  | 24 => ⟨S2x4096x1, .f32⟩
  | 25 => ⟨S2x4096x1, .f32⟩
  | 26 => ⟨S2x4096x2048, .f32⟩
  | 27 => ⟨S2x4096x2048, .f32⟩
  | 28 => ⟨S1x1x2048, .f32⟩
  | 29 => ⟨S2x4096x2048, .f32⟩
  | 30 => ⟨S2x4096x2048, .f32⟩
  | 31 => ⟨S2x1x2048, .f32⟩
  | 32 => ⟨S_, .f32⟩
  | 33 => ⟨S2x1x2048, .f32⟩
  | 34 => ⟨S2x1x2048, .f32⟩
  | 35 => ⟨S2x4096x2048, .f32⟩
  | 36 => ⟨S2x4096x2048, .f32⟩
  | 37 => ⟨S2x1x2048, .f32⟩
  | 38 => ⟨S2x4096x2048, .f32⟩
  | 39 => ⟨S2x4096x2048, .f32⟩
  | 40 => ⟨S2x4096x5120, .f32⟩
  | 41 => ⟨S2x4096x1536, .f32⟩
  | 42 => ⟨S2x4096x768, .f32⟩
  | 43 => ⟨S2x4096x768, .f32⟩
  | 44 => ⟨S2x4096x768, .f32⟩
  | 45 => ⟨S2x4096x768, .f32⟩
  | 46 => ⟨S2x4096x256, .f32⟩
  | 47 => ⟨S2x4096x256, .f32⟩
  | 48 => ⟨S2x4096x6x128, .f32⟩
  | 49 => ⟨S2x6x4096x128, .f32⟩
  | 50 => ⟨S2x6x4096x128, .f32⟩
  | 51 => ⟨S_, .f32⟩
  | 52 => ⟨S2x6x4096, .f32⟩
  | 53 => ⟨S2x6x4096x1, .f32⟩
  | 54 => ⟨S_, .f32⟩
  | 55 => ⟨S2x6x4096x1, .f32⟩
  | 56 => ⟨S2x6x4096x1, .f32⟩
  | 57 => ⟨S_, .f32⟩
  | 58 => ⟨S2x6x4096x1, .f32⟩
  | 59 => ⟨S2x6x4096x1, .f32⟩
  | 60 => ⟨S2x6x4096x1, .f32⟩
  | 61 => ⟨S2x6x4096x128, .f32⟩
  | 62 => ⟨S2x6x4096x128, .f32⟩
  | 63 => ⟨S1x1x1x128, .f32⟩
  | 64 => ⟨S2x6x4096x128, .f32⟩
  | 65 => ⟨S2x6x4096x128, .f32⟩
  | 66 => ⟨S2x4096x6x128, .f32⟩
  | 67 => ⟨S2x6x4096x128, .f32⟩
  | 68 => ⟨S2x6x4096x128, .f32⟩
  | 69 => ⟨S_, .f32⟩
  | 70 => ⟨S2x6x4096, .f32⟩
  | 71 => ⟨S2x6x4096x1, .f32⟩
  | 72 => ⟨S_, .f32⟩
  | 73 => ⟨S2x6x4096x1, .f32⟩
  | 74 => ⟨S2x6x4096x1, .f32⟩
  | 75 => ⟨S_, .f32⟩
  | 76 => ⟨S2x6x4096x1, .f32⟩
  | 77 => ⟨S2x6x4096x1, .f32⟩
  | 78 => ⟨S2x6x4096x1, .f32⟩
  | 79 => ⟨S2x6x4096x128, .f32⟩
  | 80 => ⟨S2x6x4096x128, .f32⟩
  | 81 => ⟨S1x1x1x128, .f32⟩
  | 82 => ⟨S2x6x4096x128, .f32⟩
  | 83 => ⟨S2x6x4096x128, .f32⟩
  | 84 => ⟨S2x4096x6x128, .f32⟩
  | 85 => ⟨S2x6x4096x128, .f32⟩
  | 86 => ⟨S2x4096x6x128, .f32⟩
  | 87 => ⟨S2x6x4096x128, .f32⟩
  | 88 => ⟨S2x6x4096x128, .f32⟩
  | 89 => ⟨S_, .f32⟩
  | 90 => ⟨S2x6x4096, .f32⟩
  | 91 => ⟨S2x6x4096x1, .f32⟩
  | 92 => ⟨S_, .f32⟩
  | 93 => ⟨S2x6x4096x1, .f32⟩
  | 94 => ⟨S2x6x4096x1, .f32⟩
  | 95 => ⟨S_, .f32⟩
  | 96 => ⟨S2x6x4096x1, .f32⟩
  | 97 => ⟨S2x6x4096x1, .f32⟩
  | 98 => ⟨S2x6x4096x1, .f32⟩
  | 99 => ⟨S2x6x4096x128, .f32⟩
  | 100 => ⟨S2x6x4096x128, .f32⟩
  | 101 => ⟨S1x1x1x128, .f32⟩
  | 102 => ⟨S2x6x4096x128, .f32⟩
  | 103 => ⟨S2x6x4096x128, .f32⟩
  | 104 => ⟨S4096, .i32⟩
  | 105 => ⟨S_, .i32⟩
  | 106 => ⟨S_, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i1⟩
  | 113 => ⟨S4096, .i32⟩
  | 114 => ⟨S4096, .i32⟩
  | 115 => ⟨S_, .i32⟩
  | 116 => ⟨S4096, .i32⟩
  | 117 => ⟨S4096, .i1⟩
  | 118 => ⟨S4096, .i1⟩
  | 119 => ⟨S_, .i32⟩
  | 120 => ⟨S4096, .i32⟩
  | 121 => ⟨S4096, .i32⟩
  | 122 => ⟨S4096, .i32⟩
  | 123 => ⟨S4096, .f32⟩
  | 124 => ⟨S_, .i32⟩
  | 125 => ⟨S_, .i32⟩
  | 126 => ⟨S_, .i32⟩
  | 127 => ⟨S_, .i1⟩
  | _ => ⟨S2x4096x2048, .f32⟩

abbrev hbmTy0_1 (i : Nat) : BufTy := match i % 128 with
  | 0 => ⟨S_, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i1⟩
  | 7 => ⟨S_, .i32⟩
  | 8 => ⟨S4096, .i32⟩
  | 9 => ⟨S4096, .i1⟩
  | 10 => ⟨S_, .i32⟩
  | 11 => ⟨S_, .i1⟩
  | 12 => ⟨S4096, .i1⟩
  | 13 => ⟨S4096, .i1⟩
  | 14 => ⟨S4096, .i1⟩
  | 15 => ⟨S4096, .i32⟩
  | 16 => ⟨S4096, .i32⟩
  | 17 => ⟨S4096, .i32⟩
  | 18 => ⟨S4096, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2x6x4096x64, .f32⟩
  | 28 => ⟨S4096x1, .f32⟩
  | 29 => ⟨S1x32, .f32⟩
  | 30 => ⟨S4096x32, .f32⟩
  | 31 => ⟨S4096x32, .f32⟩
  | 32 => ⟨S4096x32, .f32⟩
  | 33 => ⟨S4096x32, .f32⟩
  | 34 => ⟨S4096x32, .f32⟩
  | 35 => ⟨S2x6x4096x32, .f32⟩
  | 36 => ⟨S2x6x4096x32, .f32⟩
  | 37 => ⟨S1x1x4096x32, .f32⟩
  | 38 => ⟨S2x6x4096x32, .f32⟩
  | 39 => ⟨S2x6x4096x32, .f32⟩
  | 40 => ⟨S1x1x4096x32, .f32⟩
  | 41 => ⟨S2x6x4096x32, .f32⟩
  | 42 => ⟨S2x6x4096x32, .f32⟩
  | 43 => ⟨S2x6x4096x32, .f32⟩
  | 44 => ⟨S1x1x4096x32, .f32⟩
  | 45 => ⟨S2x6x4096x32, .f32⟩
  | 46 => ⟨S2x6x4096x32, .f32⟩
  | 47 => ⟨S1x1x4096x32, .f32⟩
  | 48 => ⟨S2x6x4096x32, .f32⟩
  | 49 => ⟨S2x6x4096x32, .f32⟩
  | 50 => ⟨S2x6x4096x32, .f32⟩
  | 51 => ⟨S2x6x4096x64, .f32⟩
  | 52 => ⟨S2x6x4096x64, .f32⟩
  | 53 => ⟨S4096x1, .f32⟩
  | 54 => ⟨S1x32, .f32⟩
  | 55 => ⟨S4096x32, .f32⟩
  | 56 => ⟨S4096x32, .f32⟩
  | 57 => ⟨S4096x32, .f32⟩
  | 58 => ⟨S4096x32, .f32⟩
  | 59 => ⟨S4096x32, .f32⟩
  | 60 => ⟨S2x6x4096x32, .f32⟩
  | 61 => ⟨S2x6x4096x32, .f32⟩
  | 62 => ⟨S1x1x4096x32, .f32⟩
  | 63 => ⟨S2x6x4096x32, .f32⟩
  | 64 => ⟨S2x6x4096x32, .f32⟩
  | 65 => ⟨S1x1x4096x32, .f32⟩
  | 66 => ⟨S2x6x4096x32, .f32⟩
  | 67 => ⟨S2x6x4096x32, .f32⟩
  | 68 => ⟨S2x6x4096x32, .f32⟩
  | 69 => ⟨S1x1x4096x32, .f32⟩
  | 70 => ⟨S2x6x4096x32, .f32⟩
  | 71 => ⟨S2x6x4096x32, .f32⟩
  | 72 => ⟨S1x1x4096x32, .f32⟩
  | 73 => ⟨S2x6x4096x32, .f32⟩
  | 74 => ⟨S2x6x4096x32, .f32⟩
  | 75 => ⟨S2x6x4096x32, .f32⟩
  | 76 => ⟨S2x6x4096x64, .f32⟩
  | 77 => ⟨S2x6x4096x128, .f32⟩
  | 78 => ⟨S2x4096x2x128, .f32⟩
  | 79 => ⟨S2x2x4096x128, .f32⟩
  | 80 => ⟨S2x2x4096x128, .f32⟩
  | 81 => ⟨S_, .f32⟩
  | 82 => ⟨S2x2x4096, .f32⟩
  | 83 => ⟨S2x2x4096x1, .f32⟩
  | 84 => ⟨S_, .f32⟩
  | 85 => ⟨S2x2x4096x1, .f32⟩
  | 86 => ⟨S2x2x4096x1, .f32⟩
  | 87 => ⟨S_, .f32⟩
  | 88 => ⟨S2x2x4096x1, .f32⟩
  | 89 => ⟨S2x2x4096x1, .f32⟩
  | 90 => ⟨S2x2x4096x1, .f32⟩
  | 91 => ⟨S2x2x4096x128, .f32⟩
  | 92 => ⟨S2x2x4096x128, .f32⟩
  | 93 => ⟨S1x1x1x128, .f32⟩
  | 94 => ⟨S2x2x4096x128, .f32⟩
  | 95 => ⟨S2x2x4096x128, .f32⟩
  | 96 => ⟨S4096, .i32⟩
  | 97 => ⟨S_, .i32⟩
  | 98 => ⟨S_, .i32⟩
  | 99 => ⟨S4096, .i32⟩
  | 100 => ⟨S4096, .i32⟩
  | 101 => ⟨S4096, .i32⟩
  | 102 => ⟨S_, .i32⟩
  | 103 => ⟨S4096, .i32⟩
  | 104 => ⟨S4096, .i1⟩
  | 105 => ⟨S4096, .i32⟩
  | 106 => ⟨S4096, .i32⟩
  | 107 => ⟨S_, .i32⟩
  | 108 => ⟨S4096, .i32⟩
  | 109 => ⟨S4096, .i1⟩
  | 110 => ⟨S4096, .i1⟩
  | 111 => ⟨S_, .i32⟩
  | 112 => ⟨S4096, .i32⟩
  | 113 => ⟨S4096, .i32⟩
  | 114 => ⟨S4096, .i32⟩
  | 115 => ⟨S4096, .f32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i1⟩
  | 127 => ⟨S_, .i32⟩
  | _ => ⟨S2x4096x2048, .f32⟩

abbrev hbmTy0_2 (i : Nat) : BufTy := match i % 128 with
  | 0 => ⟨S4096, .i32⟩
  | 1 => ⟨S4096, .i1⟩
  | 2 => ⟨S_, .i32⟩
  | 3 => ⟨S_, .i1⟩
  | 4 => ⟨S4096, .i1⟩
  | 5 => ⟨S4096, .i1⟩
  | 6 => ⟨S4096, .i1⟩
  | 7 => ⟨S4096, .i32⟩
  | 8 => ⟨S4096, .i32⟩
  | 9 => ⟨S4096, .i32⟩
  | 10 => ⟨S4096, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2x2x4096x64, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x32, .f32⟩
  | 26 => ⟨S4096x32, .f32⟩
  | 27 => ⟨S2x2x4096x32, .f32⟩
  | 28 => ⟨S2x2x4096x32, .f32⟩
  | 29 => ⟨S1x1x4096x32, .f32⟩
  | 30 => ⟨S2x2x4096x32, .f32⟩
  | 31 => ⟨S2x2x4096x32, .f32⟩
  | 32 => ⟨S1x1x4096x32, .f32⟩
  | 33 => ⟨S2x2x4096x32, .f32⟩
  | 34 => ⟨S2x2x4096x32, .f32⟩
  | 35 => ⟨S2x2x4096x32, .f32⟩
  | 36 => ⟨S1x1x4096x32, .f32⟩
  | 37 => ⟨S2x2x4096x32, .f32⟩
  | 38 => ⟨S2x2x4096x32, .f32⟩
  | 39 => ⟨S1x1x4096x32, .f32⟩
  | 40 => ⟨S2x2x4096x32, .f32⟩
  | 41 => ⟨S2x2x4096x32, .f32⟩
  | 42 => ⟨S2x2x4096x32, .f32⟩
  | 43 => ⟨S2x2x4096x64, .f32⟩
  | 44 => ⟨S2x2x4096x64, .f32⟩
  | 45 => ⟨S4096x1, .f32⟩
  | 46 => ⟨S1x32, .f32⟩
  | 47 => ⟨S4096x32, .f32⟩
  | 48 => ⟨S4096x32, .f32⟩
  | 49 => ⟨S4096x32, .f32⟩
  | 50 => ⟨S4096x32, .f32⟩
  | 51 => ⟨S4096x32, .f32⟩
  | 52 => ⟨S2x2x4096x32, .f32⟩
  | 53 => ⟨S2x2x4096x32, .f32⟩
  | 54 => ⟨S1x1x4096x32, .f32⟩
  | 55 => ⟨S2x2x4096x32, .f32⟩
  | 56 => ⟨S2x2x4096x32, .f32⟩
  | 57 => ⟨S1x1x4096x32, .f32⟩
  | 58 => ⟨S2x2x4096x32, .f32⟩
  | 59 => ⟨S2x2x4096x32, .f32⟩
  | 60 => ⟨S2x2x4096x32, .f32⟩
  | 61 => ⟨S1x1x4096x32, .f32⟩
  | 62 => ⟨S2x2x4096x32, .f32⟩
  | 63 => ⟨S2x2x4096x32, .f32⟩
  | 64 => ⟨S1x1x4096x32, .f32⟩
  | 65 => ⟨S2x2x4096x32, .f32⟩
  | 66 => ⟨S2x2x4096x32, .f32⟩
  | 67 => ⟨S2x2x4096x32, .f32⟩
  | 68 => ⟨S2x2x4096x64, .f32⟩
  | 69 => ⟨S2x2x4096x128, .f32⟩
  | 70 => ⟨S2x4096x2x128, .f32⟩
  | 71 => ⟨S2x2x4096x128, .f32⟩
  | 72 => ⟨S8192x1536, .f32⟩
  | 73 => ⟨S2x4096x6x128, .f32⟩
  | 74 => ⟨S8192x768, .f32⟩
  | 75 => ⟨S_, .f32⟩
  | 76 => ⟨S8192x768, .f32⟩
  | 77 => ⟨S8192x768, .f32⟩
  | 78 => ⟨S8192x768, .bf16⟩
  | 79 => ⟨S2x4096x6x128, .f32⟩
  | 80 => ⟨S8192x768, .f32⟩
  | 81 => ⟨S8192x768, .bf16⟩
  | 82 => ⟨S2x4096x6x128, .f32⟩
  | 83 => ⟨S8192x768, .f32⟩
  | 84 => ⟨S8192x768, .bf16⟩
  | 85 => ⟨S2x4096x6x128, .f32⟩
  | 86 => ⟨S8192x768, .f32⟩
  | 87 => ⟨S_, .f32⟩
  | 88 => ⟨S8192x768, .f32⟩
  | 89 => ⟨S8192x768, .f32⟩
  | 90 => ⟨S8192x768, .bf16⟩
  | 91 => ⟨S2x4096x2x128, .f32⟩
  | 92 => ⟨S8192x256, .f32⟩
  | 93 => ⟨S8192x256, .bf16⟩
  | 94 => ⟨S2x4096x2x128, .f32⟩
  | 95 => ⟨S8192x256, .f32⟩
  | 96 => ⟨S8192x256, .bf16⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_v5 : Ref sig .tc := ⟨.hbm, 111, rfl⟩
abbrev main_call0_v6 : Ref sig .tc := ⟨.hbm, 112, rfl⟩
abbrev main_call0_v7 : Ref sig .tc := ⟨.hbm, 113, rfl⟩
abbrev main_call0_v8 : Ref sig .tc := ⟨.hbm, 114, rfl⟩
abbrev main_call0_c : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_call0_c_0 : Ref sig .tc := ⟨.hbm, 119, rfl⟩
abbrev main_call0_v12 : Ref sig .tc := ⟨.hbm, 120, rfl⟩
abbrev main_call0_v13 : Ref sig .tc := ⟨.hbm, 121, rfl⟩
abbrev main_v84 : Ref sig .tc := ⟨.hbm, 122, rfl⟩
abbrev main_v85 : Ref sig .tc := ⟨.hbm, 123, rfl⟩
abbrev main_c_12 : Ref sig .tc := ⟨.hbm, 124, rfl⟩
abbrev main_call1_v0 : Ref sig .tc := ⟨.hbm, 125, rfl⟩
abbrev main_call1_c : Ref sig .tc := ⟨.hbm, 126, rfl⟩
abbrev main_call1_v1 : Ref sig .tc := ⟨.hbm, 127, rfl⟩
abbrev main_call1_c_0 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_c_1 : Ref sig .tc := ⟨.hbm, 132, rfl⟩
abbrev main_call1_v5 : Ref sig .tc := ⟨.hbm, 133, rfl⟩
abbrev main_call1_v6 : Ref sig .tc := ⟨.hbm, 134, rfl⟩
abbrev main_call1_c_2 : Ref sig .tc := ⟨.hbm, 135, rfl⟩
abbrev main_call1_v7 : Ref sig .tc := ⟨.hbm, 136, rfl⟩
abbrev main_call1_v8 : Ref sig .tc := ⟨.hbm, 137, rfl⟩
abbrev main_call1_c_3 : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_v12 : Ref sig .tc := ⟨.hbm, 142, rfl⟩
abbrev main_call1_v13 : Ref sig .tc := ⟨.hbm, 143, rfl⟩
abbrev main_call1_v14 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_13 : Ref sig .tc := ⟨.hbm, 149, rfl⟩
abbrev main_v90 : Ref sig .tc := ⟨.hbm, 150, rfl⟩
abbrev main_v91 : Ref sig .tc := ⟨.hbm, 151, rfl⟩
abbrev main_cst_14 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_15 : Ref sig .tc := ⟨.hbm, 209, rfl⟩
abbrev main_v148 : Ref sig .tc := ⟨.hbm, 210, rfl⟩
abbrev main_v149 : Ref sig .tc := ⟨.hbm, 211, rfl⟩
abbrev main_cst_16 : Ref sig .tc := ⟨.hbm, 212, rfl⟩
abbrev main_v150 : Ref sig .tc := ⟨.hbm, 213, rfl⟩
abbrev main_v151 : Ref sig .tc := ⟨.hbm, 214, rfl⟩
abbrev main_cst_17 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_c_18 : Ref sig .tc := ⟨.hbm, 225, rfl⟩
abbrev main_call2_v0 : Ref sig .tc := ⟨.hbm, 226, rfl⟩
abbrev main_call2_v1 : Ref sig .tc := ⟨.hbm, 227, rfl⟩
abbrev main_call2_v2 : Ref sig .tc := ⟨.hbm, 228, rfl⟩
abbrev main_call2_v3 : Ref sig .tc := ⟨.hbm, 229, rfl⟩
abbrev main_call2_v4 : Ref sig .tc := ⟨.hbm, 230, rfl⟩
abbrev main_call2_v5 : Ref sig .tc := ⟨.hbm, 231, rfl⟩
abbrev main_call2_v6 : Ref sig .tc := ⟨.hbm, 232, rfl⟩
abbrev main_call2_v7 : Ref sig .tc := ⟨.hbm, 233, rfl⟩
abbrev main_call2_v8 : Ref sig .tc := ⟨.hbm, 234, rfl⟩
abbrev main_call2_c : Ref sig .tc := ⟨.hbm, 235, rfl⟩
abbrev main_call2_v9 : Ref sig .tc := ⟨.hbm, 236, rfl⟩
abbrev main_call2_v10 : Ref sig .tc := ⟨.hbm, 237, rfl⟩
abbrev main_call2_v11 : Ref sig .tc := ⟨.hbm, 238, rfl⟩
abbrev main_call2_c_0 : Ref sig .tc := ⟨.hbm, 239, rfl⟩
abbrev main_call2_v12 : Ref sig .tc := ⟨.hbm, 240, rfl⟩
abbrev main_call2_v13 : Ref sig .tc := ⟨.hbm, 241, rfl⟩
abbrev main_v161 : Ref sig .tc := ⟨.hbm, 242, rfl⟩
abbrev main_v162 : Ref sig .tc := ⟨.hbm, 243, rfl⟩
abbrev main_c_19 : Ref sig .tc := ⟨.hbm, 244, rfl⟩
abbrev main_call3_v0 : Ref sig .tc := ⟨.hbm, 245, rfl⟩
abbrev main_call3_c : Ref sig .tc := ⟨.hbm, 246, rfl⟩
abbrev main_call3_v1 : Ref sig .tc := ⟨.hbm, 247, rfl⟩
abbrev main_call3_c_0 : Ref sig .tc := ⟨.hbm, 248, rfl⟩
abbrev main_call3_v2 : Ref sig .tc := ⟨.hbm, 249, rfl⟩
abbrev main_call3_v3 : Ref sig .tc := ⟨.hbm, 250, rfl⟩
abbrev main_call3_v4 : Ref sig .tc := ⟨.hbm, 251, rfl⟩
abbrev main_call3_c_1 : Ref sig .tc := ⟨.hbm, 252, rfl⟩
abbrev main_call3_v5 : Ref sig .tc := ⟨.hbm, 253, rfl⟩
abbrev main_call3_v6 : Ref sig .tc := ⟨.hbm, 254, rfl⟩
abbrev main_call3_c_2 : Ref sig .tc := ⟨.hbm, 255, rfl⟩
abbrev main_call3_v7 : Ref sig .tc := ⟨.hbm, 256, rfl⟩
abbrev main_call3_v8 : Ref sig .tc := ⟨.hbm, 257, rfl⟩
abbrev main_call3_c_3 : Ref sig .tc := ⟨.hbm, 258, rfl⟩
abbrev main_call3_v9 : Ref sig .tc := ⟨.hbm, 259, rfl⟩
abbrev main_call3_v10 : Ref sig .tc := ⟨.hbm, 260, rfl⟩
abbrev main_call3_v11 : Ref sig .tc := ⟨.hbm, 261, rfl⟩
abbrev main_call3_v12 : Ref sig .tc := ⟨.hbm, 262, rfl⟩
abbrev main_call3_v13 : Ref sig .tc := ⟨.hbm, 263, rfl⟩
abbrev main_call3_v14 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_cst_20 : Ref sig .tc := ⟨.hbm, 269, rfl⟩
abbrev main_v167 : Ref sig .tc := ⟨.hbm, 270, rfl⟩
abbrev main_v168 : Ref sig .tc := ⟨.hbm, 271, rfl⟩
abbrev main_cst_21 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_cst_22 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_cst_23 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise
public import Idealize.ShloMosaic.Lib.Pipeline.ValueKit

@[expose] public section

/-! The block a grid point of the kernel stores, as nine steps of the online softmax over the concatenated keys and values. -/

set_option maxRecDepth 16384

noncomputable section

namespace Cert.KernelIdeal.Block

open Idealize.ShloMosaic Idealize.ShloMosaic.TcCoe Idealize.ShloMosaic.Tactic Cert.KernelIdeal.Gen

/-- The running maximum and the running sums of the online softmax. -/
abbrev St := Vec Ideal S768x128 .f32 × Vec Ideal S768x256 .f32

theorem inbK (o : ℕ) (h : o + 512 ≤ 4352) : ∀ a, (![o, 0] : Fin 2 → ℕ) a + S512x128.size a ≤ S4352x128.size a := by
  intro a; fin_cases a; exacts [h, (by decide : 0 + 128 ≤ 128)]

theorem inbV (o : ℕ) (h : o + 512 ≤ 4352) : ∀ a, (![o, 0] : Fin 2 → ℕ) a + S512x256.size a ≤ S4352x256.size a := by
  intro a; fin_cases a; exacts [h, (by decide : 0 + 256 ≤ 256)]

/-- A chunk of 512 keys. -/
def keys (K : Vec Ideal S4352x128 .bf16) (o : ℕ) (h : o + 512 ≤ 4352) : Vec Ideal S512x128 .bf16 :=
  View.ld K (Rect.unit (s := S4352x128) ![o, 0] S512x128.size (inbK o h))

/-- A chunk of 512 values, with their ones. -/
def vals (V : Vec Ideal S4352x256 .bf16) (o : ℕ) (h : o + 512 ≤ 4352) : Vec Ideal S512x256 .bf16 :=
  View.ld V (Rect.unit (s := S4352x256) ![o, 0] S512x256.size (inbV o h))

/-- The last, shorter chunks. -/
def keysLast (K : Vec Ideal S4352x128 .bf16) : Vec Ideal S256x128 .bf16 :=
  View.ld K (Rect.unit (s := S4352x128) ![4096, 0] S256x128.size inb_S4352x128_S256x128_4096_0)

def valsLast (V : Vec Ideal S4352x256 .bf16) : Vec Ideal S256x256 .bf16 :=
  View.ld V (Rect.unit (s := S4352x256) ![4096, 0] S256x256.size inb_S4352x256_S256x256_4096_0)

/-- One chunk's update. -/
def step (q : FVec Ideal S768x128 .bf16) (K : Vec Ideal S512x128 .bf16) (V : Vec Ideal S512x256 .bf16) (s : St) : St :=
  (k0_pay23 q K s.1, k0_pay22 q K s.1 s.2 V)

/-- The state after `n` chunks of 512. -/
def stage (q : FVec Ideal S768x128 .bf16) (K : Vec Ideal S4352x128 .bf16) (V : Vec Ideal S4352x256 .bf16) :
    (n : ℕ) → n ≤ 8 → St
  | 0, _ => (k0_pay7 (F := Ideal), k0_pay8 (F := Ideal))
  | n + 1, h => step q (keys K (512 * n) (by omega)) (vals V (512 * n) (by omega)) (stage q K V n (by omega))

/-- The running sums after the last chunk. -/
def sums (q : FVec Ideal S768x128 .bf16) (K : Vec Ideal S4352x128 .bf16) (V : Vec Ideal S4352x256 .bf16) :
    Vec Ideal S768x256 .f32 :=
  k0_pay49 (k0_pay47 q (keysLast K)) (stage q K V 8 le_rfl).1 (stage q K V 8 le_rfl).2 (valsLast V)

/-- The three query heads of a block, below one another and scaled. -/
def queries (x : Vec Ideal S256x384 .f32) : FVec Ideal S768x128 .bf16 :=
  k0_pay6 (View.ld x (Rect.unit (s := S256x384) ![0, 0] S256x128.size inb_S256x384_S256x128_0_0))
    (View.ld x (Rect.unit (s := S256x384) ![0, 128] S256x128.size inb_S256x384_S256x128_0_128))
    (View.ld x (Rect.unit (s := S256x384) ![0, 256] S256x128.size inb_S256x384_S256x128_0_256))

/-- The block a point stores, from its running sums. -/
def blockOf (a : Vec Ideal S768x256 .f32) : Vec Ideal S256x384 .bf16 :=
  View.canon (Val := Elt Ideal) (s := S256x384) (e := .bf16)
    [(⟨Rect.unit (s := S256x384) ![0, 256] S256x128.size inb_S256x384_S256x128_0_256, k0_pay54 a⟩ :
        View.Piece (Elt Ideal) S256x384 .bf16),
     (⟨Rect.unit (s := S256x384) ![0, 128] S256x128.size inb_S256x384_S256x128_0_128, k0_pay53 a⟩ :
        View.Piece (Elt Ideal) S256x384 .bf16),
     (⟨Rect.unit (s := S256x384) ![0, 0] S256x128.size inb_S256x384_S256x128_0_0, k0_pay52 a⟩ :
        View.Piece (Elt Ideal) S256x384 .bf16)]

/-- The keys the first point of a head group stores: the projected ones above the cached ones. -/
def keysOf (x : Vec Ideal S4096x128 .bf16) (z : Vec Ideal S1x1x1x256x128 .f32) : Vec Ideal S4352x128 .bf16 :=
  View.canon (Val := Elt Ideal) (s := S4352x128) (e := .bf16)
    [(⟨Rect.unit (s := S4352x128) ![4096, 0] S256x128.size inb_S4352x128_S256x128_4096_0,
        k0_pay2 (View.ld z (Rect.unit (s := S1x1x1x256x128) ![0, 0, 0, 0, 0] S1x1x1x256x128.size inb_S1x1x1x256x128_S1x1x1x256x128_0_0_0_0_0))⟩ :
        View.Piece (Elt Ideal) S4352x128 .bf16),
     (⟨Rect.unit (s := S4352x128) ![0, 0] S4096x128.size inb_S4352x128_S4096x128_0_0,
        k0_pay1 (View.ld x (Rect.unit (s := S4096x128) ![0, 0] S4096x128.size inb_S4096x128_S4096x128_0_0))⟩ :
        View.Piece (Elt Ideal) S4352x128 .bf16)]

/-- The values it stores: likewise, with as many columns of ones beside them. -/
def valsOf (x : Vec Ideal S4096x128 .bf16) (z : Vec Ideal S1x1x1x256x128 .f32) : Vec Ideal S4352x256 .bf16 :=
  View.canon (Val := Elt Ideal) (s := S4352x256) (e := .bf16)
    [(⟨Rect.unit (s := S4352x256) ![0, 128] S4352x128.size inb_S4352x256_S4352x128_0_128, k0_pay5 (F := Ideal)⟩ :
        View.Piece (Elt Ideal) S4352x256 .bf16),
     (⟨Rect.unit (s := S4352x256) ![4096, 0] S256x128.size inb_S4352x256_S256x128_4096_0,
        k0_pay4 (View.ld z (Rect.unit (s := S1x1x1x256x128) ![0, 0, 0, 0, 0] S1x1x1x256x128.size inb_S1x1x1x256x128_S1x1x1x256x128_0_0_0_0_0))⟩ :
        View.Piece (Elt Ideal) S4352x256 .bf16),
     (⟨Rect.unit (s := S4352x256) ![0, 0] S4096x128.size inb_S4352x256_S4096x128_0_0,
        k0_pay3 (View.ld x (Rect.unit (s := S4096x128) ![0, 0] S4096x128.size inb_S4096x128_S4096x128_0_0))⟩ :
        View.Piece (Elt Ideal) S4352x256 .bf16)]

variable (c : Dev nD) (i : grid0.Coords) (arg3 : Memref sig .tc .vmem S256x384 .f32) (harg3 : arg3.IsWhole)
  (arg4 : Memref sig .tc .vmem S4096x128 .bf16) (harg4 : arg4.IsWhole) (arg5 : Memref sig .tc .vmem S4096x128 .bf16)
  (harg5 : arg5.IsWhole) (arg6 : Memref sig .tc .vmem S1x1x1x256x128 .f32) (harg6 : arg6.IsWhole)
  (arg7 : Memref sig .tc .vmem S1x1x1x256x128 .f32) (harg7 : arg7.IsWhole) (arg8 : Memref sig .tc .vmem S256x384 .bf16)
  (harg8 : arg8.IsWhole) (arg9 : Memref sig .tc .vmem S4352x128 .bf16) (harg9 : arg9.IsWhole)
  (arg10 : Memref sig .tc .vmem S4352x256 .bf16) (harg10 : arg10.IsWhole) (arg11 : Memref sig .tc .vmem S768x128 .f32)
  (harg11 : arg11.IsWhole) (arg12 : Memref sig .tc .vmem S768x256 .f32) (harg12 : arg12.IsWhole)
  (x0 : Vec Ideal S256x384 .f32) (x1 : Vec Ideal S4096x128 .bf16) (x2 : Vec Ideal S4096x128 .bf16)
  (x3 : Vec Ideal S1x1x1x256x128 .f32) (x4 : Vec Ideal S1x1x1x256x128 .f32)
  (xs0 : Vec Ideal S4352x128 .bf16) (xs1 : Vec Ideal S4352x256 .bf16)

theorem readK (o : ℕ) (h : o + 512 ≤ 4352) : View.readAt (Elt Ideal) arg9.view
    (Rect.unit (s := S4352x128) ![o, 0] S512x128.size (inbK o h)).toLoadRect (harg9.unread xs0) = keys xs0 o h := by
  simp only [View.readAt_eq_ld, Memref.IsWhole.read_unread]; rfl

theorem readV (o : ℕ) (h : o + 512 ≤ 4352) : View.readAt (Elt Ideal) arg10.view
    (Rect.unit (s := S4352x256) ![o, 0] S512x256.size (inbV o h)).toLoadRect (harg10.unread xs1) = vals xs1 o h := by
  simp only [View.readAt_eq_ld, Memref.IsWhole.read_unread]; rfl

theorem readKLast : View.readAt (Elt Ideal) arg9.view
    (Rect.unit (s := S4352x128) ![4096, 0] S256x128.size inb_S4352x128_S256x128_4096_0).toLoadRect (harg9.unread xs0) = keysLast xs0 := by
  simp only [View.readAt_eq_ld, Memref.IsWhole.read_unread]; rfl

theorem readVLast : View.readAt (Elt Ideal) arg10.view
    (Rect.unit (s := S4352x256) ![4096, 0] S256x256.size inb_S4352x256_S256x256_4096_0).toLoadRect (harg10.unread xs1) = valsLast xs1 := by
  simp only [View.readAt_eq_ld, Memref.IsWhole.read_unread]; rfl

/-! Case B: the points that read the keys and values carried from the point before. -/

theorem qB : kernelRun0_B.sl.r (F := Ideal) c arg3 harg3 x0 = queries x0 := by
  unfold kernelRun0_B.sl.r; simp only [View.readAt_eq_ld, Memref.IsWhole.read_unread]; rfl

theorem mB0 : kernelRun0_B.sl.v26 (F := Ideal) c arg11 = (stage (queries x0) xs0 xs1 0 (by decide)).1 :=
  View.readCov_cons_toLoadRect _ _ _ _

theorem aB0 : kernelRun0_B.sl.v37 (F := Ideal) c arg12 = (stage (queries x0) xs0 xs1 0 (by decide)).2 :=
  View.readCov_cons_toLoadRect _ _ _ _

theorem mB1 : kernelRun0_B.sl.v55 (F := Ideal) c arg3 harg3 arg9 harg9 arg11 x0 xs0 = (stage (queries x0) xs0 xs1 1 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![0, 0] S512x128.size (inbK 0 (by omega))).toLoadRect (harg9.unread xs0)) (kernelRun0_B.sl.v26 (F := Ideal) c arg11) = _
  rw [qB, readK, mB0]; rfl

theorem aB1 : kernelRun0_B.sl.v66 (F := Ideal) c arg3 harg3 arg9 harg9 arg10 harg10 arg11 arg12 x0 xs0 xs1 = (stage (queries x0) xs0 xs1 1 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![0, 0] S512x128.size (inbK 0 (by omega))).toLoadRect (harg9.unread xs0)) (kernelRun0_B.sl.v26 (F := Ideal) c arg11) (kernelRun0_B.sl.v37 (F := Ideal) c arg12) (View.readAt (Elt Ideal) arg10.view (Rect.unit (s := S4352x256) ![0, 0] S512x256.size (inbV 0 (by omega))).toLoadRect (harg10.unread xs1)) = _
  rw [qB, readK, readV, mB0, aB0]; rfl

theorem mB2 : kernelRun0_B.sl.v84 (F := Ideal) c arg3 harg3 arg9 harg9 arg11 x0 xs0 = (stage (queries x0) xs0 xs1 2 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![512, 0] S512x128.size (inbK 512 (by omega))).toLoadRect (harg9.unread xs0)) (kernelRun0_B.sl.v55 (F := Ideal) c arg3 harg3 arg9 harg9 arg11 x0 xs0) = _
  rw [qB, readK, mB1]; rfl

theorem aB2 : kernelRun0_B.sl.v95 (F := Ideal) c arg3 harg3 arg9 harg9 arg10 harg10 arg11 arg12 x0 xs0 xs1 = (stage (queries x0) xs0 xs1 2 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![512, 0] S512x128.size (inbK 512 (by omega))).toLoadRect (harg9.unread xs0)) (kernelRun0_B.sl.v55 (F := Ideal) c arg3 harg3 arg9 harg9 arg11 x0 xs0) (kernelRun0_B.sl.v66 (F := Ideal) c arg3 harg3 arg9 harg9 arg10 harg10 arg11 arg12 x0 xs0 xs1) (View.readAt (Elt Ideal) arg10.view (Rect.unit (s := S4352x256) ![512, 0] S512x256.size (inbV 512 (by omega))).toLoadRect (harg10.unread xs1)) = _
  rw [qB, readK, readV, mB1, aB1]; rfl

theorem mB3 : kernelRun0_B.sl.v113 (F := Ideal) c arg3 harg3 arg9 harg9 arg11 x0 xs0 = (stage (queries x0) xs0 xs1 3 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![1024, 0] S512x128.size (inbK 1024 (by omega))).toLoadRect (harg9.unread xs0)) (kernelRun0_B.sl.v84 (F := Ideal) c arg3 harg3 arg9 harg9 arg11 x0 xs0) = _
  rw [qB, readK, mB2]; rfl

theorem aB3 : kernelRun0_B.sl.v124 (F := Ideal) c arg3 harg3 arg9 harg9 arg10 harg10 arg11 arg12 x0 xs0 xs1 = (stage (queries x0) xs0 xs1 3 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![1024, 0] S512x128.size (inbK 1024 (by omega))).toLoadRect (harg9.unread xs0)) (kernelRun0_B.sl.v84 (F := Ideal) c arg3 harg3 arg9 harg9 arg11 x0 xs0) (kernelRun0_B.sl.v95 (F := Ideal) c arg3 harg3 arg9 harg9 arg10 harg10 arg11 arg12 x0 xs0 xs1) (View.readAt (Elt Ideal) arg10.view (Rect.unit (s := S4352x256) ![1024, 0] S512x256.size (inbV 1024 (by omega))).toLoadRect (harg10.unread xs1)) = _
  rw [qB, readK, readV, mB2, aB2]; rfl

theorem mB4 : kernelRun0_B.sl.v142 (F := Ideal) c arg3 harg3 arg9 harg9 arg11 x0 xs0 = (stage (queries x0) xs0 xs1 4 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![1536, 0] S512x128.size (inbK 1536 (by omega))).toLoadRect (harg9.unread xs0)) (kernelRun0_B.sl.v113 (F := Ideal) c arg3 harg3 arg9 harg9 arg11 x0 xs0) = _
  rw [qB, readK, mB3]; rfl

theorem aB4 : kernelRun0_B.sl.v153 (F := Ideal) c arg3 harg3 arg9 harg9 arg10 harg10 arg11 arg12 x0 xs0 xs1 = (stage (queries x0) xs0 xs1 4 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![1536, 0] S512x128.size (inbK 1536 (by omega))).toLoadRect (harg9.unread xs0)) (kernelRun0_B.sl.v113 (F := Ideal) c arg3 harg3 arg9 harg9 arg11 x0 xs0) (kernelRun0_B.sl.v124 (F := Ideal) c arg3 harg3 arg9 harg9 arg10 harg10 arg11 arg12 x0 xs0 xs1) (View.readAt (Elt Ideal) arg10.view (Rect.unit (s := S4352x256) ![1536, 0] S512x256.size (inbV 1536 (by omega))).toLoadRect (harg10.unread xs1)) = _
  rw [qB, readK, readV, mB3, aB3]; rfl

theorem mB5 : kernelRun0_B.sl.v171 (F := Ideal) c arg3 harg3 arg9 harg9 arg11 x0 xs0 = (stage (queries x0) xs0 xs1 5 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![2048, 0] S512x128.size (inbK 2048 (by omega))).toLoadRect (harg9.unread xs0)) (kernelRun0_B.sl.v142 (F := Ideal) c arg3 harg3 arg9 harg9 arg11 x0 xs0) = _
  rw [qB, readK, mB4]; rfl

theorem aB5 : kernelRun0_B.sl.v182 (F := Ideal) c arg3 harg3 arg9 harg9 arg10 harg10 arg11 arg12 x0 xs0 xs1 = (stage (queries x0) xs0 xs1 5 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![2048, 0] S512x128.size (inbK 2048 (by omega))).toLoadRect (harg9.unread xs0)) (kernelRun0_B.sl.v142 (F := Ideal) c arg3 harg3 arg9 harg9 arg11 x0 xs0) (kernelRun0_B.sl.v153 (F := Ideal) c arg3 harg3 arg9 harg9 arg10 harg10 arg11 arg12 x0 xs0 xs1) (View.readAt (Elt Ideal) arg10.view (Rect.unit (s := S4352x256) ![2048, 0] S512x256.size (inbV 2048 (by omega))).toLoadRect (harg10.unread xs1)) = _
  rw [qB, readK, readV, mB4, aB4]; rfl

theorem mB6 : kernelRun0_B.sl.v200 (F := Ideal) c arg3 harg3 arg9 harg9 arg11 x0 xs0 = (stage (queries x0) xs0 xs1 6 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![2560, 0] S512x128.size (inbK 2560 (by omega))).toLoadRect (harg9.unread xs0)) (kernelRun0_B.sl.v171 (F := Ideal) c arg3 harg3 arg9 harg9 arg11 x0 xs0) = _
  rw [qB, readK, mB5]; rfl

theorem aB6 : kernelRun0_B.sl.v211 (F := Ideal) c arg3 harg3 arg9 harg9 arg10 harg10 arg11 arg12 x0 xs0 xs1 = (stage (queries x0) xs0 xs1 6 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![2560, 0] S512x128.size (inbK 2560 (by omega))).toLoadRect (harg9.unread xs0)) (kernelRun0_B.sl.v171 (F := Ideal) c arg3 harg3 arg9 harg9 arg11 x0 xs0) (kernelRun0_B.sl.v182 (F := Ideal) c arg3 harg3 arg9 harg9 arg10 harg10 arg11 arg12 x0 xs0 xs1) (View.readAt (Elt Ideal) arg10.view (Rect.unit (s := S4352x256) ![2560, 0] S512x256.size (inbV 2560 (by omega))).toLoadRect (harg10.unread xs1)) = _
  rw [qB, readK, readV, mB5, aB5]; rfl

theorem mB7 : kernelRun0_B.sl.v229 (F := Ideal) c arg3 harg3 arg9 harg9 arg11 x0 xs0 = (stage (queries x0) xs0 xs1 7 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![3072, 0] S512x128.size (inbK 3072 (by omega))).toLoadRect (harg9.unread xs0)) (kernelRun0_B.sl.v200 (F := Ideal) c arg3 harg3 arg9 harg9 arg11 x0 xs0) = _
  rw [qB, readK, mB6]; rfl

theorem aB7 : kernelRun0_B.sl.v240 (F := Ideal) c arg3 harg3 arg9 harg9 arg10 harg10 arg11 arg12 x0 xs0 xs1 = (stage (queries x0) xs0 xs1 7 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![3072, 0] S512x128.size (inbK 3072 (by omega))).toLoadRect (harg9.unread xs0)) (kernelRun0_B.sl.v200 (F := Ideal) c arg3 harg3 arg9 harg9 arg11 x0 xs0) (kernelRun0_B.sl.v211 (F := Ideal) c arg3 harg3 arg9 harg9 arg10 harg10 arg11 arg12 x0 xs0 xs1) (View.readAt (Elt Ideal) arg10.view (Rect.unit (s := S4352x256) ![3072, 0] S512x256.size (inbV 3072 (by omega))).toLoadRect (harg10.unread xs1)) = _
  rw [qB, readK, readV, mB6, aB6]; rfl

theorem mB8 : kernelRun0_B.sl.v255 (F := Ideal) c arg3 harg3 arg9 harg9 arg11 x0 xs0 = (stage (queries x0) xs0 xs1 8 (by decide)).1 := by
  refine (View.readCov_cons_toLoadRect _ _ _ _).trans ?_
  show k0_pay23 (kernelRun0_B.sl.r (F := Ideal) c arg3 harg3 x0) (View.readAt (Elt Ideal) arg9.view (Rect.unit (s := S4352x128) ![3584, 0] S512x128.size (inbK 3584 (by omega))).toLoadRect (harg9.unread xs0)) (kernelRun0_B.sl.v229 (F := Ideal) c arg3 harg3 arg9 harg9 arg11 x0 xs0) = _
  rw [qB, readK, mB7]; rfl

theorem aB8 : kernelRun0_B.sl.v266 (F := Ideal) c arg3 harg3 arg9 harg9 arg10 harg10 arg11 arg12 x0 xs0 xs1 = (stage (queries x0) xs0 xs1 8 (by decide)).2 := by
  refine (View.readCov_cons_toLoadRect _ _ _ _).trans ?_
  show k0_pay22 (kernelRun0_B.sl.r (F := Ideal) c arg3 harg3 x0) (View.readAt (Elt Ideal) arg9.view (Rect.unit (s := S4352x128) ![3584, 0] S512x128.size (inbK 3584 (by omega))).toLoadRect (harg9.unread xs0)) (kernelRun0_B.sl.v229 (F := Ideal) c arg3 harg3 arg9 harg9 arg11 x0 xs0) (kernelRun0_B.sl.v240 (F := Ideal) c arg3 harg3 arg9 harg9 arg10 harg10 arg11 arg12 x0 xs0 xs1) (View.readAt (Elt Ideal) arg10.view (Rect.unit (s := S4352x256) ![3584, 0] S512x256.size (inbV 3584 (by omega))).toLoadRect (harg10.unread xs1)) = _
  rw [qB, readK, readV, mB7, aB7]; rfl

theorem sB : kernelRun0_B.sl.v278 (F := Ideal) c arg3 harg3 arg9 harg9 arg10 harg10 arg11 arg12 x0 xs0 xs1 = sums (queries x0) xs0 xs1 := by
  refine (View.readCov_cons_toLoadRect _ _ _ _).trans ?_
  show k0_pay49 (k0_pay47 (kernelRun0_B.sl.r (F := Ideal) c arg3 harg3 x0) (View.readAt (Elt Ideal) arg9.view (Rect.unit (s := S4352x128) ![4096, 0] S256x128.size inb_S4352x128_S256x128_4096_0).toLoadRect (harg9.unread xs0))) (kernelRun0_B.sl.v255 (F := Ideal) c arg3 harg3 arg9 harg9 arg11 x0 xs0) (kernelRun0_B.sl.v266 (F := Ideal) c arg3 harg3 arg9 harg9 arg10 harg10 arg11 arg12 x0 xs0 xs1) (View.readAt (Elt Ideal) arg10.view (Rect.unit (s := S4352x256) ![4096, 0] S256x256.size inb_S4352x256_S256x256_4096_0).toLoadRect (harg10.unread xs1)) = _
  rw [qB, readKLast, readVLast, mB8, aB8]; rfl

theorem outB (hc) : out0_B_5 (F := Ideal) c i arg3 harg3 arg4 harg4 arg5 harg5 arg6 harg6 arg7 harg7 arg8 harg8 arg9 harg9 arg10 harg10 arg11 harg11 arg12 harg12 hc x0 x1 x2 x3 x4 xs0 xs1 = blockOf (sums (queries x0) xs0 xs1) := by
  refine (View.read_writes_junk_eq_canon _ _).trans ?_
  show blockOf (kernelRun0_B.sl.v278 (F := Ideal) c arg3 harg3 arg9 harg9 arg10 harg10 arg11 arg12 x0 xs0 xs1) = _
  rw [sB]

/-! Case A: the first point of a head group. -/

theorem qA : kernelRun0_A.sl.r (F := Ideal) c arg3 harg3 x0 = queries x0 := by
  unfold kernelRun0_A.sl.r; simp only [View.readAt_eq_ld, Memref.IsWhole.read_unread]; rfl

theorem HK : kernelRun0_A.sl.HS0_2 (F := Ideal) c arg4 harg4 arg6 harg6 x1 x3 = [(⟨Rect.unit (s := S4352x128) ![4096, 0] S256x128.size inb_S4352x128_S256x128_4096_0,
        k0_pay2 (View.ld x3 (Rect.unit (s := S1x1x1x256x128) ![0, 0, 0, 0, 0] S1x1x1x256x128.size inb_S1x1x1x256x128_S1x1x1x256x128_0_0_0_0_0))⟩ :
        View.Piece (Elt Ideal) S4352x128 .bf16),
     (⟨Rect.unit (s := S4352x128) ![0, 0] S4096x128.size inb_S4352x128_S4096x128_0_0,
        k0_pay1 (View.ld x1 (Rect.unit (s := S4096x128) ![0, 0] S4096x128.size inb_S4096x128_S4096x128_0_0))⟩ :
        View.Piece (Elt Ideal) S4352x128 .bf16)] := by
  unfold kernelRun0_A.sl.HS0_2; simp only [View.readAt_eq_ld, Memref.IsWhole.read_unread]

theorem HV : kernelRun0_A.sl.HS1_3 (F := Ideal) c arg5 harg5 arg7 harg7 x2 x4 = [(⟨Rect.unit (s := S4352x256) ![0, 128] S4352x128.size inb_S4352x256_S4352x128_0_128, k0_pay5 (F := Ideal)⟩ :
        View.Piece (Elt Ideal) S4352x256 .bf16),
     (⟨Rect.unit (s := S4352x256) ![4096, 0] S256x128.size inb_S4352x256_S256x128_4096_0,
        k0_pay4 (View.ld x4 (Rect.unit (s := S1x1x1x256x128) ![0, 0, 0, 0, 0] S1x1x1x256x128.size inb_S1x1x1x256x128_S1x1x1x256x128_0_0_0_0_0))⟩ :
        View.Piece (Elt Ideal) S4352x256 .bf16),
     (⟨Rect.unit (s := S4352x256) ![0, 0] S4096x128.size inb_S4352x256_S4096x128_0_0,
        k0_pay3 (View.ld x2 (Rect.unit (s := S4096x128) ![0, 0] S4096x128.size inb_S4096x128_S4096x128_0_0))⟩ :
        View.Piece (Elt Ideal) S4352x256 .bf16)] := by
  unfold kernelRun0_A.sl.HS1_3; simp only [View.readAt_eq_ld, Memref.IsWhole.read_unread]

theorem kA0 : kernelRun0_A.sl.v24 (F := Ideal) c arg4 harg4 arg6 harg6 arg9 x1 x3 = keys (keysOf x1 x3) 0 (by omega) := by
  unfold kernelRun0_A.sl.v24; rw [HK, View.readCov_eq_canon']; rfl

theorem vA0 : kernelRun0_A.sl.v41 (F := Ideal) c arg5 harg5 arg7 harg7 arg10 x2 x4 = vals (valsOf x2 x4) 0 (by omega) := by
  unfold kernelRun0_A.sl.v41; rw [HV, View.readCov_eq_canon']; rfl

theorem kA1 : kernelRun0_A.sl.v53 (F := Ideal) c arg4 harg4 arg6 harg6 arg9 x1 x3 = keys (keysOf x1 x3) 512 (by omega) := by
  unfold kernelRun0_A.sl.v53; rw [HK, View.readCov_eq_canon']; rfl

theorem vA1 : kernelRun0_A.sl.v70 (F := Ideal) c arg5 harg5 arg7 harg7 arg10 x2 x4 = vals (valsOf x2 x4) 512 (by omega) := by
  unfold kernelRun0_A.sl.v70; rw [HV, View.readCov_eq_canon']; rfl

theorem kA2 : kernelRun0_A.sl.v82 (F := Ideal) c arg4 harg4 arg6 harg6 arg9 x1 x3 = keys (keysOf x1 x3) 1024 (by omega) := by
  unfold kernelRun0_A.sl.v82; rw [HK, View.readCov_eq_canon']; rfl

theorem vA2 : kernelRun0_A.sl.v99 (F := Ideal) c arg5 harg5 arg7 harg7 arg10 x2 x4 = vals (valsOf x2 x4) 1024 (by omega) := by
  unfold kernelRun0_A.sl.v99; rw [HV, View.readCov_eq_canon']; rfl

theorem kA3 : kernelRun0_A.sl.v111 (F := Ideal) c arg4 harg4 arg6 harg6 arg9 x1 x3 = keys (keysOf x1 x3) 1536 (by omega) := by
  unfold kernelRun0_A.sl.v111; rw [HK, View.readCov_eq_canon']; rfl

theorem vA3 : kernelRun0_A.sl.v128 (F := Ideal) c arg5 harg5 arg7 harg7 arg10 x2 x4 = vals (valsOf x2 x4) 1536 (by omega) := by
  unfold kernelRun0_A.sl.v128; rw [HV, View.readCov_eq_canon']; rfl

theorem kA4 : kernelRun0_A.sl.v140 (F := Ideal) c arg4 harg4 arg6 harg6 arg9 x1 x3 = keys (keysOf x1 x3) 2048 (by omega) := by
  unfold kernelRun0_A.sl.v140; rw [HK, View.readCov_eq_canon']; rfl

theorem vA4 : kernelRun0_A.sl.v157 (F := Ideal) c arg5 harg5 arg7 harg7 arg10 x2 x4 = vals (valsOf x2 x4) 2048 (by omega) := by
  unfold kernelRun0_A.sl.v157; rw [HV, View.readCov_eq_canon']; rfl

theorem kA5 : kernelRun0_A.sl.v169 (F := Ideal) c arg4 harg4 arg6 harg6 arg9 x1 x3 = keys (keysOf x1 x3) 2560 (by omega) := by
  unfold kernelRun0_A.sl.v169; rw [HK, View.readCov_eq_canon']; rfl

theorem vA5 : kernelRun0_A.sl.v186 (F := Ideal) c arg5 harg5 arg7 harg7 arg10 x2 x4 = vals (valsOf x2 x4) 2560 (by omega) := by
  unfold kernelRun0_A.sl.v186; rw [HV, View.readCov_eq_canon']; rfl

theorem kA6 : kernelRun0_A.sl.v198 (F := Ideal) c arg4 harg4 arg6 harg6 arg9 x1 x3 = keys (keysOf x1 x3) 3072 (by omega) := by
  unfold kernelRun0_A.sl.v198; rw [HK, View.readCov_eq_canon']; rfl

theorem vA6 : kernelRun0_A.sl.v215 (F := Ideal) c arg5 harg5 arg7 harg7 arg10 x2 x4 = vals (valsOf x2 x4) 3072 (by omega) := by
  unfold kernelRun0_A.sl.v215; rw [HV, View.readCov_eq_canon']; rfl

theorem kA7 : kernelRun0_A.sl.v227 (F := Ideal) c arg4 harg4 arg6 harg6 arg9 x1 x3 = keys (keysOf x1 x3) 3584 (by omega) := by
  unfold kernelRun0_A.sl.v227; rw [HK, View.readCov_eq_canon']; rfl

theorem vA7 : kernelRun0_A.sl.v244 (F := Ideal) c arg5 harg5 arg7 harg7 arg10 x2 x4 = vals (valsOf x2 x4) 3584 (by omega) := by
  unfold kernelRun0_A.sl.v244; rw [HV, View.readCov_eq_canon']; rfl

theorem kA8 : kernelRun0_A.sl.v253 (F := Ideal) c arg4 harg4 arg6 harg6 arg9 x1 x3 = keysLast (keysOf x1 x3) := by
  unfold kernelRun0_A.sl.v253; rw [HK, View.readCov_eq_canon']; rfl

theorem vA8 : kernelRun0_A.sl.v269 (F := Ideal) c arg5 harg5 arg7 harg7 arg10 x2 x4 = valsLast (valsOf x2 x4) := by
  unfold kernelRun0_A.sl.v269; rw [HV, View.readCov_eq_canon']; rfl

theorem mA0 : kernelRun0_A.sl.v26 (F := Ideal) c arg11 = (stage (queries x0) (keysOf x1 x3) (valsOf x2 x4) 0 (by decide)).1 :=
  View.readCov_cons_toLoadRect _ _ _ _

theorem aA0 : kernelRun0_A.sl.v37 (F := Ideal) c arg12 = (stage (queries x0) (keysOf x1 x3) (valsOf x2 x4) 0 (by decide)).2 :=
  View.readCov_cons_toLoadRect _ _ _ _

theorem mA1 : kernelRun0_A.sl.v55 (F := Ideal) c arg3 harg3 arg4 harg4 arg6 harg6 arg9 arg11 x0 x1 x3 = (stage (queries x0) (keysOf x1 x3) (valsOf x2 x4) 1 (by decide)).1 := by
  refine (View.readCov_cons_toLoadRect _ _ _ _).trans ?_
  show k0_pay23 (kernelRun0_A.sl.r (F := Ideal) c arg3 harg3 x0) (kernelRun0_A.sl.v24 (F := Ideal) c arg4 harg4 arg6 harg6 arg9 x1 x3) (kernelRun0_A.sl.v26 (F := Ideal) c arg11) = _
  rw [qA, kA0, mA0]; rfl

theorem aA1 : kernelRun0_A.sl.v66 (F := Ideal) c arg3 harg3 arg4 harg4 arg5 harg5 arg6 harg6 arg7 harg7 arg9 arg10 arg11 arg12 x0 x1 x2 x3 x4 = (stage (queries x0) (keysOf x1 x3) (valsOf x2 x4) 1 (by decide)).2 := by
  refine (View.readCov_cons_toLoadRect _ _ _ _).trans ?_
  show k0_pay22 (kernelRun0_A.sl.r (F := Ideal) c arg3 harg3 x0) (kernelRun0_A.sl.v24 (F := Ideal) c arg4 harg4 arg6 harg6 arg9 x1 x3) (kernelRun0_A.sl.v26 (F := Ideal) c arg11) (kernelRun0_A.sl.v37 (F := Ideal) c arg12) (kernelRun0_A.sl.v41 (F := Ideal) c arg5 harg5 arg7 harg7 arg10 x2 x4) = _
  rw [qA, kA0, vA0, mA0, aA0]; rfl

theorem mA2 : kernelRun0_A.sl.v84 (F := Ideal) c arg3 harg3 arg4 harg4 arg6 harg6 arg9 arg11 x0 x1 x3 = (stage (queries x0) (keysOf x1 x3) (valsOf x2 x4) 2 (by decide)).1 := by
  refine (View.readCov_cons_toLoadRect _ _ _ _).trans ?_
  show k0_pay23 (kernelRun0_A.sl.r (F := Ideal) c arg3 harg3 x0) (kernelRun0_A.sl.v53 (F := Ideal) c arg4 harg4 arg6 harg6 arg9 x1 x3) (kernelRun0_A.sl.v55 (F := Ideal) c arg3 harg3 arg4 harg4 arg6 harg6 arg9 arg11 x0 x1 x3) = _
  rw [qA, kA1, mA1]; rfl

theorem aA2 : kernelRun0_A.sl.v95 (F := Ideal) c arg3 harg3 arg4 harg4 arg5 harg5 arg6 harg6 arg7 harg7 arg9 arg10 arg11 arg12 x0 x1 x2 x3 x4 = (stage (queries x0) (keysOf x1 x3) (valsOf x2 x4) 2 (by decide)).2 := by
  refine (View.readCov_cons_toLoadRect _ _ _ _).trans ?_
  show k0_pay22 (kernelRun0_A.sl.r (F := Ideal) c arg3 harg3 x0) (kernelRun0_A.sl.v53 (F := Ideal) c arg4 harg4 arg6 harg6 arg9 x1 x3) (kernelRun0_A.sl.v55 (F := Ideal) c arg3 harg3 arg4 harg4 arg6 harg6 arg9 arg11 x0 x1 x3) (kernelRun0_A.sl.v66 (F := Ideal) c arg3 harg3 arg4 harg4 arg5 harg5 arg6 harg6 arg7 harg7 arg9 arg10 arg11 arg12 x0 x1 x2 x3 x4) (kernelRun0_A.sl.v70 (F := Ideal) c arg5 harg5 arg7 harg7 arg10 x2 x4) = _
  rw [qA, kA1, vA1, mA1, aA1]; rfl

theorem mA3 : kernelRun0_A.sl.v113 (F := Ideal) c arg3 harg3 arg4 harg4 arg6 harg6 arg9 arg11 x0 x1 x3 = (stage (queries x0) (keysOf x1 x3) (valsOf x2 x4) 3 (by decide)).1 := by
  refine (View.readCov_cons_toLoadRect _ _ _ _).trans ?_
  show k0_pay23 (kernelRun0_A.sl.r (F := Ideal) c arg3 harg3 x0) (kernelRun0_A.sl.v82 (F := Ideal) c arg4 harg4 arg6 harg6 arg9 x1 x3) (kernelRun0_A.sl.v84 (F := Ideal) c arg3 harg3 arg4 harg4 arg6 harg6 arg9 arg11 x0 x1 x3) = _
  rw [qA, kA2, mA2]; rfl

theorem aA3 : kernelRun0_A.sl.v124 (F := Ideal) c arg3 harg3 arg4 harg4 arg5 harg5 arg6 harg6 arg7 harg7 arg9 arg10 arg11 arg12 x0 x1 x2 x3 x4 = (stage (queries x0) (keysOf x1 x3) (valsOf x2 x4) 3 (by decide)).2 := by
  refine (View.readCov_cons_toLoadRect _ _ _ _).trans ?_
  show k0_pay22 (kernelRun0_A.sl.r (F := Ideal) c arg3 harg3 x0) (kernelRun0_A.sl.v82 (F := Ideal) c arg4 harg4 arg6 harg6 arg9 x1 x3) (kernelRun0_A.sl.v84 (F := Ideal) c arg3 harg3 arg4 harg4 arg6 harg6 arg9 arg11 x0 x1 x3) (kernelRun0_A.sl.v95 (F := Ideal) c arg3 harg3 arg4 harg4 arg5 harg5 arg6 harg6 arg7 harg7 arg9 arg10 arg11 arg12 x0 x1 x2 x3 x4) (kernelRun0_A.sl.v99 (F := Ideal) c arg5 harg5 arg7 harg7 arg10 x2 x4) = _
  rw [qA, kA2, vA2, mA2, aA2]; rfl

theorem mA4 : kernelRun0_A.sl.v142 (F := Ideal) c arg3 harg3 arg4 harg4 arg6 harg6 arg9 arg11 x0 x1 x3 = (stage (queries x0) (keysOf x1 x3) (valsOf x2 x4) 4 (by decide)).1 := by
  refine (View.readCov_cons_toLoadRect _ _ _ _).trans ?_
  show k0_pay23 (kernelRun0_A.sl.r (F := Ideal) c arg3 harg3 x0) (kernelRun0_A.sl.v111 (F := Ideal) c arg4 harg4 arg6 harg6 arg9 x1 x3) (kernelRun0_A.sl.v113 (F := Ideal) c arg3 harg3 arg4 harg4 arg6 harg6 arg9 arg11 x0 x1 x3) = _
  rw [qA, kA3, mA3]; rfl

theorem aA4 : kernelRun0_A.sl.v153 (F := Ideal) c arg3 harg3 arg4 harg4 arg5 harg5 arg6 harg6 arg7 harg7 arg9 arg10 arg11 arg12 x0 x1 x2 x3 x4 = (stage (queries x0) (keysOf x1 x3) (valsOf x2 x4) 4 (by decide)).2 := by
  refine (View.readCov_cons_toLoadRect _ _ _ _).trans ?_
  show k0_pay22 (kernelRun0_A.sl.r (F := Ideal) c arg3 harg3 x0) (kernelRun0_A.sl.v111 (F := Ideal) c arg4 harg4 arg6 harg6 arg9 x1 x3) (kernelRun0_A.sl.v113 (F := Ideal) c arg3 harg3 arg4 harg4 arg6 harg6 arg9 arg11 x0 x1 x3) (kernelRun0_A.sl.v124 (F := Ideal) c arg3 harg3 arg4 harg4 arg5 harg5 arg6 harg6 arg7 harg7 arg9 arg10 arg11 arg12 x0 x1 x2 x3 x4) (kernelRun0_A.sl.v128 (F := Ideal) c arg5 harg5 arg7 harg7 arg10 x2 x4) = _
  rw [qA, kA3, vA3, mA3, aA3]; rfl

theorem mA5 : kernelRun0_A.sl.v171 (F := Ideal) c arg3 harg3 arg4 harg4 arg6 harg6 arg9 arg11 x0 x1 x3 = (stage (queries x0) (keysOf x1 x3) (valsOf x2 x4) 5 (by decide)).1 := by
  refine (View.readCov_cons_toLoadRect _ _ _ _).trans ?_
  show k0_pay23 (kernelRun0_A.sl.r (F := Ideal) c arg3 harg3 x0) (kernelRun0_A.sl.v140 (F := Ideal) c arg4 harg4 arg6 harg6 arg9 x1 x3) (kernelRun0_A.sl.v142 (F := Ideal) c arg3 harg3 arg4 harg4 arg6 harg6 arg9 arg11 x0 x1 x3) = _
  rw [qA, kA4, mA4]; rfl

theorem aA5 : kernelRun0_A.sl.v182 (F := Ideal) c arg3 harg3 arg4 harg4 arg5 harg5 arg6 harg6 arg7 harg7 arg9 arg10 arg11 arg12 x0 x1 x2 x3 x4 = (stage (queries x0) (keysOf x1 x3) (valsOf x2 x4) 5 (by decide)).2 := by
  refine (View.readCov_cons_toLoadRect _ _ _ _).trans ?_
  show k0_pay22 (kernelRun0_A.sl.r (F := Ideal) c arg3 harg3 x0) (kernelRun0_A.sl.v140 (F := Ideal) c arg4 harg4 arg6 harg6 arg9 x1 x3) (kernelRun0_A.sl.v142 (F := Ideal) c arg3 harg3 arg4 harg4 arg6 harg6 arg9 arg11 x0 x1 x3) (kernelRun0_A.sl.v153 (F := Ideal) c arg3 harg3 arg4 harg4 arg5 harg5 arg6 harg6 arg7 harg7 arg9 arg10 arg11 arg12 x0 x1 x2 x3 x4) (kernelRun0_A.sl.v157 (F := Ideal) c arg5 harg5 arg7 harg7 arg10 x2 x4) = _
  rw [qA, kA4, vA4, mA4, aA4]; rfl

theorem mA6 : kernelRun0_A.sl.v200 (F := Ideal) c arg3 harg3 arg4 harg4 arg6 harg6 arg9 arg11 x0 x1 x3 = (stage (queries x0) (keysOf x1 x3) (valsOf x2 x4) 6 (by decide)).1 := by
  refine (View.readCov_cons_toLoadRect _ _ _ _).trans ?_
  show k0_pay23 (kernelRun0_A.sl.r (F := Ideal) c arg3 harg3 x0) (kernelRun0_A.sl.v169 (F := Ideal) c arg4 harg4 arg6 harg6 arg9 x1 x3) (kernelRun0_A.sl.v171 (F := Ideal) c arg3 harg3 arg4 harg4 arg6 harg6 arg9 arg11 x0 x1 x3) = _
  rw [qA, kA5, mA5]; rfl

theorem aA6 : kernelRun0_A.sl.v211 (F := Ideal) c arg3 harg3 arg4 harg4 arg5 harg5 arg6 harg6 arg7 harg7 arg9 arg10 arg11 arg12 x0 x1 x2 x3 x4 = (stage (queries x0) (keysOf x1 x3) (valsOf x2 x4) 6 (by decide)).2 := by
  refine (View.readCov_cons_toLoadRect _ _ _ _).trans ?_
  show k0_pay22 (kernelRun0_A.sl.r (F := Ideal) c arg3 harg3 x0) (kernelRun0_A.sl.v169 (F := Ideal) c arg4 harg4 arg6 harg6 arg9 x1 x3) (kernelRun0_A.sl.v171 (F := Ideal) c arg3 harg3 arg4 harg4 arg6 harg6 arg9 arg11 x0 x1 x3) (kernelRun0_A.sl.v182 (F := Ideal) c arg3 harg3 arg4 harg4 arg5 harg5 arg6 harg6 arg7 harg7 arg9 arg10 arg11 arg12 x0 x1 x2 x3 x4) (kernelRun0_A.sl.v186 (F := Ideal) c arg5 harg5 arg7 harg7 arg10 x2 x4) = _
  rw [qA, kA5, vA5, mA5, aA5]; rfl

theorem mA7 : kernelRun0_A.sl.v229 (F := Ideal) c arg3 harg3 arg4 harg4 arg6 harg6 arg9 arg11 x0 x1 x3 = (stage (queries x0) (keysOf x1 x3) (valsOf x2 x4) 7 (by decide)).1 := by
  refine (View.readCov_cons_toLoadRect _ _ _ _).trans ?_
  show k0_pay23 (kernelRun0_A.sl.r (F := Ideal) c arg3 harg3 x0) (kernelRun0_A.sl.v198 (F := Ideal) c arg4 harg4 arg6 harg6 arg9 x1 x3) (kernelRun0_A.sl.v200 (F := Ideal) c arg3 harg3 arg4 harg4 arg6 harg6 arg9 arg11 x0 x1 x3) = _
  rw [qA, kA6, mA6]; rfl

theorem aA7 : kernelRun0_A.sl.v240 (F := Ideal) c arg3 harg3 arg4 harg4 arg5 harg5 arg6 harg6 arg7 harg7 arg9 arg10 arg11 arg12 x0 x1 x2 x3 x4 = (stage (queries x0) (keysOf x1 x3) (valsOf x2 x4) 7 (by decide)).2 := by
  refine (View.readCov_cons_toLoadRect _ _ _ _).trans ?_
  show k0_pay22 (kernelRun0_A.sl.r (F := Ideal) c arg3 harg3 x0) (kernelRun0_A.sl.v198 (F := Ideal) c arg4 harg4 arg6 harg6 arg9 x1 x3) (kernelRun0_A.sl.v200 (F := Ideal) c arg3 harg3 arg4 harg4 arg6 harg6 arg9 arg11 x0 x1 x3) (kernelRun0_A.sl.v211 (F := Ideal) c arg3 harg3 arg4 harg4 arg5 harg5 arg6 harg6 arg7 harg7 arg9 arg10 arg11 arg12 x0 x1 x2 x3 x4) (kernelRun0_A.sl.v215 (F := Ideal) c arg5 harg5 arg7 harg7 arg10 x2 x4) = _
  rw [qA, kA6, vA6, mA6, aA6]; rfl

theorem mA8 : kernelRun0_A.sl.v255 (F := Ideal) c arg3 harg3 arg4 harg4 arg6 harg6 arg9 arg11 x0 x1 x3 = (stage (queries x0) (keysOf x1 x3) (valsOf x2 x4) 8 (by decide)).1 := by
  refine (View.readCov_cons_toLoadRect _ _ _ _).trans ?_
  show k0_pay23 (kernelRun0_A.sl.r (F := Ideal) c arg3 harg3 x0) (kernelRun0_A.sl.v227 (F := Ideal) c arg4 harg4 arg6 harg6 arg9 x1 x3) (kernelRun0_A.sl.v229 (F := Ideal) c arg3 harg3 arg4 harg4 arg6 harg6 arg9 arg11 x0 x1 x3) = _
  rw [qA, kA7, mA7]; rfl

theorem aA8 : kernelRun0_A.sl.v266 (F := Ideal) c arg3 harg3 arg4 harg4 arg5 harg5 arg6 harg6 arg7 harg7 arg9 arg10 arg11 arg12 x0 x1 x2 x3 x4 = (stage (queries x0) (keysOf x1 x3) (valsOf x2 x4) 8 (by decide)).2 := by
  refine (View.readCov_cons_toLoadRect _ _ _ _).trans ?_
  show k0_pay22 (kernelRun0_A.sl.r (F := Ideal) c arg3 harg3 x0) (kernelRun0_A.sl.v227 (F := Ideal) c arg4 harg4 arg6 harg6 arg9 x1 x3) (kernelRun0_A.sl.v229 (F := Ideal) c arg3 harg3 arg4 harg4 arg6 harg6 arg9 arg11 x0 x1 x3) (kernelRun0_A.sl.v240 (F := Ideal) c arg3 harg3 arg4 harg4 arg5 harg5 arg6 harg6 arg7 harg7 arg9 arg10 arg11 arg12 x0 x1 x2 x3 x4) (kernelRun0_A.sl.v244 (F := Ideal) c arg5 harg5 arg7 harg7 arg10 x2 x4) = _
  rw [qA, kA7, vA7, mA7, aA7]; rfl

theorem sA : kernelRun0_A.sl.v278 (F := Ideal) c arg3 harg3 arg4 harg4 arg5 harg5 arg6 harg6 arg7 harg7 arg9 arg10 arg11 arg12 x0 x1 x2 x3 x4 = sums (queries x0) (keysOf x1 x3) (valsOf x2 x4) := by
  refine (View.readCov_cons_toLoadRect _ _ _ _).trans ?_
  show k0_pay49 (k0_pay47 (kernelRun0_A.sl.r (F := Ideal) c arg3 harg3 x0) (kernelRun0_A.sl.v253 (F := Ideal) c arg4 harg4 arg6 harg6 arg9 x1 x3)) (kernelRun0_A.sl.v255 (F := Ideal) c arg3 harg3 arg4 harg4 arg6 harg6 arg9 arg11 x0 x1 x3) (kernelRun0_A.sl.v266 (F := Ideal) c arg3 harg3 arg4 harg4 arg5 harg5 arg6 harg6 arg7 harg7 arg9 arg10 arg11 arg12 x0 x1 x2 x3 x4) (kernelRun0_A.sl.v269 (F := Ideal) c arg5 harg5 arg7 harg7 arg10 x2 x4) = _
  rw [qA, kA8, vA8, mA8, aA8]; rfl

theorem outA (hc) : out0_A_5 (F := Ideal) c i arg3 harg3 arg4 harg4 arg5 harg5 arg6 harg6 arg7 harg7 arg8 harg8 arg9 harg9 arg10 harg10 arg11 harg11 arg12 harg12 hc x0 x1 x2 x3 x4 = blockOf (sums (queries x0) (keysOf x1 x3) (valsOf x2 x4)) := by
  refine (View.read_writes_junk_eq_canon _ _).trans ?_
  show blockOf (kernelRun0_A.sl.v278 (F := Ideal) c arg3 harg3 arg4 harg4 arg5 harg5 arg6 harg6 arg7 harg7 arg9 arg10 arg11 arg12 x0 x1 x2 x3 x4) = _
  rw [sA]

theorem soutK (hc) : sout0_A_0 (F := Ideal) c i arg3 harg3 arg4 harg4 arg5 harg5 arg6 harg6 arg7 harg7 arg8 harg8 arg9 harg9 arg10 harg10 arg11 harg11 arg12 harg12 hc x0 x1 x2 x3 x4 = keysOf x1 x3 := by
  refine (View.read_writes_junk_eq_canon _ _).trans ?_
  show View.canon (kernelRun0_A.sl.HS0_2 (F := Ideal) c arg4 harg4 arg6 harg6 x1 x3) = _
  rw [HK]; rfl

theorem soutV (hc) : sout0_A_1 (F := Ideal) c i arg3 harg3 arg4 harg4 arg5 harg5 arg6 harg6 arg7 harg7 arg8 harg8 arg9 harg9 arg10 harg10 arg11 harg11 arg12 harg12 hc x0 x1 x2 x3 x4 = valsOf x2 x4 := by
  refine (View.read_writes_junk_eq_canon _ _).trans ?_
  show View.canon (kernelRun0_A.sl.HS1_3 (F := Ideal) c arg5 harg5 arg7 harg7 x2 x4) = _
  rw [HV]; rfl

end Cert.KernelIdeal.Block
end
-- ==== Proof.Online.lean ====
/- The softmax-weighted sum taken chunk by chunk, over the extended reals: a running maximum and a running sum
   rescaled at each chunk, against the weights `exp (t j - max t)` divided by their sum. The scores are real; the
   values weighted are any extended reals, since a positive real factor distributes over their sums. -/
module

public import Idealize.ShloMosaic.PureOps.Ideal
public import Idealize.ShloMosaic.Lib.Pointwise

@[expose] public section

noncomputable section

namespace Cert.Online

open Idealize.ShloMosaic

variable (s : ℕ → ℝ) (v : ℕ → EReal)

/-- The largest of the first `J` scores; `⊥` where there is none. -/
def top (J : ℕ) : EReal := (Finset.range J).sup fun j => (s j : EReal)

/-- The first `J` values, each weighted by the power of two of its score less the largest. -/
def acc (J : ℕ) : EReal := ∑ j ∈ Finset.range J, Ideal.exp2 ((s j : EReal) - top s J) * v j

theorem top_zero : top s 0 = ⊥ := rfl
theorem acc_zero : acc s v 0 = 0 := rfl

theorem top_real {J : ℕ} (hJ : 0 < J) : ∃ a : ℝ, top s J = (a : EReal) := by
  obtain ⟨J, rfl⟩ : ∃ K, J = K + 1 := ⟨J - 1, by omega⟩
  clear hJ
  induction J with
  | zero => exact ⟨s 0, by simp [top]⟩
  | succ K ih =>
    obtain ⟨a, ha⟩ := ih
    refine ⟨max (s (K + 1)) a, ?_⟩
    unfold top at ha ⊢
    rw [Finset.range_add_one, Finset.sup_insert, ha]
    exact (EReal.coe_strictMono.monotone.map_max).symm

/-- The chunk of `n` scores from `J` on carries the maximum along. -/
theorem top_step (J n : ℕ) :
    top s (J + n) = max (top s J) (Finset.univ.fold max ⊥ fun i : Fin n => (s (J + i.val) : EReal)) := by
  have hf : (Finset.univ.fold max ⊥ fun i : Fin n => (s (J + i.val) : EReal))
      = Finset.univ.sup fun i : Fin n => (s (J + i.val) : EReal) := rfl
  rw [hf]
  apply le_antisymm
  · refine Finset.sup_le fun j hj => ?_
    have hj' := Finset.mem_range.mp hj
    by_cases h : j < J
    · exact le_trans (Finset.le_sup (f := fun j => (s j : EReal)) (Finset.mem_range.mpr h)) (le_max_left _ _)
    · refine le_trans ?_ (le_max_right _ _)
      have := Finset.le_sup (s := Finset.univ) (f := fun i : Fin n => (s (J + i.val) : EReal)) (Finset.mem_univ ⟨j - J, by omega⟩)
      refine le_trans (le_of_eq ?_) this
      show (s j : EReal) = (s (J + (j - J)) : EReal)
      rw [Nat.add_sub_cancel' (by omega)]
  · refine max_le ?_ ?_
    · exact Finset.sup_mono (Finset.range_subset_range.mpr (by omega))
    · refine Finset.sup_le fun i _ => ?_
      exact Finset.le_sup (f := fun j => (s j : EReal)) (Finset.mem_range.mpr (by omega))

/-- A positive real factor distributes over a sum of extended reals. -/
theorem mul_sum {ι : Type} (c : ℝ) (hc : 0 ≤ c) (S : Finset ι) (f : ι → EReal) :
    (c : EReal) * ∑ j ∈ S, f j = ∑ j ∈ S, (c : EReal) * f j := by
  classical
  induction S using Finset.induction with
  | empty => simp
  | insert a S ha ih =>
    rw [Finset.sum_insert ha, Finset.sum_insert ha,
      EReal.left_distrib_of_nonneg_of_ne_top (EReal.coe_nonneg.mpr hc) (EReal.coe_ne_top c), ih]

theorem exp2_sub (a b : ℝ) : Ideal.exp2 ((a : EReal) - (b : EReal)) = (((2 : ℝ) ^ (a - b) : ℝ) : EReal) := by
  rw [← EReal.coe_sub, Ideal.exp2_coe]; rfl

/-- One chunk's update of the running sum. -/
theorem acc_step (J n : ℕ) (hn : 0 < n) :
    acc s v (J + n) = Ideal.exp2 (top s J - top s (J + n)) * acc s v J
      + ∑ i : Fin n, Ideal.exp2 ((s (J + i.val) : EReal) - top s (J + n)) * v (J + i.val) := by
  obtain ⟨b, hb⟩ := top_real s (J := J + n) (by omega)
  have h1 : acc s v (J + n) = (∑ j ∈ Finset.range J, Ideal.exp2 ((s j : EReal) - top s (J + n)) * v j)
      + ∑ i : Fin n, Ideal.exp2 ((s (J + i.val) : EReal) - top s (J + n)) * v (J + i.val) := by
    unfold acc
    rw [Finset.sum_range_add, Finset.sum_range (n := n)]
  rw [h1]
  congr 1
  rcases Nat.eq_zero_or_pos J with rfl | hJ
  · simp [acc_zero]
  · obtain ⟨a, ha⟩ := top_real s hJ
    unfold acc
    rw [ha, hb, exp2_sub, mul_sum _ (Real.rpow_nonneg (by norm_num) _)]
    refine Finset.sum_congr rfl fun j _ => ?_
    rw [exp2_sub, exp2_sub, ← mul_assoc, ← EReal.coe_mul]
    congr 2
    show (2 : ℝ) ^ (s j - b) = (2 : ℝ) ^ (a - b) * (2 : ℝ) ^ (s j - a)
    rw [← Real.rpow_add (by norm_num)]
    congr 1; ring

variable (t : ℕ → ℝ)

/-- The largest of `N` scores as the reference takes it. -/
abbrev refTop (N : ℕ) : EReal := Finset.univ.fold max ⊥ fun i : Fin N => (t i.val : EReal)

theorem refTop_eq (N : ℕ) : refTop t N = top t N := by
  have h := top_step t 0 N
  rw [top_zero] at h
  simp only [Nat.zero_add] at h
  rw [h]; exact (max_eq_right bot_le).symm

/-- The running sums' quotient after all `N` scores is the sum of the values weighted by the softmax. -/
theorem quotient (L : ℝ) (hL : Real.log 2 * L = 1) (N : ℕ) (hN : 0 < N) (hs : ∀ j, s j = L * t j) (w : ℕ → EReal)
    (hw : ∀ j, w j = 1) :
    Ideal.div (acc s v N) (acc s w N)
      = ∑ i : Fin N, Ideal.div (Ideal.exp ((t i.val : EReal) - refTop t N))
          (∑ k : Fin N, Ideal.exp ((t k.val : EReal) - refTop t N)) * v i.val := by
  obtain ⟨a, ha⟩ := top_real t hN
  have hL0 : 0 < L := by
    have h2 : 0 < Real.log 2 := Real.log_pos (by norm_num)
    by_contra h
    nlinarith
  have hb : top s N = ((L * a : ℝ) : EReal) := by
    clear hw
    apply le_antisymm
    · refine Finset.sup_le fun j hj => ?_
      rw [hs j]
      have h : (t j : EReal) ≤ top t N := Finset.le_sup (f := fun j => (t j : EReal)) hj
      rw [ha, EReal.coe_le_coe_iff] at h
      exact EReal.coe_le_coe_iff.mpr (mul_le_mul_of_nonneg_left h hL0.le)
    · obtain ⟨j, hj, hja⟩ := Finset.exists_mem_eq_sup (Finset.range N) ⟨0, Finset.mem_range.mpr hN⟩ (fun j => (t j : EReal))
      have h : (t j : EReal) = (a : EReal) := hja.symm.trans ha
      have h' : t j = a := EReal.coe_injective h
      have := Finset.le_sup (f := fun j => (s j : EReal)) hj
      refine le_trans (le_of_eq ?_) this
      show ((L * a : ℝ) : EReal) = (s j : EReal)
      rw [hs j, h']
  have he : ∀ j, Ideal.exp2 ((s j : EReal) - top s N) = ((Real.exp (t j - a) : ℝ) : EReal) := by
    intro j
    rw [hb, hs j, exp2_sub]
    congr 1
    show (2 : ℝ) ^ (L * t j - L * a) = _
    rw [Real.rpow_def_of_pos (by norm_num)]
    congr 1
    have : Real.log 2 * (L * t j - L * a) = (Real.log 2 * L) * (t j - a) := by ring
    rw [this, hL, one_mul]
  have hr : ∀ j, Ideal.exp ((t j : EReal) - refTop t N) = ((Real.exp (t j - a) : ℝ) : EReal) := by
    intro j
    rw [refTop_eq, ha, ← EReal.coe_sub, Ideal.exp_coe]
  have hden : acc s w N = ((∑ j ∈ Finset.range N, Real.exp (t j - a) : ℝ) : EReal) := by
    unfold acc
    simp only [he, hw, mul_one]
    exact (map_sum (⟨⟨Real.toEReal, EReal.coe_zero⟩, EReal.coe_add⟩ : ℝ →+ EReal) _ _).symm
  have hden' : (∑ k : Fin N, Ideal.exp ((t k.val : EReal) - refTop t N))
      = ((∑ j ∈ Finset.range N, Real.exp (t j - a) : ℝ) : EReal) := by
    simp only [hr]
    rw [← Finset.sum_range (n := N) (f := fun j => ((Real.exp (t j - a) : ℝ) : EReal))]
    exact (map_sum (⟨⟨Real.toEReal, EReal.coe_zero⟩, EReal.coe_add⟩ : ℝ →+ EReal) _ _).symm
  have hpos : 0 < ∑ j ∈ Finset.range N, Real.exp (t j - a) :=
    Finset.sum_pos (fun j _ => Real.exp_pos _) ⟨0, Finset.mem_range.mpr hN⟩
  rw [hden, hden']
  simp only [hr, Ideal.div_coe hpos.ne']
  rw [mul_comm]
  unfold acc
  rw [mul_sum _ (by positivity), Finset.sum_range (n := N)]
  refine Finset.sum_congr rfl fun i _ => ?_
  rw [he, ← mul_assoc, mul_comm (((1 / _ : ℝ)) : EReal)]

end Cert.Online

end
-- ==== Proof.Steps.lean ====
module

public import proofs.«01_k».proof.Proof.Block
public import proofs.«01_k».proof.Proof.Online
public import Idealize.ShloMosaic.Lib.IdealHost

@[expose] public section
set_option maxRecDepth 16384
noncomputable section
namespace Cert.KernelIdeal.Steps
open Idealize.ShloMosaic Idealize.ShloMosaic.TcCoe Idealize.ShloMosaic.Tactic Cert.KernelIdeal.Gen Cert.KernelIdeal.Block
open Cert.Online

theorem negInf : Ideal.ofBits .f32 0xFF800000#32 = ⊥ := by
  simp [Ideal.ofBits, Ideal.ieee]

/-- The larger of the running maximum and a chunk's scores. -/
def newTop (a : EReal) (n : ℕ) (s : Fin n → EReal) : EReal := max a (Finset.univ.fold max ⊥ s)

theorem pay23_apply (q : FVec Ideal S768x128 .bf16) (K : Vec Ideal S512x128 .bf16) (a : Vec Ideal S768x128 .f32) (r : Fin 768) (l : Fin 128) :
    k0_pay23 q K a (ix2 r l) = newTop (a (ix2 r l)) 512 fun j => ∑ k : Fin 128, q (ix2 r k) * K (ix2 j k) := by
  pointwise [k0_pay23, k0_pay21, k0_pay20]
  rw [negInf]; rfl

theorem pay22_apply (q : FVec Ideal S768x128 .bf16) (K : Vec Ideal S512x128 .bf16) (a : Vec Ideal S768x128 .f32) (b : Vec Ideal S768x256 .f32)
    (V : Vec Ideal S512x256 .bf16) (r : Fin 768) (d : Fin 256) (x : EReal) (ha : ∀ l, a (ix2 r l) = x) (s : Fin 512 → EReal)
    (hs : ∀ j, ∑ k : Fin 128, q (ix2 r k) * K (ix2 j k) = s j) :
    k0_pay22 q K a b V (ix2 r d) = Ideal.exp2 (x - newTop x 512 s) * b (ix2 r d)
      + ∑ j : Fin 512, Ideal.exp2 (s j - newTop x 512 s) * V (ix2 j d) := by
  pointwise [k0_pay22, k0_pay21, k0_pay20]
  simp only [ha, hs, negInf, dite_eq_ite, ite_self]
  rfl

theorem pay49_apply (q : FVec Ideal S768x128 .bf16) (K : Vec Ideal S256x128 .bf16) (a : Vec Ideal S768x128 .f32) (b : Vec Ideal S768x256 .f32)
    (V : Vec Ideal S256x256 .bf16) (r : Fin 768) (d : Fin 256) (x : EReal) (ha : ∀ l, a (ix2 r l) = x) (s : Fin 256 → EReal)
    (hs : ∀ j, ∑ k : Fin 128, q (ix2 r k) * K (ix2 j k) = s j) :
    k0_pay49 (k0_pay47 q K) a b V (ix2 r d) = Ideal.exp2 (x - newTop x 256 s) * b (ix2 r d)
      + ∑ j : Fin 256, Ideal.exp2 (s j - newTop x 256 s) * V (ix2 j d) := by
  pointwise [k0_pay49, k0_pay48, k0_pay47]
  simp only [ha, hs, negInf, dite_eq_ite, ite_self]
  exact congrArg _ (Fin.sum_univ_two_halves 128 128 rfl fun j : Fin 256 => Ideal.exp2 (s j - newTop x 256 s) * V (ix2 j d)).symm

theorem keys_apply (K : Vec Ideal S4352x128 .bf16) (o h) (r : Fin 512) (l : Fin 128) :
    keys K o h (ix2 r l) = K (ix2 ⟨o + r.val, by omega⟩ l) := by
  pointwise [keys]

theorem vals_apply (V : Vec Ideal S4352x256 .bf16) (o h) (r : Fin 512) (l : Fin 256) :
    vals V o h (ix2 r l) = V (ix2 ⟨o + r.val, by omega⟩ l) := by
  pointwise [vals]

theorem keysLast_apply (K : Vec Ideal S4352x128 .bf16) (r : Fin 256) (l : Fin 128) :
    keysLast K (ix2 r l) = K (ix2 ⟨4096 + r.val, by omega⟩ l) := by
  pointwise [keysLast]

theorem valsLast_apply (V : Vec Ideal S4352x256 .bf16) (r : Fin 256) (l : Fin 256) :
    valsLast V (ix2 r l) = V (ix2 ⟨4096 + r.val, by omega⟩ l) := by
  pointwise [valsLast]

theorem keysOf_apply (x : Vec Ideal S4096x128 .bf16) (z : Vec Ideal S1x1x1x256x128 .f32) (r : Fin 4352) (l : Fin 128) :
    keysOf x z (ix2 r l) = if h : r.val < 4096 then x (ix2 ⟨r.val, h⟩ l) else z (ix5 0 0 0 ⟨r.val - 4096, by omega⟩ l) := by
  unfold keysOf
  canon_tiles y e using View.cover_of_tiledBy _ ![256, 128] (by sl_kernel_rfl) _
  all_goals pointwise [k0_pay1, k0_pay2]
  all_goals replace e0 : r.val = _ := e0
  all_goals replace e1 : l.val = _ := e1
  · rw [dif_neg (by omega)]; exact congrArg₂ (fun a b => z (ix5 0 0 0 a b)) (Fin.ext (by show (y 0).val = r.val - 4096; omega)) (Fin.ext e1.symm)
  · rw [dif_pos (by omega)]; refine congrArg x ?_; idx_ext

theorem valsOf_apply (x : Vec Ideal S4096x128 .bf16) (z : Vec Ideal S1x1x1x256x128 .f32) (r : Fin 4352) (l : Fin 256) :
    valsOf x z (ix2 r l) = if hl : l.val < 128 then (if h : r.val < 4096 then x (ix2 ⟨r.val, h⟩ ⟨l.val, hl⟩) else z (ix5 0 0 0 ⟨r.val - 4096, by omega⟩ ⟨l.val, hl⟩)) else 1 := by
  unfold valsOf
  canon_tiles y e using View.cover_of_tiledBy _ ![256, 128] (by sl_kernel_rfl) _
  all_goals pointwise [k0_pay3, k0_pay4, k0_pay5]
  all_goals replace e0 : r.val = _ := e0
  all_goals replace e1 : l.val = _ := e1
  · rw [dif_neg (by omega)]
  · rw [dif_pos (by omega), dif_neg (by omega)]; exact congrArg₂ (fun a b => z (ix5 0 0 0 a b)) (Fin.ext (by show (y 0).val = r.val - 4096; omega)) (Fin.ext e1.symm)
  · rw [dif_pos (by omega), dif_pos (by omega)]; refine congrArg x ?_; idx_ext

section
variable (q : FVec Ideal S768x128 .bf16) (K : Vec Ideal S4352x128 .bf16) (V : Vec Ideal S4352x256 .bf16) (r : Fin 768)
  (s : ℕ → ℝ) (v : Fin 256 → ℕ → EReal)

/-- After `n` chunks the state of a row is the largest and the weighted sums of its first `512 n` scores. -/
theorem stage_spec (hs : ∀ j (hj : j < 4352), ∑ k : Fin 128, q (ix2 r k) * K (ix2 ⟨j, hj⟩ k) = (s j : EReal))
    (hv : ∀ d j (hj : j < 4352), V (ix2 ⟨j, hj⟩ d) = v d j) : ∀ n (h : n ≤ 8),
    (∀ l, (stage q K V n h).1 (ix2 r l) = top s (512 * n)) ∧ ∀ d, (stage q K V n h).2 (ix2 r d) = acc s (v d) (512 * n) := by
  intro n
  induction n with
  | zero =>
    intro h
    refine ⟨fun l => ?_, fun d => ?_⟩
    · show k0_pay7 (F := Ideal) (ix2 r l) = _
      pointwise [k0_pay7]
      exact negInf.trans (top_zero s).symm
    · show k0_pay8 (F := Ideal) (ix2 r d) = _
      pointwise [k0_pay8]
      exact (acc_zero s (v d)).symm
  | succ n ih =>
    intro h
    obtain ⟨i1, i2⟩ := ih (by omega)
    have hk : ∀ j : Fin 512, ∑ k : Fin 128, q (ix2 r k) * keys K (512 * n) (by omega) (ix2 j k) = (s (512 * n + j.val) : EReal) := by
      intro j
      simp only [keys_apply]
      exact hs _ _
    have ht : newTop (top s (512 * n)) 512 (fun j => (s (512 * n + j.val) : EReal)) = top s (512 * (n + 1)) :=
      (top_step s (512 * n) 512).symm
    refine ⟨fun l => ?_, fun d => ?_⟩
    · show k0_pay23 q _ (stage q K V n _).1 (ix2 r l) = _
      rw [pay23_apply, i1, ← ht]
      exact congrArg _ (funext hk)
    · show k0_pay22 q _ (stage q K V n _).1 (stage q K V n _).2 _ (ix2 r d) = _
      rw [pay22_apply q _ _ _ _ r d _ i1 _ hk, i2, ht]
      refine Eq.trans ?_ (acc_step s (v d) (512 * n) 512 (by omega)).symm
      refine congrArg _ (Finset.sum_congr rfl fun j _ => ?_)
      rw [vals_apply, hv]; rfl

theorem sums_spec (hs : ∀ j (hj : j < 4352), ∑ k : Fin 128, q (ix2 r k) * K (ix2 ⟨j, hj⟩ k) = (s j : EReal))
    (hv : ∀ d j (hj : j < 4352), V (ix2 ⟨j, hj⟩ d) = v d j) (d : Fin 256) :
    sums q K V (ix2 r d) = acc s (v d) 4352 := by
  obtain ⟨i1, i2⟩ := stage_spec q K V r s v hs hv 8 le_rfl
  have hk : ∀ j : Fin 256, ∑ k : Fin 128, q (ix2 r k) * keysLast K (ix2 j k) = (s (4096 + j.val) : EReal) := by
    intro j
    simp only [keysLast_apply]
    exact hs _ _
  have ht : newTop (top s 4096) 256 (fun j => (s (4096 + j.val) : EReal)) = top s 4352 := (top_step s 4096 256).symm
  unfold sums
  rw [pay49_apply q _ _ _ _ r d _ i1 _ hk, i2, ht]
  refine Eq.trans ?_ (acc_step s (v d) 4096 256 (by omega)).symm
  refine congrArg _ (Finset.sum_congr rfl fun j _ => ?_)
  rw [valsLast_apply, hv]
end

theorem queries_apply (x : Vec Ideal S256x384 .f32) (r : Fin 768) (l : Fin 128) :
    queries x (ix2 r l) = x (ix2 ⟨r.val % 256, by omega⟩ ⟨128 * (r.val / 256) + l.val, by omega⟩)
      * (((11863283 / 134217728) * (Real.log 2)⁻¹ : ℝ) : EReal) := by
  pointwise [queries, k0_pay6]
  refine congrArg₂ (· * ·) ?_ rfl
  have hr := r.isLt
  by_cases h : r.val < 256
  · rw [dif_pos h]
    exact congrArg x (congrArg₂ ix2 (Fin.ext (by dsimp only; omega)) (Fin.ext (by dsimp only; omega)))
  rw [dif_neg h]
  by_cases h' : r.val - 256 < 256
  · rw [dif_pos h']
    exact congrArg x (congrArg₂ ix2 (Fin.ext (by dsimp only; omega)) (Fin.ext (by dsimp only; omega)))
  · rw [dif_neg h']
    exact congrArg x (congrArg₂ ix2 (Fin.ext (by dsimp only; omega)) (Fin.ext (by dsimp only; omega)))

theorem blockOf_apply (a : Vec Ideal S768x256 .f32) (r : Fin 256) (l : Fin 384) :
    blockOf a (ix2 r l) = Ideal.div (a (ix2 ⟨256 * (l.val / 128) + r.val, by omega⟩ ⟨l.val % 128, by omega⟩))
      (a (ix2 ⟨256 * (l.val / 128) + r.val, by omega⟩ ⟨128 + l.val % 128, by omega⟩)) := by
  unfold blockOf
  canon_tiles y e
  all_goals pointwise [k0_pay52, k0_pay53, k0_pay54, k0_pay51]
  all_goals replace e0 : r.val = _ := e0
  all_goals replace e1 : l.val = _ := e1
  all_goals refine congrArg₂ Ideal.div (congrArg a (congrArg₂ ix2 (Fin.ext ?_) (Fin.ext ?_))) (congrArg a (congrArg₂ ix2 (Fin.ext ?_) (Fin.ext ?_)))
  all_goals (dsimp only; omega)

end Cert.KernelIdeal.Steps
end
-- ==== Proof.Ref.lean ====
module

public import proofs.«01_k».proof.Proof.Gen.ReferenceIdeal.Run
public import proofs.«01_k».proof.Proof.Online
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.Online

/-- Keys (or values) of a sample and a head group: the latent tokens, then the cached prompt tokens. -/
def joined (k : FVec Ideal S2x4096x256 .f32) (z : FVec Ideal S2x2x2x256x128 .f32) : FVec Ideal S2x2x4352x128 .f32 :=
  concatenate S2x2x4352x128 2 [⟨S2x2x4096x128, (transpose S2x2x4096x128 [0, 2, 1, 3] (shapeCast _ k shapeCasts_S2x4096x256_S2x4096x2x128) transposes_S2x4096x2x128_S2x2x4096x128_0_2_1_3)⟩, ⟨S2x2x256x128, (shapeCast _ (extractStridedSlice S2x1x2x256x128 ![0, 0, 0, 0, 0] z slices_S2x2x2x256x128_S2x1x2x256x128_0_0_0_0_0) shapeCasts_S2x1x2x256x128_S2x2x256x128)⟩] concatenates_S2x2x4096x128_S2x2x256x128_S2x2x4352x128_d2

/-- The scaled scores. -/
def scores (q : FVec Ideal S2x4096x768 .f32) (K : FVec Ideal S2x2x4352x128 .f32) : FVec Ideal S2x2x3x4096x4352 .f32 :=
  mulf (Host.dotGeneral dot_S2x2x3x4096x128_S2x2x4352x128_S2x2x3x4096x4352_4_3_23_2_01_01 none (shapeCast _ (transpose S2x6x4096x128 [0, 2, 1, 3] (shapeCast _ q shapeCasts_S2x4096x768_S2x4096x6x128) transposes_S2x4096x6x128_S2x6x4096x128_0_2_1_3) shapeCasts_S2x6x4096x128_S2x2x3x4096x128) K) (broadcastInDim S2x2x3x4096x4352 ![] bcast_S_S2x2x3x4096x4352 (constant S_ .f32 0x3DB504F3#32))

/-- The largest score of a query. -/
def tops (s : FVec Ideal S2x2x3x4096x4352 .f32) : FVec Ideal S2x2x3x4096 .f32 :=
  maximumf (broadcastInDim S2x2x3x4096 ![] bcast_S_S2x2x3x4096 (constant S_ .f32 0xFF800000#32)) (Host.reduce FloatOps.maximumf s (constant S_ .f32 0xFF800000#32) reducesTo_S2x2x3x4096x4352_S2x2x3x4096_d4 h_S_)

/-- The exponentials of the scores less their largest. -/
def expo (s : FVec Ideal S2x2x3x4096x4352 .f32) : FVec Ideal S2x2x3x4096x4352 .f32 :=
  Host.exp (subf s (broadcastInDim S2x2x3x4096x4352 ![0, 1, 2, 3, 4] bcast_S2x2x3x4096x1_S2x2x3x4096x4352_0_1_2_3_4 (broadcastInDim S2x2x3x4096x1 ![0, 1, 2, 3] bcast_S2x2x3x4096_S2x2x3x4096x1_0_1_2_3 (tops s))))

/-- The softmax weights. -/
def weights (e : FVec Ideal S2x2x3x4096x4352 .f32) : FVec Ideal S2x2x3x4096x4352 .f32 :=
  Host.divf e (broadcastInDim S2x2x3x4096x4352 ![0, 1, 2, 3, 4] bcast_S2x2x3x4096x1_S2x2x3x4096x4352_0_1_2_3_4 (broadcastInDim S2x2x3x4096x1 ![0, 1, 2, 3] bcast_S2x2x3x4096_S2x2x3x4096x1_0_1_2_3 (Host.reduceAdd e (constant S_ .f32 0x00000000#32) reducesTo_S2x2x3x4096x4352_S2x2x3x4096_d4 h_S_)))

/-- The weighted values, heads side by side. -/
def mixed (w : FVec Ideal S2x2x3x4096x4352 .f32) (V : FVec Ideal S2x2x4352x128 .f32) : FVec Ideal S8192x768 .bf16 :=
  truncf .bf16 (shapeCast _ (transpose S2x4096x6x128 [0, 2, 1, 3] (shapeCast _ (Host.dotGeneral dot_S2x2x3x4096x4352_S2x2x4352x128_S2x2x3x4096x128_4_2_23_3_01_01 none w V) shapeCasts_S2x2x3x4096x128_S2x6x4096x128) transposes_S2x6x4096x128_S2x4096x6x128_0_2_1_3) shapeCasts_S2x4096x6x128_S8192x768) bitsLt_bf16_f32

def out (q : FVec Ideal S2x4096x768 .f32) (k v : FVec Ideal S2x4096x256 .f32) (ck cv : FVec Ideal S2x2x2x256x128 .f32) : FVec Ideal S8192x768 .bf16 :=
  mixed (weights (expo (scores q (joined k ck)))) (joined v cv)

theorem joined_apply (k : FVec Ideal S2x4096x256 .f32) (z : FVec Ideal S2x2x2x256x128 .f32) (b g : Fin 2) (j : Fin 4352) (d : Fin 128) :
    joined k z (ix4 b g j d) = if h : j.val < 4096 then k (ix3 b ⟨j.val, h⟩ ⟨128 * g.val + d.val, by omega⟩) else z (ix5 b 0 g ⟨j.val - 4096, by omega⟩ d) := by
  pointwise [joined]
  simp only [Nat.mul_comm g.val 128]

theorem ofBits_scale : Ideal.ofBits .f32 0x3DB504F3#32 = ((11863283 / 134217728 : ℝ) : EReal) := by
  simp [Ideal.ofBits, Ideal.ieee, -EReal.coe_mul]; norm_num

theorem scores_apply (q : FVec Ideal S2x4096x768 .f32) (K : FVec Ideal S2x2x4352x128 .f32) (b g : Fin 2) (p : Fin 3) (i : Fin 4096) (j : Fin 4352) :
    scores q K (ix5 b g p i j) = (∑ d : Fin 128, q (ix3 b i ⟨128 * (3 * g.val + p.val) + d.val, by omega⟩) * K (ix4 b g j d)) * ((11863283 / 134217728 : ℝ) : EReal) := by
  pointwise [scores]
  rw [ofBits_scale]
  refine congrArg (· * _) (Finset.sum_congr rfl fun d _ => ?_)
  refine congrArg (fun a => q (ix3 b i a) * _) (Fin.ext ?_)
  dsimp only; omega

theorem lift_last (h : S2x2x3x4096x4352.Reduces [4] S2x2x3x4096) (b g : Fin 2) (p : Fin 3) (i : Fin 4096) (j : Fin 4352) :
    h.lift (ix4 b g p i) j = ix5 b g p i j := by
  funext a
  fin_cases a <;> rfl

theorem tops_apply (s : FVec Ideal S2x2x3x4096x4352 .f32) (b g : Fin 2) (p : Fin 3) (i : Fin 4096) :
    tops s (ix4 b g p i) = Finset.univ.fold max ⊥ (fun j' : Fin 4352 => s (ix5 b g p i j')) := by
  unfold tops
  rw [maximumf_apply, Host.reduce_eq_fold_single FloatOps.maximumf s _ reducesTo_S2x2x3x4096x4352_S2x2x3x4096_d4 (by decide) h_S_]
  show max (Ideal.ofBits .f32 0xFF800000#32) (Finset.univ.fold max (Ideal.ofBits .f32 0xFF800000#32) _) = _
  rw [show Ideal.ofBits .f32 0xFF800000#32 = ⊥ by simp [Ideal.ofBits, Ideal.ieee], max_eq_right bot_le]
  exact congrArg (fun f => Finset.fold max ⊥ f (Finset.univ : Finset (Fin 4352))) (funext fun k => congrArg s (lift_last _ b g p i k))

theorem expo_apply (s : FVec Ideal S2x2x3x4096x4352 .f32) (b g : Fin 2) (p : Fin 3) (i : Fin 4096) (j : Fin 4352) :
    expo s (ix5 b g p i j) = Ideal.exp (s (ix5 b g p i j) - Finset.univ.fold max ⊥ (fun j' : Fin 4352 => s (ix5 b g p i j'))) := by
  pointwise [expo]
  rw [tops_apply]

theorem weights_apply (e : FVec Ideal S2x2x3x4096x4352 .f32) (b g : Fin 2) (p : Fin 3) (i : Fin 4096) (j : Fin 4352) :
    weights e (ix5 b g p i j) = Ideal.div (e (ix5 b g p i j)) (∑ j' : Fin 4352, e (ix5 b g p i j')) := by
  pointwise [weights]

theorem mixed_apply (w : FVec Ideal S2x2x3x4096x4352 .f32) (V : FVec Ideal S2x2x4352x128 .f32) (r : Fin 8192) (l : Fin 768) :
    mixed w V (ix2 r l) = ∑ j : Fin 4352, w (ix5 ⟨r.val / 4096, by omega⟩ ⟨l.val / 384, by omega⟩ ⟨l.val / 128 % 3, by omega⟩ ⟨r.val % 4096, by omega⟩ j) * V (ix4 ⟨r.val / 4096, by omega⟩ ⟨l.val / 384, by omega⟩ j ⟨l.val % 128, by omega⟩) := by
  pointwise [mixed]
  refine Finset.sum_congr rfl fun j _ => ?_
  have e : l.val / 128 / 3 = l.val / 384 := by omega
  simp only [e]

/-- The reference's result at a row and a lane, its score row named. -/
theorem out_apply (q : FVec Ideal S2x4096x768 .f32) (k v : FVec Ideal S2x4096x256 .f32) (ck cv : FVec Ideal S2x2x2x256x128 .f32) (b g : Fin 2) (p : Fin 3) (i : Fin 4096) (d : Fin 128)
    (r : Fin 8192) (l : Fin 768) (hr : r.val = 4096 * b.val + i.val) (hl : l.val = 128 * (3 * g.val + p.val) + d.val) (t : ℕ → ℝ)
    (ht : ∀ j : Fin 4352, scores q (joined k ck) (ix5 b g p i j) = (t j.val : EReal)) :
    out q k v ck cv (ix2 r l) = ∑ j : Fin 4352, Ideal.div (Ideal.exp ((t j.val : EReal) - refTop t 4352))
      (∑ j' : Fin 4352, Ideal.exp ((t j'.val : EReal) - refTop t 4352)) * joined v cv (ix4 b g j d) := by
  unfold out
  rw [mixed_apply]
  have e1 : (⟨r.val / 4096, by omega⟩ : Fin 2) = b := Fin.ext (by dsimp only; omega)
  have e2 : (⟨l.val / 384, by omega⟩ : Fin 2) = g := Fin.ext (by dsimp only; omega)
  have e3 : (⟨l.val / 128 % 3, by omega⟩ : Fin 3) = p := Fin.ext (by dsimp only; omega)
  have e4 : (⟨r.val % 4096, by omega⟩ : Fin 4096) = i := Fin.ext (by dsimp only; omega)
  have e5 : (⟨l.val % 128, by omega⟩ : Fin 128) = d := Fin.ext (by dsimp only; omega)
  rw [e1, e2, e3, e4, e5]
  simp only [weights_apply, expo_apply, ht]

theorem res_eq (m : (ℓ : Loc nD τ sig) → Buf (Elt Ideal) ℓ) (c : Dev nD) : Cert.ReferenceIdeal.Value.res_main_v31 m c
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
end Cert.ReferenceIdeal.Attn
end
-- ==== Proof.Final.lean ====
module

public import proofs.«01_k».proof.Proof.Steps
public import proofs.«01_k».proof.Proof.Ref
public import proofs.«01_k».proof.Proof.Gen.KernelIdeal.Value
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.KernelIdeal.Final
open Cert.KernelIdeal Cert.KernelIdeal.Gen Cert.KernelIdeal.Block Cert.KernelIdeal.Steps Cert.Online
variable (m : (ℓ : Loc nD τ sig) → Buf (Elt Ideal) ℓ)

theorem idx : ∀ t : Fin cfg0.N, win0_0.index t = ![16 * (t.val / 32) + t.val % 16, t.val / 16 % 2]
    ∧ win0_1.index t = ![t.val / 32, t.val / 16 % 2] ∧ win0_2.index t = ![t.val / 32, t.val / 16 % 2]
    ∧ win0_3.index t = ![t.val / 32, 0, t.val / 16 % 2, 0, 0] ∧ win0_4.index t = ![t.val / 32, 0, t.val / 16 % 2, 0, 0]
    ∧ win0_5.index t = ![16 * (t.val / 32) + t.val % 16, t.val / 16 % 2] :=
  (by decide +kernel : ∀ t : Fin grid0.N, _)

/-- The first point of a point's sample and group: the one that loads the keys and values. -/
abbrev head (n : ℕ) (h : n < cfg0.N) : Fin cfg0.N := ⟨16 * (n / 16), by omega⟩

theorem scratch (c : Dev nD) : ∀ n (h : n < cfg0.N),
    (outsAt0 m c n h).2.1 = keysOf (iblk m c 1 (head n h)) (iblk m c 3 (head n h))
    ∧ (outsAt0 m c n h).2.2 = valsOf (iblk m c 2 (head n h)) (iblk m c 4 (head n h)) := by
  intro n
  induction n using Nat.strong_induction_on with
  | _ n ih =>
    intro h
    by_cases h0 : n % 16 = 0
    · have e : head n h = ⟨n, h⟩ := Fin.ext (by dsimp only; omega)
      rw [outsAt0_A m c ⟨n, h⟩ h0, e]
      exact ⟨soutK c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) scM0_2 (Memref.isWhole_whole _) scM0_3 (Memref.isWhole_whole _) (iblk m c 0 ⟨n, h⟩) (iblk m c 1 ⟨n, h⟩) (iblk m c 2 ⟨n, h⟩) (iblk m c 3 ⟨n, h⟩) (iblk m c 4 ⟨n, h⟩) ((hcond0_0 ⟨n, h⟩).mpr h0), soutV c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) scM0_2 (Memref.isWhole_whole _) scM0_3 (Memref.isWhole_whole _) (iblk m c 0 ⟨n, h⟩) (iblk m c 1 ⟨n, h⟩) (iblk m c 2 ⟨n, h⟩) (iblk m c 3 ⟨n, h⟩) (iblk m c 4 ⟨n, h⟩) ((hcond0_0 ⟨n, h⟩).mpr h0)⟩
    · have e : head n h = head (n - 1) (by omega) := Fin.ext (by dsimp only; omega)
      rw [outsAt0_B m c ⟨n, h⟩ h0, e]
      exact ih (n - 1) (by omega) (by omega)

theorem block (c : Dev nD) (t : Fin cfg0.N) : (outsAt0 m c t.val t.isLt).1
    = blockOf (sums (queries (iblk m c 0 t)) (keysOf (iblk m c 1 (head t.val t.isLt)) (iblk m c 3 (head t.val t.isLt)))
        (valsOf (iblk m c 2 (head t.val t.isLt)) (iblk m c 4 (head t.val t.isLt)))) := by
  by_cases h0 : t.val % 16 = 0
  · have e : head t.val t.isLt = t := Fin.ext (by dsimp only; omega)
    rw [outsAt0_A m c t h0, e]
    exact outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((hcond0_0 t).mpr h0)
  · obtain ⟨e1, e2⟩ := scratch m c (t.val - 1) (by omega)
    have e : head t.val t.isLt = head (t.val - 1) (by omega) := Fin.ext (by dsimp only; omega)
    rw [outsAt0_B m c t h0, e]
    refine (outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) _ _ (fun h => h0 ((hcond0_0 t).mp h))).trans ?_
    rw [e1, e2]

theorem read_q (c : Dev nD) (t : Fin cfg0.N) (r : Fin 256) (l : Fin 384) : iblk m c 0 t (ix2 r l)
    = m ((c : Thread nD τ).loc main_arg0) (ix3 ⟨t.val / 32, by have := t.isLt; have : cfg0.N = 64 := N_0; omega⟩ ⟨256 * (t.val % 16) + r.val, by omega⟩ ⟨384 * (t.val / 16 % 2) + l.val, by omega⟩) := by
  blk_simp [iblk, idx t]
  entry_read
  pointwise
  blk_ext [idx t]

theorem read_k (c : Dev nD) (t : Fin cfg0.N) (r : Fin 4096) (l : Fin 128) : iblk m c 1 t (ix2 r l)
    = m ((c : Thread nD τ).loc main_arg1) (ix3 ⟨t.val / 32, by have := t.isLt; have : cfg0.N = 64 := N_0; omega⟩ ⟨r.val, by omega⟩ ⟨128 * (t.val / 16 % 2) + l.val, by omega⟩) := by
  blk_simp [iblk, idx t]
  entry_read
  pointwise
  blk_ext [idx t]

theorem read_v (c : Dev nD) (t : Fin cfg0.N) (r : Fin 4096) (l : Fin 128) : iblk m c 2 t (ix2 r l)
    = m ((c : Thread nD τ).loc main_arg2) (ix3 ⟨t.val / 32, by have := t.isLt; have : cfg0.N = 64 := N_0; omega⟩ ⟨r.val, by omega⟩ ⟨128 * (t.val / 16 % 2) + l.val, by omega⟩) := by
  blk_simp [iblk, idx t]
  entry_read
  pointwise
  blk_ext [idx t]

theorem read_ck (c : Dev nD) (t : Fin cfg0.N) (r : Fin 256) (l : Fin 128) : iblk m c 3 t (ix5 0 0 0 r l)
    = m ((c : Thread nD τ).loc main_arg3) (ix5 ⟨t.val / 32, by have := t.isLt; have : cfg0.N = 64 := N_0; omega⟩ 0 ⟨t.val / 16 % 2, by omega⟩ r l) := by
  blk_ext [iblk, V, idx t]

theorem read_cv (c : Dev nD) (t : Fin cfg0.N) (r : Fin 256) (l : Fin 128) : iblk m c 4 t (ix5 0 0 0 r l)
    = m ((c : Thread nD τ).loc main_arg4) (ix5 ⟨t.val / 32, by have := t.isLt; have : cfg0.N = 64 := N_0; omega⟩ 0 ⟨t.val / 16 % 2, by omega⟩ r l) := by
  blk_ext [iblk, V, idx t]

/-- A dot product of reals, scaled after the sum or inside it. -/
theorem scaled (n : ℕ) (a b : Fin n → EReal) (ha : ∀ l, ∃ x : ℝ, a l = x) (hb : ∀ l, ∃ x : ℝ, b l = x) (C L : ℝ) :
    ∃ t : ℝ, (∑ l, a l * b l) * (C : EReal) = t ∧ ∑ l, a l * ((C * L : ℝ) : EReal) * b l = ((L * t : ℝ) : EReal) := by
  choose f hf using ha
  choose g hg using hb
  have co : ∀ h : Fin n → ℝ, ∑ l, ((h l : ℝ) : EReal) = ((∑ l, h l : ℝ) : EReal) := fun h =>
    (map_sum (⟨⟨Real.toEReal, EReal.coe_zero⟩, EReal.coe_add⟩ : ℝ →+ EReal) _ _).symm
  refine ⟨(∑ l, f l * g l) * C, ?_, ?_⟩
  · simp only [hf, hg, ← EReal.coe_mul, co]
  · simp only [hf, hg, ← EReal.coe_mul, co]
    rw [Finset.sum_mul, Finset.mul_sum]
    exact congrArg _ (Finset.sum_congr rfl fun l _ => by ring)

open Cert.ReferenceIdeal.Attn (joined scores out joined_apply scores_apply out_apply)

/-- The keys a group's scratch holds are the reference's joined keys. -/
theorem keys_joined (c : Dev nD) (t : Fin cfg0.N) (j : Fin 4352) (d : Fin 128) :
    keysOf (iblk m c 1 (head t.val t.isLt)) (iblk m c 3 (head t.val t.isLt)) (ix2 j d)
      = joined (m ((c : Thread nD τ).loc main_arg1)) (m ((c : Thread nD τ).loc main_arg3))
          (ix4 ⟨t.val / 32, by have := t.isLt; have : cfg0.N = 64 := N_0; omega⟩ ⟨t.val / 16 % 2, by omega⟩ j d) := by
  have e1 : 16 * (t.val / 16) / 32 = t.val / 32 := by omega
  have e2 : 16 * (t.val / 16) / 16 % 2 = t.val / 16 % 2 := by omega
  rw [keysOf_apply, joined_apply]
  split
  · refine (read_k m c _ _ d).trans ?_
    simp only [head, e1, e2]
  · refine (read_ck m c _ _ d).trans ?_
    simp only [head, e1, e2]

/-- The values a group's scratch holds are the reference's joined values, and ones beside them. -/
theorem vals_joined (c : Dev nD) (t : Fin cfg0.N) (j : Fin 4352) (d : Fin 256) :
    valsOf (iblk m c 2 (head t.val t.isLt)) (iblk m c 4 (head t.val t.isLt)) (ix2 j d)
      = if h : d.val < 128 then joined (m ((c : Thread nD τ).loc main_arg2)) (m ((c : Thread nD τ).loc main_arg4))
          (ix4 ⟨t.val / 32, by have := t.isLt; have : cfg0.N = 64 := N_0; omega⟩ ⟨t.val / 16 % 2, by omega⟩ j ⟨d.val, h⟩) else 1 := by
  have e1 : 16 * (t.val / 16) / 32 = t.val / 32 := by omega
  have e2 : 16 * (t.val / 16) / 16 % 2 = t.val / 16 % 2 := by omega
  rw [valsOf_apply]
  split
  · rw [joined_apply]
    split
    · refine (read_v m c _ _ _).trans ?_
      simp only [head, e1, e2]
    · refine (read_cv m c _ _ _).trans ?_
      simp only [head, e1, e2]
  · rfl

variable (hq : ∀ (c : Dev nD) x, ∃ r : ℝ, m ((c : Thread nD τ).loc main_arg0) x = (r : EReal))
  (hk : ∀ (c : Dev nD) x, ∃ r : ℝ, m ((c : Thread nD τ).loc main_arg1) x = (r : EReal))
  (hz : ∀ (c : Dev nD) x, ∃ r : ℝ, m ((c : Thread nD τ).loc main_arg3) x = (r : EReal))
include hq hk hz

/-- One element of a written block is the reference's. -/
theorem element (c : Dev nD) (t : Fin cfg0.N) (r : Fin 256) (l : Fin 384) :
    (outsAt0 m c t.val t.isLt).1 (ix2 r l)
      = out (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨256 * (16 * (t.val / 32) + t.val % 16) + r.val, by have := t.isLt; have : cfg0.N = 64 := N_0; omega⟩
            ⟨384 * (t.val / 16 % 2) + l.val, by omega⟩) := by
  have hN : cfg0.N = 64 := N_0
  have ht := t.isLt
  have hjr : ∀ b g j d, ∃ x : ℝ, joined (m ((c : Thread nD τ).loc main_arg1)) (m ((c : Thread nD τ).loc main_arg3)) (ix4 b g j d) = (x : EReal) := by
    intro b g j d
    rw [joined_apply]
    split
    · exact hk c _
    · exact hz c _
  have key : ∀ j : Fin 4352, ∃ x : ℝ,
      scores (m ((c : Thread nD τ).loc main_arg0)) (joined (m ((c : Thread nD τ).loc main_arg1)) (m ((c : Thread nD τ).loc main_arg3)))
        (ix5 ⟨t.val / 32, by omega⟩ ⟨t.val / 16 % 2, by omega⟩ ⟨l.val / 128, by omega⟩ ⟨256 * (t.val % 16) + r.val, by omega⟩ j) = (x : EReal)
      ∧ ∑ k : Fin 128, queries (iblk m c 0 t) (ix2 ⟨256 * (l.val / 128) + r.val, by omega⟩ k)
          * keysOf (iblk m c 1 (head t.val t.isLt)) (iblk m c 3 (head t.val t.isLt)) (ix2 j k) = (((Real.log 2)⁻¹ * x : ℝ) : EReal) := by
    intro j
    obtain ⟨x, h1, h2⟩ := scaled 128
      (fun d => m ((c : Thread nD τ).loc main_arg0) (ix3 ⟨t.val / 32, by omega⟩ ⟨256 * (t.val % 16) + r.val, by omega⟩ ⟨128 * (3 * (t.val / 16 % 2) + l.val / 128) + d.val, by omega⟩))
      (fun d => joined (m ((c : Thread nD τ).loc main_arg1)) (m ((c : Thread nD τ).loc main_arg3)) (ix4 ⟨t.val / 32, by omega⟩ ⟨t.val / 16 % 2, by omega⟩ j d))
      (fun _ => hq c _) (fun _ => hjr _ _ _ _) (11863283 / 134217728) (Real.log 2)⁻¹
    refine ⟨x, (scores_apply ..).trans h1, Eq.trans (Finset.sum_congr rfl fun d _ => ?_) h2⟩
    rw [keys_joined, queries_apply]
    refine congrArg (· * _ * _) ((read_q m c t _ _).trans (congrArg _ (congrArg₂ (ix3 _) (Fin.ext ?_) (Fin.ext ?_))))
    · dsimp only; omega
    · dsimp only; omega
  choose x hx1 hx2 using key
  set T : ℕ → ℝ := fun j => if h : j < 4352 then x ⟨j, h⟩ else 0 with hT
  have hTx : ∀ j : Fin 4352, T j.val = x j := fun j => dif_pos j.isLt
  set W : Fin 256 → ℕ → EReal := fun d j => if h : j < 4352 then
    valsOf (iblk m c 2 (head t.val t.isLt)) (iblk m c 4 (head t.val t.isLt)) (ix2 ⟨j, h⟩ d) else 1 with hW
  have spec : ∀ d, sums (queries (iblk m c 0 t)) (keysOf (iblk m c 1 (head t.val t.isLt)) (iblk m c 3 (head t.val t.isLt)))
        (valsOf (iblk m c 2 (head t.val t.isLt)) (iblk m c 4 (head t.val t.isLt))) (ix2 ⟨256 * (l.val / 128) + r.val, by omega⟩ d)
      = acc (fun j => (Real.log 2)⁻¹ * T j) (W d) 4352 :=
    sums_spec _ _ _ _ _ _ (fun j hj => by rw [hx2, ← hTx]) (fun d j hj => by simp only [hW, dif_pos hj])
  rw [block, blockOf_apply, spec, spec]
  rw [quotient (fun j => (Real.log 2)⁻¹ * T j) (W ⟨l.val % 128, by omega⟩) T (Real.log 2)⁻¹
    (mul_inv_cancel₀ (Real.log_pos (by norm_num)).ne') 4352 (by norm_num) (fun _ => rfl) _ (fun j => ?_)]
  · refine Eq.trans ?_ (out_apply _ _ _ _ _ ⟨t.val / 32, by omega⟩ ⟨t.val / 16 % 2, by omega⟩ ⟨l.val / 128, by omega⟩
      ⟨256 * (t.val % 16) + r.val, by omega⟩ ⟨l.val % 128, by omega⟩ _ _ ?_ ?_ T (fun j => by rw [hx1, hTx])).symm
    · refine Finset.sum_congr rfl fun j _ => congrArg _ ?_
      refine (dif_pos j.isLt).trans ((vals_joined m c t j _).trans (dif_pos ?_))
      dsimp only; omega
    · dsimp only; omega
    · dsimp only; omega
  · show W _ j = 1
    rw [hW]
    dsimp only
    split
    · exact (vals_joined m c t _ _).trans (dif_neg (by dsimp only; omega))
    · rfl

theorem final (c : Dev nD) : (dats m 0 c).arrAt 5 cfg0.N
    = out (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (element m hq hk hz c t _ _).trans (congrArg _ ?_)
  blk_ext [idx t]
end Cert.KernelIdeal.Final
end
-- ==== Proof.Finite.lean ====
module

public import proofs.«01_k».proof.Proof.Gen.Pre_finite_scores
public import Idealize.ShloMosaic.Lib.ReduceAll
public import Idealize.ShloMosaic.Lib.Pipeline.ValueKit
@[expose] public section
noncomputable section
open Idealize.ShloMosaic
namespace Cert.Pre_finite_scores.Real
open Cert.Pre_finite_scores Cert.Pre_finite_scores.Gen

theorem real_of_lt (x : EReal) (h : Ideal.cmp .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  induction x with
  | bot => simp [Ideal.cmp] at h
  | top => simp [Ideal.cmp] at h
  | coe r => exact ⟨r, rfl⟩

instance : Subsingleton S_.Idx := ⟨fun a b => funext fun i => i.elim0⟩

/-- The precondition makes every query and key a real number. -/
theorem reals (q : FVec Ideal S2x4096x768 .f32) (k v : FVec Ideal S2x4096x256 .f32) (z w : FVec Ideal S2x2x2x256x128 .f32)
    (h : fn (F := Ideal) q k v z w = fun _ => 1#1) :
    (∀ x, ∃ r : ℝ, q x = (r : EReal)) ∧ (∀ x, ∃ r : ℝ, k x = (r : EReal)) ∧ ∀ x, ∃ r : ℝ, z x = (r : EReal) := by
  have e := congrFun h (fun i => i.elim0)
  have split : ∀ a b : BitVec 1, a &&& b = 1#1 → a = 1#1 ∧ b = 1#1 := by decide
  obtain ⟨e12, e3⟩ := split _ _ e
  obtain ⟨e1, e2⟩ := split _ _ e12
  exact ⟨fun x => real_of_lt _ (Host.reduce_andi_all _ _ _ _ _ e1 x), fun x => real_of_lt _ (Host.reduce_andi_all _ _ _ _ _ e2 x),
    fun x => real_of_lt _ (Host.reduce_andi_all _ _ _ _ _ e3 x)⟩
end Cert.Pre_finite_scores.Real
end
-- ==== Proof.Experts.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Reference2Ideal.Experts
open Cert.Reference2Ideal Cert.Reference2Ideal.Gen

/-- Every expert's product of its rows with its weight matrix. -/
def product (w : FVec Ideal S2x16x2048x2048 .f32) (x : FVec Ideal S2x16x512x2048 .f32) : FVec Ideal S2x16x512x2048 .f32 :=
  transpose S2x16x512x2048 [2, 0, 3, 1] (Host.dotGeneral dot_S16x2048x2048_S2x16x512x2048_S16x2048x2x512_1_3_2_02_0_1 none (shapeCast _ (extractStridedSlice S1x16x2048x2048 ![0, 0, 0, 0] w slices_S2x16x2048x2048_S1x16x2048x2048_0_0_0_0) shapeCasts_S1x16x2048x2048_S16x2048x2048) x) transposes_S16x2048x2x512_S2x16x512x2048_2_0_3_1

/-- The gate through its SiLU, times the up projection. -/
def gated (G U : FVec Ideal S2x16x512x2048 .f32) : FVec Ideal S2x16x512x2048 .f32 :=
  mulf (mulf G (Host.divf (broadcastInDim S2x16x512x2048 ![] bcast_S_S2x16x512x2048 (constant S_ .f32 0x3F800000#32)) (addf (broadcastInDim S2x16x512x2048 ![] bcast_S_S2x16x512x2048 (constant S_ .f32 0x3F800000#32)) (Host.exp (Host.negf G))))) U

/-- The two batches' rows of an expert, one below the other. -/
def stacked (y : FVec Ideal S2x16x512x2048 .f32) : FVec Ideal S16x1024x2048 .bf16 :=
  truncf .bf16 (shapeCast _ (transpose S16x2x512x2048 [1, 0, 2, 3] y transposes_S2x16x512x2048_S16x2x512x2048_1_0_2_3) shapeCasts_S16x2x512x2048_S16x1024x2048) bitsLt_bf16_f32

def out (x : FVec Ideal S2x16x512x2048 .f32) (wg wu wd : FVec Ideal S2x16x2048x2048 .f32) : FVec Ideal S16x1024x2048 .bf16 :=
  stacked (product wd (gated (product wg x) (product wu x)))

theorem product_apply (w : FVec Ideal S2x16x2048x2048 .f32) (x : FVec Ideal S2x16x512x2048 .f32) (b : Fin 2) (e : Fin 16) (s : Fin 512) (f : Fin 2048) :
    product w x (ix4 b e s f) = ∑ d : Fin 2048, x (ix4 b e s d) * w (ix4 0 e d f) := by
  pointwise [product]
  exact Finset.sum_congr rfl fun d _ => mul_comm _ _

theorem gated_apply (G U : FVec Ideal S2x16x512x2048 .f32) (b : Fin 2) (e : Fin 16) (s : Fin 512) (f : Fin 2048) :
    gated G U (ix4 b e s f) = G (ix4 b e s f) * Ideal.logistic (G (ix4 b e s f)) * U (ix4 b e s f) := by
  pointwise [gated]
  rfl

theorem stacked_apply (y : FVec Ideal S2x16x512x2048 .f32) (e : Fin 16) (r : Fin 1024) (l : Fin 2048) :
    stacked y (ix3 e r l) = y (ix4 ⟨r.val / 512, by omega⟩ e ⟨r.val % 512, by omega⟩ l) := by
  pointwise [stacked]

theorem out_apply (x : FVec Ideal S2x16x512x2048 .f32) (wg wu wd : FVec Ideal S2x16x2048x2048 .f32) (e : Fin 16) (r : Fin 1024) (l : Fin 2048) :
    out x wg wu wd (ix3 e r l) = ∑ f : Fin 2048,
      ((∑ d : Fin 2048, x (ix4 ⟨r.val / 512, by omega⟩ e ⟨r.val % 512, by omega⟩ d) * wg (ix4 0 e d f))
        * Ideal.logistic (∑ d : Fin 2048, x (ix4 ⟨r.val / 512, by omega⟩ e ⟨r.val % 512, by omega⟩ d) * wg (ix4 0 e d f))
        * ∑ d : Fin 2048, x (ix4 ⟨r.val / 512, by omega⟩ e ⟨r.val % 512, by omega⟩ d) * wu (ix4 0 e d f)) * wd (ix4 0 e f l) := by
  rw [out, stacked_apply, product_apply]
  simp only [gated_apply, product_apply]
end Cert.Reference2Ideal.Experts

namespace Cert.Kernel2Ideal.Experts
open Cert.Kernel2Ideal Cert.Kernel2Ideal.Gen
variable (m : (ℓ : Loc nD τ sig) → Buf (Elt Ideal) ℓ)

theorem idx : ∀ t : Fin cfg0.N, win0_0.index t = ![t.val / 4, 0, 0] ∧ win0_1.index t = ![0, t.val / 4, 0, t.val % 4]
    ∧ win0_2.index t = ![0, t.val / 4, 0, t.val % 4] ∧ win0_3.index t = ![0, t.val / 4, t.val % 4, 0] ∧ win0_4.index t = ![t.val / 4, 0, 0] :=
  (by decide +kernel : ∀ t : Fin grid0.N, _)

theorem zero_fill (r : Fin 1024) (l : Fin 2048) : k0_pay2 (F := Ideal) (ix2 r l) = 0 := by
  pointwise [k0_pay2]

theorem part (x : Vec Ideal S1x1024x2048 .bf16) (g u : Vec Ideal S1x1x2048x512 .f32) (a : Vec Ideal S1024x2048 .f32) (w : Vec Ideal S1x1x512x2048 .f32)
    (r : Fin 1024) (l : Fin 2048) :
    k0_pay3 x g u a w (ix2 r l) = a (ix2 r l) + ∑ k : Fin 512,
      ((∑ d : Fin 2048, x (ix3 0 r d) * g (ix4 0 0 d k)) * Ideal.logistic (∑ d : Fin 2048, x (ix3 0 r d) * g (ix4 0 0 d k))
        * ∑ d : Fin 2048, x (ix3 0 r d) * u (ix4 0 0 d k)) * w (ix4 0 0 k l) := by
  pointwise [k0_pay3]

theorem cast_out (a : Vec Ideal S1024x2048 .f32) (z : Fin 1) (r : Fin 1024) (l : Fin 2048) : k0_pay1 a (ix3 z r l) = a (ix2 r l) := by
  pointwise [k0_pay1]
theorem read_x (c : Dev nD) (t : Fin cfg0.N) (r : Fin 1024) (d : Fin 2048) : iblk m c 0 t (ix3 0 r d)
    = m ((c : Thread nD τ).loc main_arg0) (ix4 ⟨r.val / 512, by omega⟩ ⟨t.val / 4, by have := t.isLt; have : cfg0.N = 64 := N_0; omega⟩ ⟨r.val % 512, by omega⟩ d) := by
  blk_simp [iblk, idx t]
  entry_read
  pointwise
  blk_ext [idx t]

theorem read_gate (c : Dev nD) (t : Fin cfg0.N) (d : Fin 2048) (k : Fin 512) : iblk m c 1 t (ix4 0 0 d k)
    = m ((c : Thread nD τ).loc main_arg1) (ix4 0 ⟨t.val / 4, by have := t.isLt; have : cfg0.N = 64 := N_0; omega⟩ d ⟨t.val % 4 * 512 + k.val, by omega⟩) := by
  blk_ext [iblk, V, idx t]

theorem read_up (c : Dev nD) (t : Fin cfg0.N) (d : Fin 2048) (k : Fin 512) : iblk m c 2 t (ix4 0 0 d k)
    = m ((c : Thread nD τ).loc main_arg2) (ix4 0 ⟨t.val / 4, by have := t.isLt; have : cfg0.N = 64 := N_0; omega⟩ d ⟨t.val % 4 * 512 + k.val, by omega⟩) := by
  blk_ext [iblk, V, idx t]

theorem read_down (c : Dev nD) (t : Fin cfg0.N) (k : Fin 512) (l : Fin 2048) : iblk m c 3 t (ix4 0 0 k l)
    = m ((c : Thread nD τ).loc main_arg3) (ix4 0 ⟨t.val / 4, by have := t.isLt; have : cfg0.N = 64 := N_0; omega⟩ ⟨t.val % 4 * 512 + k.val, by omega⟩ l) := by
  blk_ext [iblk, V, idx t]

/-- What one point adds to the running sum. -/
def added (x : Vec Ideal S1x1024x2048 .bf16) (g u : Vec Ideal S1x1x2048x512 .f32) (w : Vec Ideal S1x1x512x2048 .f32) : Vec Ideal S1024x2048 .f32 :=
  k0_pay3 x g u (k0_pay2 (F := Ideal)) w

theorem added_apply (x : Vec Ideal S1x1024x2048 .bf16) (g u : Vec Ideal S1x1x2048x512 .f32) (w : Vec Ideal S1x1x512x2048 .f32) (r : Fin 1024) (l : Fin 2048) :
    added x g u w (ix2 r l) = ∑ k : Fin 512,
      ((∑ d : Fin 2048, x (ix3 0 r d) * g (ix4 0 0 d k)) * Ideal.logistic (∑ d : Fin 2048, x (ix3 0 r d) * g (ix4 0 0 d k))
        * ∑ d : Fin 2048, x (ix3 0 r d) * u (ix4 0 0 d k)) * w (ix4 0 0 k l) := by
  rw [added, part, zero_fill, zero_add]

theorem part_added (x : Vec Ideal S1x1024x2048 .bf16) (g u : Vec Ideal S1x1x2048x512 .f32) (a : Vec Ideal S1024x2048 .f32) (w : Vec Ideal S1x1x512x2048 .f32)
    (r : Fin 1024) (l : Fin 2048) : k0_pay3 x g u a w (ix2 r l) = a (ix2 r l) + added x g u w (ix2 r l) := by
  rw [part, added_apply]

/-- One element of the running sum after an expert's last point. -/
theorem scratch (c : Dev nD) (t : Fin cfg0.N) (ht : t.val % 4 = 3) (r : Fin 1024) (l : Fin 2048) :
    (outsAt0 m c t.val t.isLt).2 (ix2 r l) = Cert.Reference2Ideal.Experts.out (m ((c : Thread nD τ).loc main_arg0)) (m ((c : Thread nD τ).loc main_arg1))
      (m ((c : Thread nD τ).loc main_arg2)) (m ((c : Thread nD τ).loc main_arg3)) (ix3 ⟨t.val / 4, by have := t.isLt; have : cfg0.N = 64 := N_0; omega⟩ r l) := by
  have hN : cfg0.N = 64 := N_0
  have hl := t.isLt
  rw [Pipeline.eq_sum_fin_of_reset_step_apply_of_flush (fun n h => (outsAt0 m c n h).2) 4 (fun _ => 0)
    (fun t => added (iblk m c 0 t) (iblk m c 1 t) (iblk m c 2 t) (iblk m c 3 t))
    (fun t h j => by
      rw [outsAt0_A m c t h (by omega)]
      idx_vars j
      frame_out
      rw [part_added, zero_fill])
    (fun t h j => by
      by_cases h3 : t.val % 4 = 3
      · rw [outsAt0_C m c t h h3]
        idx_vars j
        frame_out
        rw [part_added, Idealize.ShloMosaic.read_unread_whole]
      · rw [outsAt0_B m c t h h3]
        idx_vars j
        frame_out
        rw [part_added, Idealize.ShloMosaic.read_unread_whole])
    t ht _, zero_add, Cert.Reference2Ideal.Experts.out_apply]
  simp only [added_apply]
  refine Fin.sum_mul_add_congr fun s k hl => ?_
  have e : (4 * (t.val / 4) + s.val) / 4 = t.val / 4 := by omega
  have e2 : (4 * (t.val / 4) + s.val) % 4 = s.val := by omega
  simp only [read_x, read_gate, read_up, read_down, e, e2]

theorem final (c : Dev nD) : (dats m 0 c).arrAt 4 cfg0.N
    = Cert.Reference2Ideal.Experts.out (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have h3 := (flush0_4 t).mp hf
  blk_simp
  rw [after0_4]
  idx_vars y
  refine Eq.trans ?_ ((scratch m c t h3 y1 y2).trans (congrArg _ ?_))
  · rw [outsAt0_C m c t (by omega) h3]
    frame_out
    exact cast_out _ _ _ _
  · blk_ext [idx t]
end Cert.Kernel2Ideal.Experts
end
-- ==== Proof.ProjRef.lean ====
module

public import proofs.«01_k».proof.Proof.Gen.Reference3Ideal.Run
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.Rows

/-- A row over the root of its mean square, times a gain. `c` is the row's length. -/
def normed {n : ℕ} (c : EReal) (z g : Fin n → EReal) (l : Fin n) : EReal :=
  z l * Ideal.rsqrt (Ideal.div (∑ k, z k * z k) c + Ideal.ofBits .f32 0x358637BD#32) * g l

/-- A token's modulated norm. -/
def hidden (x g a b : Fin 2048 → EReal) (d : Fin 2048) : EReal :=
  normed (Ideal.ofBits .f32 0x45000000#32) x g d * (1 + a d) + b d

/-- One entry of its projection. -/
def entry (x g a b w : Fin 2048 → EReal) : EReal := ∑ d, hidden x g a b d * w d
end Cert.Rows

namespace Cert.Reference3Ideal.Proj
open Cert.Reference3Ideal Cert.Reference3Ideal.Gen Cert.Reference3Ideal.Value Cert.Rows

/-- The modulated norm of every token. -/
def hid (x : FVec Ideal S32x256x2048 .f32) (e : FVec Ideal S8x12288 .f32) (g : FVec Ideal S2048 .f32) : FVec Ideal S32x256x2048 .f32 :=
  addf (mulf (mulf (mulf x (broadcastInDim S32x256x2048 ![0, 1, 2] bcast_S32x256x1_S32x256x2048_0_1_2 (Host.rsqrt (addf (Host.divf (broadcastInDim S32x256x1 ![0, 1] bcast_S32x256_S32x256x1_0_1 (Host.reduceAdd (mulf x x) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))))) (broadcastInDim S32x256x2048 ![0, 1, 2] bcast_S1x1x2048_S32x256x2048_0_1_2 (broadcastInDim S1x1x2048 ![2] bcast_S2048_S1x1x2048_2 g))) (broadcastInDim S32x256x2048 ![0, 1, 2] bcast_S1x1x2048_S32x256x2048_0_1_2 (addf (broadcastInDim S1x1x2048 ![] bcast_S_S1x1x2048 (constant S_ .f32 0x3F800000#32)) (broadcastInDim S1x1x2048 ![0, 2] bcast_S1x2048_S1x1x2048_0_2 (extractStridedSlice S1x2048 ![0, 2048] (extractStridedSlice S1x12288 ![0, 0] e slices_S8x12288_S1x12288_0_0) slices_S1x12288_S1x2048_0_2048))))) (broadcastInDim S32x256x2048 ![0, 1, 2] bcast_S1x1x2048_S32x256x2048_0_1_2 (broadcastInDim S1x1x2048 ![0, 2] bcast_S1x2048_S1x1x2048_0_2 (extractStridedSlice S1x2048 ![0, 0] (extractStridedSlice S1x12288 ![0, 0] e slices_S8x12288_S1x12288_0_0) slices_S1x12288_S1x2048_0_0)))

/-- Its projection. -/
def proj (h : FVec Ideal S32x256x2048 .f32) (w : FVec Ideal S2048x5120 .f32) : FVec Ideal S32x256x5120 .f32 :=
  Host.dotGeneral dot_S32x256x2048_S2048x5120_S32x256x5120_2_0_01_1_n_n none h w

/-- Six heads of a projection. -/
def heads6 (y : FVec Ideal S32x256x768 .f32) : FVec Ideal S32x6x256x128 .f32 :=
  transpose S32x6x256x128 [0, 2, 1, 3] (shapeCast _ y shapeCasts_S32x256x768_S32x256x6x128) transposes_S32x256x6x128_S32x6x256x128_0_2_1_3

/-- Two heads of a projection. -/
def heads2 (y : FVec Ideal S32x256x256 .f32) : FVec Ideal S32x2x256x128 .f32 :=
  transpose S32x2x256x128 [0, 2, 1, 3] (shapeCast _ y shapeCasts_S32x256x256_S32x256x2x128) transposes_S32x256x2x128_S32x2x256x128_0_2_1_3

/-- Every head's norm. -/
def unit6 (T : FVec Ideal S32x6x256x128 .f32) (g : FVec Ideal S128 .f32) : FVec Ideal S32x6x256x128 .f32 :=
  mulf (mulf T (broadcastInDim S32x6x256x128 ![0, 1, 2, 3] bcast_S32x6x256x1_S32x6x256x128_0_1_2_3 (Host.rsqrt (addf (Host.divf (broadcastInDim S32x6x256x1 ![0, 1, 2] bcast_S32x6x256_S32x6x256x1_0_1_2 (Host.reduceAdd (mulf T T) (constant S_ .f32 0x00000000#32) reducesTo_S32x6x256x128_S32x6x256_d3 h_S_)) (broadcastInDim S32x6x256x1 ![] bcast_S_S32x6x256x1 (constant S_ .f32 0x43000000#32))) (broadcastInDim S32x6x256x1 ![] bcast_S_S32x6x256x1 (constant S_ .f32 0x358637BD#32)))))) (broadcastInDim S32x6x256x128 ![0, 1, 2, 3] bcast_S1x1x1x128_S32x6x256x128_0_1_2_3 (broadcastInDim S1x1x1x128 ![3] bcast_S128_S1x1x1x128_3 g))

def unit2 (T : FVec Ideal S32x2x256x128 .f32) (g : FVec Ideal S128 .f32) : FVec Ideal S32x2x256x128 .f32 :=
  mulf (mulf T (broadcastInDim S32x2x256x128 ![0, 1, 2, 3] bcast_S32x2x256x1_S32x2x256x128_0_1_2_3 (Host.rsqrt (addf (Host.divf (broadcastInDim S32x2x256x1 ![0, 1, 2] bcast_S32x2x256_S32x2x256x1_0_1_2 (Host.reduceAdd (mulf T T) (constant S_ .f32 0x00000000#32) reducesTo_S32x2x256x128_S32x2x256_d3 h_S_)) (broadcastInDim S32x2x256x1 ![] bcast_S_S32x2x256x1 (constant S_ .f32 0x43000000#32))) (broadcastInDim S32x2x256x1 ![] bcast_S_S32x2x256x1 (constant S_ .f32 0x358637BD#32)))))) (broadcastInDim S32x2x256x128 ![0, 1, 2, 3] bcast_S1x1x1x128_S32x2x256x128_0_1_2_3 (broadcastInDim S1x1x1x128 ![3] bcast_S128_S1x1x1x128_3 g))

/-- Heads side by side, scaled. -/
def flat (U : FVec Ideal S32x6x256x128 .f32) : FVec Ideal S8192x768 .bf16 :=
  truncf .bf16 (mulf (shapeCast _ (transpose S32x256x6x128 [0, 2, 1, 3] U transposes_S32x6x256x128_S32x256x6x128_0_2_1_3) shapeCasts_S32x256x6x128_S8192x768) (broadcastInDim S8192x768 ![] bcast_S_S8192x768 (constant S_ .f32 0x3E0293EE#32))) bitsLt_bf16_f32

theorem hid_apply (x : FVec Ideal S32x256x2048 .f32) (e : FVec Ideal S8x12288 .f32) (g : FVec Ideal S2048 .f32) (b : Fin 32) (s : Fin 256) (d : Fin 2048) :
    hid x e g (ix3 b s d) = hidden (fun k => x (ix3 b s k)) (fun k => g (ix1 k)) (fun k => e (ix2 0 ⟨2048 + k.val, by omega⟩)) (fun k => e (ix2 0 ⟨k.val, by omega⟩)) d := by
  pointwise [hid]
  rfl

theorem proj_apply (h : FVec Ideal S32x256x2048 .f32) (w : FVec Ideal S2048x5120 .f32) (b : Fin 32) (s : Fin 256) (e : Fin 5120) :
    proj h w (ix3 b s e) = ∑ d : Fin 2048, h (ix3 b s d) * w (ix2 d e) := by
  pointwise [proj]

theorem heads6_apply (y : FVec Ideal S32x256x768 .f32) (b : Fin 32) (h : Fin 6) (s : Fin 256) (l : Fin 128) :
    heads6 y (ix4 b h s l) = y (ix3 b s ⟨128 * h.val + l.val, by omega⟩) := by
  pointwise [heads6]
  blk_ext

theorem heads2_apply (y : FVec Ideal S32x256x256 .f32) (b : Fin 32) (h : Fin 2) (s : Fin 256) (l : Fin 128) :
    heads2 y (ix4 b h s l) = y (ix3 b s ⟨128 * h.val + l.val, by omega⟩) := by
  pointwise [heads2]
  blk_ext

theorem unit6_apply (T : FVec Ideal S32x6x256x128 .f32) (g : FVec Ideal S128 .f32) (b : Fin 32) (h : Fin 6) (s : Fin 256) (l : Fin 128) :
    unit6 T g (ix4 b h s l) = normed (Ideal.ofBits .f32 0x43000000#32) (fun k => T (ix4 b h s k)) (fun k => g (ix1 k)) l := by
  pointwise [unit6]
  rfl

theorem unit2_apply (T : FVec Ideal S32x2x256x128 .f32) (g : FVec Ideal S128 .f32) (b : Fin 32) (h : Fin 2) (s : Fin 256) (l : Fin 128) :
    unit2 T g (ix4 b h s l) = normed (Ideal.ofBits .f32 0x43000000#32) (fun k => T (ix4 b h s k)) (fun k => g (ix1 k)) l := by
  pointwise [unit2]
  rfl

theorem flat_apply (U : FVec Ideal S32x6x256x128 .f32) (r : Fin 8192) (e : Fin 768) :
    flat U (ix2 r e) = U (ix4 ⟨r.val / 256, by omega⟩ ⟨e.val / 128, by omega⟩ ⟨r.val % 256, by omega⟩ ⟨e.val % 128, by omega⟩) * Ideal.ofBits .f32 0x3E0293EE#32 := by
  pointwise [flat]
/-- The first part of the projection, for the filter. -/
def hy (x : FVec Ideal S32x256x2048 .f32) (e : FVec Ideal S8x12288 .f32) (n : FVec Ideal S2048 .f32) (w : FVec Ideal S2048x5120 .f32) : FVec Ideal S8192x1536 .f32 :=
  shapeCast _ (extractStridedSlice S32x256x1536 ![0, 0, 0] (proj (hid x e n) w) slices_S32x256x5120_S32x256x1536_0_0_0) shapeCasts_S32x256x1536_S8192x1536

theorem hy_apply (x : FVec Ideal S32x256x2048 .f32) (e : FVec Ideal S8x12288 .f32) (n : FVec Ideal S2048 .f32) (w : FVec Ideal S2048x5120 .f32) (r : Fin 8192) (l : Fin 1536) :
    hy x e n w (ix2 r l) = entry (fun k => x (ix3 ⟨r.val / 256, by omega⟩ ⟨r.val % 256, by omega⟩ k)) (fun k => n (ix1 k)) (fun k => e (ix2 0 ⟨2048 + k.val, by omega⟩)) (fun k => e (ix2 0 ⟨k.val, by omega⟩)) (fun d => w (ix2 d ⟨l.val, by omega⟩)) := by
  rw [hy]
  pointwise
  simp only [proj_apply, hid_apply]
  rfl

theorem naq_head (x : FVec Ideal S32x256x2048 .f32) (e : FVec Ideal S8x12288 .f32) (n : FVec Ideal S2048 .f32) (w : FVec Ideal S2048x5120 .f32) (b : Fin 32) (h : Fin 6) (s : Fin 256) (l : Fin 128) :
    heads6 (extractStridedSlice S32x256x768 ![0, 0, 1536] (proj (hid x e n) w) slices_S32x256x5120_S32x256x768_0_0_1536) (ix4 b h s l) = entry (fun k => x (ix3 b s k)) (fun k => n (ix1 k)) (fun k => e (ix2 0 ⟨2048 + k.val, by omega⟩)) (fun k => e (ix2 0 ⟨k.val, by omega⟩)) (fun d => w (ix2 d ⟨1536 + (128 * h.val + l.val), by omega⟩)) := by
  rw [heads6_apply]
  pointwise
  simp only [proj_apply, hid_apply]
  rfl

def naq (x : FVec Ideal S32x256x2048 .f32) (e : FVec Ideal S8x12288 .f32) (n : FVec Ideal S2048 .f32) (w : FVec Ideal S2048x5120 .f32) (g : FVec Ideal S128 .f32) : FVec Ideal S8192x768 .bf16 :=
  flat (unit6 (heads6 (extractStridedSlice S32x256x768 ![0, 0, 1536] (proj (hid x e n) w) slices_S32x256x5120_S32x256x768_0_0_1536)) g)

theorem naq_apply (x : FVec Ideal S32x256x2048 .f32) (e : FVec Ideal S8x12288 .f32) (n : FVec Ideal S2048 .f32) (w : FVec Ideal S2048x5120 .f32) (g : FVec Ideal S128 .f32) (r : Fin 8192) (q : Fin 768) :
    naq x e n w g (ix2 r q) = normed (Ideal.ofBits .f32 0x43000000#32) (fun j : Fin 128 => entry (fun k => x (ix3 ⟨r.val / 256, by omega⟩ ⟨r.val % 256, by omega⟩ k)) (fun k => n (ix1 k)) (fun k => e (ix2 0 ⟨2048 + k.val, by omega⟩)) (fun k => e (ix2 0 ⟨k.val, by omega⟩)) (fun d => w (ix2 d ⟨1536 + (128 * (q.val / 128) + j.val), by omega⟩))) (fun k => g (ix1 k)) ⟨q.val % 128, by omega⟩ * Ideal.ofBits .f32 0x3E0293EE#32 := by
  rw [naq, flat_apply, unit6_apply]
  simp only [naq_head]

theorem gq_head (x : FVec Ideal S32x256x2048 .f32) (e : FVec Ideal S8x12288 .f32) (n : FVec Ideal S2048 .f32) (w : FVec Ideal S2048x5120 .f32) (b : Fin 32) (h : Fin 6) (s : Fin 256) (l : Fin 128) :
    heads6 (extractStridedSlice S32x256x768 ![0, 0, 3840] (proj (hid x e n) w) slices_S32x256x5120_S32x256x768_0_0_3840) (ix4 b h s l) = entry (fun k => x (ix3 b s k)) (fun k => n (ix1 k)) (fun k => e (ix2 0 ⟨2048 + k.val, by omega⟩)) (fun k => e (ix2 0 ⟨k.val, by omega⟩)) (fun d => w (ix2 d ⟨3840 + (128 * h.val + l.val), by omega⟩)) := by
  rw [heads6_apply]
  pointwise
  simp only [proj_apply, hid_apply]
  rfl

def gq (x : FVec Ideal S32x256x2048 .f32) (e : FVec Ideal S8x12288 .f32) (n : FVec Ideal S2048 .f32) (w : FVec Ideal S2048x5120 .f32) (g : FVec Ideal S128 .f32) : FVec Ideal S8192x768 .bf16 :=
  flat (unit6 (heads6 (extractStridedSlice S32x256x768 ![0, 0, 3840] (proj (hid x e n) w) slices_S32x256x5120_S32x256x768_0_0_3840)) g)

theorem gq_apply (x : FVec Ideal S32x256x2048 .f32) (e : FVec Ideal S8x12288 .f32) (n : FVec Ideal S2048 .f32) (w : FVec Ideal S2048x5120 .f32) (g : FVec Ideal S128 .f32) (r : Fin 8192) (q : Fin 768) :
    gq x e n w g (ix2 r q) = normed (Ideal.ofBits .f32 0x43000000#32) (fun j : Fin 128 => entry (fun k => x (ix3 ⟨r.val / 256, by omega⟩ ⟨r.val % 256, by omega⟩ k)) (fun k => n (ix1 k)) (fun k => e (ix2 0 ⟨2048 + k.val, by omega⟩)) (fun k => e (ix2 0 ⟨k.val, by omega⟩)) (fun d => w (ix2 d ⟨3840 + (128 * (q.val / 128) + j.val), by omega⟩))) (fun k => g (ix1 k)) ⟨q.val % 128, by omega⟩ * Ideal.ofBits .f32 0x3E0293EE#32 := by
  rw [gq, flat_apply, unit6_apply]
  simp only [gq_head]

theorem nak_head (x : FVec Ideal S32x256x2048 .f32) (e : FVec Ideal S8x12288 .f32) (n : FVec Ideal S2048 .f32) (w : FVec Ideal S2048x5120 .f32) (b : Fin 32) (h : Fin 6) (s : Fin 256) (l : Fin 128) :
    heads6 (extractStridedSlice S32x256x768 ![0, 0, 2304] (proj (hid x e n) w) slices_S32x256x5120_S32x256x768_0_0_2304) (ix4 b h s l) = entry (fun k => x (ix3 b s k)) (fun k => n (ix1 k)) (fun k => e (ix2 0 ⟨2048 + k.val, by omega⟩)) (fun k => e (ix2 0 ⟨k.val, by omega⟩)) (fun d => w (ix2 d ⟨2304 + (128 * h.val + l.val), by omega⟩)) := by
  rw [heads6_apply]
  pointwise
  simp only [proj_apply, hid_apply]
  rfl

def nak (x : FVec Ideal S32x256x2048 .f32) (e : FVec Ideal S8x12288 .f32) (n : FVec Ideal S2048 .f32) (w : FVec Ideal S2048x5120 .f32) (g : FVec Ideal S128 .f32) : FVec Ideal S32x6x256x128 .f32 :=
  unit6 (heads6 (extractStridedSlice S32x256x768 ![0, 0, 2304] (proj (hid x e n) w) slices_S32x256x5120_S32x256x768_0_0_2304)) g

theorem nak_apply (x : FVec Ideal S32x256x2048 .f32) (e : FVec Ideal S8x12288 .f32) (n : FVec Ideal S2048 .f32) (w : FVec Ideal S2048x5120 .f32) (g : FVec Ideal S128 .f32) (b : Fin 32) (h : Fin 6) (s : Fin 256) (l : Fin 128) :
    nak x e n w g (ix4 b h s l) = normed (Ideal.ofBits .f32 0x43000000#32) (fun j : Fin 128 => entry (fun k => x (ix3 b s k)) (fun k => n (ix1 k)) (fun k => e (ix2 0 ⟨2048 + k.val, by omega⟩)) (fun k => e (ix2 0 ⟨k.val, by omega⟩)) (fun d => w (ix2 d ⟨2304 + (128 * h.val + j.val), by omega⟩))) (fun k => g (ix1 k)) l := by
  rw [nak, unit6_apply]
  simp only [nak_head]

theorem nav_head (x : FVec Ideal S32x256x2048 .f32) (e : FVec Ideal S8x12288 .f32) (n : FVec Ideal S2048 .f32) (w : FVec Ideal S2048x5120 .f32) (b : Fin 32) (h : Fin 6) (s : Fin 256) (l : Fin 128) :
    heads6 (extractStridedSlice S32x256x768 ![0, 0, 3072] (proj (hid x e n) w) slices_S32x256x5120_S32x256x768_0_0_3072) (ix4 b h s l) = entry (fun k => x (ix3 b s k)) (fun k => n (ix1 k)) (fun k => e (ix2 0 ⟨2048 + k.val, by omega⟩)) (fun k => e (ix2 0 ⟨k.val, by omega⟩)) (fun d => w (ix2 d ⟨3072 + (128 * h.val + l.val), by omega⟩)) := by
  rw [heads6_apply]
  pointwise
  simp only [proj_apply, hid_apply]
  rfl

def nav (x : FVec Ideal S32x256x2048 .f32) (e : FVec Ideal S8x12288 .f32) (n : FVec Ideal S2048 .f32) (w : FVec Ideal S2048x5120 .f32) : FVec Ideal S32x6x256x128 .f32 :=
  heads6 (extractStridedSlice S32x256x768 ![0, 0, 3072] (proj (hid x e n) w) slices_S32x256x5120_S32x256x768_0_0_3072)

theorem gk_head (x : FVec Ideal S32x256x2048 .f32) (e : FVec Ideal S8x12288 .f32) (n : FVec Ideal S2048 .f32) (w : FVec Ideal S2048x5120 .f32) (b : Fin 32) (h : Fin 2) (s : Fin 256) (l : Fin 128) :
    heads2 (extractStridedSlice S32x256x256 ![0, 0, 4608] (proj (hid x e n) w) slices_S32x256x5120_S32x256x256_0_0_4608) (ix4 b h s l) = entry (fun k => x (ix3 b s k)) (fun k => n (ix1 k)) (fun k => e (ix2 0 ⟨2048 + k.val, by omega⟩)) (fun k => e (ix2 0 ⟨k.val, by omega⟩)) (fun d => w (ix2 d ⟨4608 + (128 * h.val + l.val), by omega⟩)) := by
  rw [heads2_apply]
  pointwise
  simp only [proj_apply, hid_apply]
  rfl

def gk (x : FVec Ideal S32x256x2048 .f32) (e : FVec Ideal S8x12288 .f32) (n : FVec Ideal S2048 .f32) (w : FVec Ideal S2048x5120 .f32) (g : FVec Ideal S128 .f32) : FVec Ideal S32x2x256x128 .f32 :=
  unit2 (heads2 (extractStridedSlice S32x256x256 ![0, 0, 4608] (proj (hid x e n) w) slices_S32x256x5120_S32x256x256_0_0_4608)) g

theorem gk_apply (x : FVec Ideal S32x256x2048 .f32) (e : FVec Ideal S8x12288 .f32) (n : FVec Ideal S2048 .f32) (w : FVec Ideal S2048x5120 .f32) (g : FVec Ideal S128 .f32) (b : Fin 32) (h : Fin 2) (s : Fin 256) (l : Fin 128) :
    gk x e n w g (ix4 b h s l) = normed (Ideal.ofBits .f32 0x43000000#32) (fun j : Fin 128 => entry (fun k => x (ix3 b s k)) (fun k => n (ix1 k)) (fun k => e (ix2 0 ⟨2048 + k.val, by omega⟩)) (fun k => e (ix2 0 ⟨k.val, by omega⟩)) (fun d => w (ix2 d ⟨4608 + (128 * h.val + j.val), by omega⟩))) (fun k => g (ix1 k)) l := by
  rw [gk, unit2_apply]
  simp only [gk_head]

theorem gv_head (x : FVec Ideal S32x256x2048 .f32) (e : FVec Ideal S8x12288 .f32) (n : FVec Ideal S2048 .f32) (w : FVec Ideal S2048x5120 .f32) (b : Fin 32) (h : Fin 2) (s : Fin 256) (l : Fin 128) :
    heads2 (extractStridedSlice S32x256x256 ![0, 0, 4864] (proj (hid x e n) w) slices_S32x256x5120_S32x256x256_0_0_4864) (ix4 b h s l) = entry (fun k => x (ix3 b s k)) (fun k => n (ix1 k)) (fun k => e (ix2 0 ⟨2048 + k.val, by omega⟩)) (fun k => e (ix2 0 ⟨k.val, by omega⟩)) (fun d => w (ix2 d ⟨4864 + (128 * h.val + l.val), by omega⟩)) := by
  rw [heads2_apply]
  pointwise
  simp only [proj_apply, hid_apply]
  rfl

def gv (x : FVec Ideal S32x256x2048 .f32) (e : FVec Ideal S8x12288 .f32) (n : FVec Ideal S2048 .f32) (w : FVec Ideal S2048x5120 .f32) : FVec Ideal S32x2x256x128 .f32 :=
  heads2 (extractStridedSlice S32x256x256 ![0, 0, 4864] (proj (hid x e n) w) slices_S32x256x5120_S32x256x256_0_0_4864)
end Cert.Reference3Ideal.Proj
end
-- ==== Proof.ProjPieces.lean ====
module

public import proofs.«01_k».proof.Proof.Gen.Kernel3Ideal.Frame
public import proofs.«01_k».proof.Proof.ProjRef
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.Kernel3Ideal.Proj
open Cert.Kernel3Ideal Cert.Kernel3Ideal.Gen Cert.Rows

theorem naq_5 (z : FVec Ideal S512x768 .f32) (g : FVec Ideal S1x128 .f32) (r : Fin 512) (l : Fin 128) :
    k0_pay62 (F := Ideal) g z (ix2 r l) = normed (Ideal.ofBits .f32 0x43000000#32) (fun k => z (ix2 r ⟨640 + k.val, by omega⟩)) (fun k => g (ix2 0 k)) l * Ideal.ofBits .f32 0x3E0293EE#32 := by
  pointwise [k0_pay62, normed]

theorem naq_4 (z : FVec Ideal S512x768 .f32) (g : FVec Ideal S1x128 .f32) (r : Fin 512) (l : Fin 128) :
    k0_pay54 (F := Ideal) g (k0_pay52 z) (k0_pay53 z) (ix2 r l) = normed (Ideal.ofBits .f32 0x43000000#32) (fun k => z (ix2 r ⟨512 + k.val, by omega⟩)) (fun k => g (ix2 0 k)) l * Ideal.ofBits .f32 0x3E0293EE#32 := by
  pointwise [k0_pay52, k0_pay53, k0_pay54, normed]

theorem naq_3 (z : FVec Ideal S512x768 .f32) (g : FVec Ideal S1x128 .f32) (r : Fin 512) (l : Fin 128) :
    k0_pay43 (F := Ideal) g z (ix2 r l) = normed (Ideal.ofBits .f32 0x43000000#32) (fun k => z (ix2 r ⟨384 + k.val, by omega⟩)) (fun k => g (ix2 0 k)) l * Ideal.ofBits .f32 0x3E0293EE#32 := by
  pointwise [k0_pay43, normed]

theorem naq_2 (z : FVec Ideal S512x768 .f32) (g : FVec Ideal S1x128 .f32) (r : Fin 512) (l : Fin 128) :
    k0_pay35 (F := Ideal) g z (ix2 r l) = normed (Ideal.ofBits .f32 0x43000000#32) (fun k => z (ix2 r ⟨256 + k.val, by omega⟩)) (fun k => g (ix2 0 k)) l * Ideal.ofBits .f32 0x3E0293EE#32 := by
  pointwise [k0_pay35, normed]

theorem naq_1 (z : FVec Ideal S512x768 .f32) (g : FVec Ideal S1x128 .f32) (r : Fin 512) (l : Fin 128) :
    k0_pay27 (F := Ideal) g (k0_pay25 z) (k0_pay26 z) (ix2 r l) = normed (Ideal.ofBits .f32 0x43000000#32) (fun k => z (ix2 r ⟨128 + k.val, by omega⟩)) (fun k => g (ix2 0 k)) l * Ideal.ofBits .f32 0x3E0293EE#32 := by
  pointwise [k0_pay25, k0_pay26, k0_pay27, normed]

theorem naq_0 (y : FVec Ideal S512x2048 .bf16) (u : Vec Ideal S2048x768 .bf16) (g : FVec Ideal S1x128 .f32) (r : Fin 512) (l : Fin 128) :
    k0_pay18 (F := Ideal) (k0_pay17 y g u) (ix2 r l) = normed (Ideal.ofBits .f32 0x43000000#32) (fun k => k0_pay11 (F := Ideal) y u (ix2 r ⟨0 + k.val, by omega⟩)) (fun k => g (ix2 0 k)) l * Ideal.ofBits .f32 0x3E0293EE#32 := by
  pointwise [k0_pay11, k0_pay17, k0_pay18, normed]

theorem gq_5 (z : FVec Ideal S512x768 .f32) (g : FVec Ideal S1x128 .f32) (r : Fin 512) (l : Fin 128) :
    k0_pay78 (F := Ideal) g z (ix2 r l) = normed (Ideal.ofBits .f32 0x43000000#32) (fun k => z (ix2 r ⟨640 + k.val, by omega⟩)) (fun k => g (ix2 0 k)) l * Ideal.ofBits .f32 0x3E0293EE#32 := by
  pointwise [k0_pay78, normed]

theorem gq_4 (z : FVec Ideal S512x768 .f32) (g : FVec Ideal S1x128 .f32) (r : Fin 512) (l : Fin 128) :
    k0_pay77 (F := Ideal) g (k0_pay76 z) (ix2 r l) = normed (Ideal.ofBits .f32 0x43000000#32) (fun k => z (ix2 r ⟨512 + k.val, by omega⟩)) (fun k => g (ix2 0 k)) l * Ideal.ofBits .f32 0x3E0293EE#32 := by
  pointwise [k0_pay76, k0_pay77, normed]

theorem gq_3 (z : FVec Ideal S512x768 .f32) (g : FVec Ideal S1x128 .f32) (r : Fin 512) (l : Fin 128) :
    k0_pay75 (F := Ideal) g z (ix2 r l) = normed (Ideal.ofBits .f32 0x43000000#32) (fun k => z (ix2 r ⟨384 + k.val, by omega⟩)) (fun k => g (ix2 0 k)) l * Ideal.ofBits .f32 0x3E0293EE#32 := by
  pointwise [k0_pay75, normed]

theorem gq_2 (z : FVec Ideal S512x768 .f32) (g : FVec Ideal S1x128 .f32) (r : Fin 512) (l : Fin 128) :
    k0_pay74 (F := Ideal) g z (ix2 r l) = normed (Ideal.ofBits .f32 0x43000000#32) (fun k => z (ix2 r ⟨256 + k.val, by omega⟩)) (fun k => g (ix2 0 k)) l * Ideal.ofBits .f32 0x3E0293EE#32 := by
  pointwise [k0_pay74, normed]

theorem gq_1 (z : FVec Ideal S512x768 .f32) (g : FVec Ideal S1x128 .f32) (r : Fin 512) (l : Fin 128) :
    k0_pay73 (F := Ideal) g (k0_pay71 z) (k0_pay72 z) (ix2 r l) = normed (Ideal.ofBits .f32 0x43000000#32) (fun k => z (ix2 r ⟨128 + k.val, by omega⟩)) (fun k => g (ix2 0 k)) l * Ideal.ofBits .f32 0x3E0293EE#32 := by
  pointwise [k0_pay71, k0_pay72, k0_pay73, normed]

theorem gq_0 (z : FVec Ideal S512x768 .f32) (g : FVec Ideal S1x128 .f32) (r : Fin 512) (l : Fin 128) :
    k0_pay70 (F := Ideal) g z (ix2 r l) = normed (Ideal.ofBits .f32 0x43000000#32) (fun k => z (ix2 r ⟨0 + k.val, by omega⟩)) (fun k => g (ix2 0 k)) l * Ideal.ofBits .f32 0x3E0293EE#32 := by
  pointwise [k0_pay70, normed]

theorem nak_5_1 (z : FVec Ideal S512x768 .f32) (g : FVec Ideal S1x128 .f32) (a b : Fin 1) (s : Fin 256) (l : Fin 128) :
    k0_pay68 (F := Ideal) (k0_pay63 g z) (ix4 a b s l) = normed (Ideal.ofBits .f32 0x43000000#32) (fun k => z (ix2 ⟨256 + s.val, by omega⟩ ⟨640 + k.val, by omega⟩)) (fun k => g (ix2 0 k)) l := by
  pointwise [k0_pay63, k0_pay68, normed]

theorem nak_5_0 (z : FVec Ideal S512x768 .f32) (g : FVec Ideal S1x128 .f32) (a b : Fin 1) (s : Fin 256) (l : Fin 128) :
    k0_pay65 (F := Ideal) g z (ix4 a b s l) = normed (Ideal.ofBits .f32 0x43000000#32) (fun k => z (ix2 ⟨0 + s.val, by omega⟩ ⟨640 + k.val, by omega⟩)) (fun k => g (ix2 0 k)) l := by
  pointwise [k0_pay63, k0_pay65, normed]

theorem nak_4_1 (z : FVec Ideal S512x768 .f32) (g : FVec Ideal S1x128 .f32) (a b : Fin 1) (s : Fin 256) (l : Fin 128) :
    k0_pay59 (F := Ideal) g z (ix4 a b s l) = normed (Ideal.ofBits .f32 0x43000000#32) (fun k => z (ix2 ⟨256 + s.val, by omega⟩ ⟨512 + k.val, by omega⟩)) (fun k => g (ix2 0 k)) l := by
  pointwise [k0_pay55, k0_pay59, normed]

theorem nak_4_0 (z : FVec Ideal S512x768 .f32) (g : FVec Ideal S1x128 .f32) (a b : Fin 1) (s : Fin 256) (l : Fin 128) :
    k0_pay57 (F := Ideal) g z (ix4 a b s l) = normed (Ideal.ofBits .f32 0x43000000#32) (fun k => z (ix2 ⟨0 + s.val, by omega⟩ ⟨512 + k.val, by omega⟩)) (fun k => g (ix2 0 k)) l := by
  pointwise [k0_pay55, k0_pay57, normed]

theorem nak_3_1 (z : FVec Ideal S512x768 .f32) (g : FVec Ideal S1x128 .f32) (a b : Fin 1) (s : Fin 256) (l : Fin 128) :
    k0_pay50 (F := Ideal) g (k0_pay44 z) (k0_pay45 z) (ix4 a b s l) = normed (Ideal.ofBits .f32 0x43000000#32) (fun k => z (ix2 ⟨256 + s.val, by omega⟩ ⟨384 + k.val, by omega⟩)) (fun k => g (ix2 0 k)) l := by
  pointwise [k0_pay44, k0_pay45, k0_pay46, k0_pay50, normed]

theorem nak_3_0 (z : FVec Ideal S512x768 .f32) (g : FVec Ideal S1x128 .f32) (a b : Fin 1) (s : Fin 256) (l : Fin 128) :
    k0_pay48 (F := Ideal) g (k0_pay44 z) (k0_pay45 z) (ix4 a b s l) = normed (Ideal.ofBits .f32 0x43000000#32) (fun k => z (ix2 ⟨0 + s.val, by omega⟩ ⟨384 + k.val, by omega⟩)) (fun k => g (ix2 0 k)) l := by
  pointwise [k0_pay44, k0_pay45, k0_pay46, k0_pay48, normed]

theorem nak_2_1 (z : FVec Ideal S512x768 .f32) (g : FVec Ideal S1x128 .f32) (a b : Fin 1) (s : Fin 256) (l : Fin 128) :
    k0_pay41 (F := Ideal) (k0_pay36 g z) (ix4 a b s l) = normed (Ideal.ofBits .f32 0x43000000#32) (fun k => z (ix2 ⟨256 + s.val, by omega⟩ ⟨256 + k.val, by omega⟩)) (fun k => g (ix2 0 k)) l := by
  pointwise [k0_pay36, k0_pay41, normed]

theorem nak_2_0 (z : FVec Ideal S512x768 .f32) (g : FVec Ideal S1x128 .f32) (a b : Fin 1) (s : Fin 256) (l : Fin 128) :
    k0_pay39 (F := Ideal) (k0_pay38 g z) (ix4 a b s l) = normed (Ideal.ofBits .f32 0x43000000#32) (fun k => z (ix2 ⟨0 + s.val, by omega⟩ ⟨256 + k.val, by omega⟩)) (fun k => g (ix2 0 k)) l := by
  pointwise [k0_pay36, k0_pay38, k0_pay39, normed]

theorem nak_1_1 (z : FVec Ideal S512x768 .f32) (g : FVec Ideal S1x128 .f32) (a b : Fin 1) (s : Fin 256) (l : Fin 128) :
    k0_pay33 (F := Ideal) (k0_pay32 g z) (ix4 a b s l) = normed (Ideal.ofBits .f32 0x43000000#32) (fun k => z (ix2 ⟨256 + s.val, by omega⟩ ⟨128 + k.val, by omega⟩)) (fun k => g (ix2 0 k)) l := by
  pointwise [k0_pay28, k0_pay32, k0_pay33, normed]

theorem nak_1_0 (z : FVec Ideal S512x768 .f32) (g : FVec Ideal S1x128 .f32) (a b : Fin 1) (s : Fin 256) (l : Fin 128) :
    k0_pay30 (F := Ideal) g z (ix4 a b s l) = normed (Ideal.ofBits .f32 0x43000000#32) (fun k => z (ix2 ⟨0 + s.val, by omega⟩ ⟨128 + k.val, by omega⟩)) (fun k => g (ix2 0 k)) l := by
  pointwise [k0_pay28, k0_pay30, normed]

theorem nak_0_1 (z : FVec Ideal S512x768 .f32) (g : FVec Ideal S1x128 .f32) (a b : Fin 1) (s : Fin 256) (l : Fin 128) :
    k0_pay23 (F := Ideal) g z (ix4 a b s l) = normed (Ideal.ofBits .f32 0x43000000#32) (fun k => z (ix2 ⟨256 + s.val, by omega⟩ ⟨0 + k.val, by omega⟩)) (fun k => g (ix2 0 k)) l := by
  pointwise [k0_pay19, k0_pay23, normed]

theorem nak_0_0 (z : FVec Ideal S512x768 .f32) (g : FVec Ideal S1x128 .f32) (a b : Fin 1) (s : Fin 256) (l : Fin 128) :
    k0_pay21 (F := Ideal) g z (ix4 a b s l) = normed (Ideal.ofBits .f32 0x43000000#32) (fun k => z (ix2 ⟨0 + s.val, by omega⟩ ⟨0 + k.val, by omega⟩)) (fun k => g (ix2 0 k)) l := by
  pointwise [k0_pay19, k0_pay21, normed]

theorem nav_5_1 (z : FVec Ideal S512x768 .f32) (a b : Fin 1) (s : Fin 256) (l : Fin 128) :
    k0_pay69 (F := Ideal) (k0_pay64 z) (ix4 a b s l) = z (ix2 ⟨256 + s.val, by omega⟩ ⟨640 + l.val, by omega⟩) := by
  pointwise [k0_pay64, k0_pay69]

theorem nav_5_0 (z : FVec Ideal S512x768 .f32) (a b : Fin 1) (s : Fin 256) (l : Fin 128) :
    k0_pay67 (F := Ideal) (k0_pay66 z) (ix4 a b s l) = z (ix2 ⟨0 + s.val, by omega⟩ ⟨640 + l.val, by omega⟩) := by
  pointwise [k0_pay64, k0_pay66, k0_pay67]

theorem nav_4_1 (z : FVec Ideal S512x768 .f32) (a b : Fin 1) (s : Fin 256) (l : Fin 128) :
    k0_pay61 (F := Ideal) (k0_pay60 z) (ix4 a b s l) = z (ix2 ⟨256 + s.val, by omega⟩ ⟨512 + l.val, by omega⟩) := by
  pointwise [k0_pay56, k0_pay60, k0_pay61]

theorem nav_4_0 (z : FVec Ideal S512x768 .f32) (a b : Fin 1) (s : Fin 256) (l : Fin 128) :
    k0_pay58 (F := Ideal) z (ix4 a b s l) = z (ix2 ⟨0 + s.val, by omega⟩ ⟨512 + l.val, by omega⟩) := by
  pointwise [k0_pay56, k0_pay58]

theorem nav_3_1 (z : FVec Ideal S512x768 .f32) (a b : Fin 1) (s : Fin 256) (l : Fin 128) :
    k0_pay51 (F := Ideal) z (ix4 a b s l) = z (ix2 ⟨256 + s.val, by omega⟩ ⟨384 + l.val, by omega⟩) := by
  pointwise [k0_pay47, k0_pay51]

theorem nav_3_0 (z : FVec Ideal S512x768 .f32) (a b : Fin 1) (s : Fin 256) (l : Fin 128) :
    k0_pay49 (F := Ideal) z (ix4 a b s l) = z (ix2 ⟨0 + s.val, by omega⟩ ⟨384 + l.val, by omega⟩) := by
  pointwise [k0_pay47, k0_pay49]

theorem nav_2_1 (z : FVec Ideal S512x768 .f32) (a b : Fin 1) (s : Fin 256) (l : Fin 128) :
    k0_pay42 (F := Ideal) (k0_pay37 z) (ix4 a b s l) = z (ix2 ⟨256 + s.val, by omega⟩ ⟨256 + l.val, by omega⟩) := by
  pointwise [k0_pay37, k0_pay42]

theorem nav_2_0 (z : FVec Ideal S512x768 .f32) (a b : Fin 1) (s : Fin 256) (l : Fin 128) :
    k0_pay40 (F := Ideal) (k0_pay37 z) (ix4 a b s l) = z (ix2 ⟨0 + s.val, by omega⟩ ⟨256 + l.val, by omega⟩) := by
  pointwise [k0_pay37, k0_pay40]

theorem nav_1_1 (z : FVec Ideal S512x768 .f32) (a b : Fin 1) (s : Fin 256) (l : Fin 128) :
    k0_pay34 (F := Ideal) (k0_pay29 z) (ix4 a b s l) = z (ix2 ⟨256 + s.val, by omega⟩ ⟨128 + l.val, by omega⟩) := by
  pointwise [k0_pay29, k0_pay34]

theorem nav_1_0 (z : FVec Ideal S512x768 .f32) (a b : Fin 1) (s : Fin 256) (l : Fin 128) :
    k0_pay31 (F := Ideal) z (ix4 a b s l) = z (ix2 ⟨0 + s.val, by omega⟩ ⟨128 + l.val, by omega⟩) := by
  pointwise [k0_pay29, k0_pay31]

theorem nav_0_1 (z : FVec Ideal S512x768 .f32) (a b : Fin 1) (s : Fin 256) (l : Fin 128) :
    k0_pay24 (F := Ideal) z (ix4 a b s l) = z (ix2 ⟨256 + s.val, by omega⟩ ⟨0 + l.val, by omega⟩) := by
  pointwise [k0_pay20, k0_pay24]

theorem nav_0_0 (z : FVec Ideal S512x768 .f32) (a b : Fin 1) (s : Fin 256) (l : Fin 128) :
    k0_pay22 (F := Ideal) z (ix4 a b s l) = z (ix2 ⟨0 + s.val, by omega⟩ ⟨0 + l.val, by omega⟩) := by
  pointwise [k0_pay20, k0_pay22]

theorem gk_1_1 (z : FVec Ideal S512x256 .f32) (g : FVec Ideal S1x128 .f32) (a b : Fin 1) (s : Fin 256) (l : Fin 128) :
    k0_pay3 (F := Ideal) (k0_pay87 g z) (ix4 a b s l) = normed (Ideal.ofBits .f32 0x43000000#32) (fun k => z (ix2 ⟨256 + s.val, by omega⟩ ⟨128 + k.val, by omega⟩)) (fun k => g (ix2 0 k)) l := by
  pointwise [k0_pay3, k0_pay87, normed]

theorem gk_1_0 (z : FVec Ideal S512x256 .f32) (g : FVec Ideal S1x128 .f32) (a b : Fin 1) (s : Fin 256) (l : Fin 128) :
    k0_pay1 (F := Ideal) (k0_pay89 g z) (ix4 a b s l) = normed (Ideal.ofBits .f32 0x43000000#32) (fun k => z (ix2 ⟨0 + s.val, by omega⟩ ⟨128 + k.val, by omega⟩)) (fun k => g (ix2 0 k)) l := by
  pointwise [k0_pay1, k0_pay87, k0_pay89, normed]

theorem gk_0_1 (z : FVec Ideal S512x256 .f32) (g : FVec Ideal S1x128 .f32) (a b : Fin 1) (s : Fin 256) (l : Fin 128) :
    k0_pay85 (F := Ideal) g (k0_pay79 z) (k0_pay80 z) (ix4 a b s l) = normed (Ideal.ofBits .f32 0x43000000#32) (fun k => z (ix2 ⟨256 + s.val, by omega⟩ ⟨0 + k.val, by omega⟩)) (fun k => g (ix2 0 k)) l := by
  pointwise [k0_pay79, k0_pay80, k0_pay81, k0_pay85, normed]

theorem gk_0_0 (z : FVec Ideal S512x256 .f32) (g : FVec Ideal S1x128 .f32) (a b : Fin 1) (s : Fin 256) (l : Fin 128) :
    k0_pay83 (F := Ideal) g (k0_pay79 z) (k0_pay80 z) (ix4 a b s l) = normed (Ideal.ofBits .f32 0x43000000#32) (fun k => z (ix2 ⟨0 + s.val, by omega⟩ ⟨0 + k.val, by omega⟩)) (fun k => g (ix2 0 k)) l := by
  pointwise [k0_pay79, k0_pay80, k0_pay81, k0_pay83, normed]

theorem gv_1_1 (z : FVec Ideal S512x256 .f32) (a b : Fin 1) (s : Fin 256) (l : Fin 128) :
    k0_pay4 (F := Ideal) (k0_pay88 z) (ix4 a b s l) = z (ix2 ⟨256 + s.val, by omega⟩ ⟨128 + l.val, by omega⟩) := by
  pointwise [k0_pay4, k0_pay88]

theorem gv_1_0 (z : FVec Ideal S512x256 .f32) (a b : Fin 1) (s : Fin 256) (l : Fin 128) :
    k0_pay2 (F := Ideal) (k0_pay88 z) (ix4 a b s l) = z (ix2 ⟨0 + s.val, by omega⟩ ⟨128 + l.val, by omega⟩) := by
  pointwise [k0_pay2, k0_pay88]

theorem gv_0_1 (z : FVec Ideal S512x256 .f32) (a b : Fin 1) (s : Fin 256) (l : Fin 128) :
    k0_pay86 (F := Ideal) z (ix4 a b s l) = z (ix2 ⟨256 + s.val, by omega⟩ ⟨0 + l.val, by omega⟩) := by
  pointwise [k0_pay82, k0_pay86]

theorem gv_0_0 (z : FVec Ideal S512x256 .f32) (a b : Fin 1) (s : Fin 256) (l : Fin 128) :
    k0_pay84 (F := Ideal) z (ix4 a b s l) = z (ix2 ⟨0 + s.val, by omega⟩ ⟨0 + l.val, by omega⟩) := by
  pointwise [k0_pay82, k0_pay84]

end Cert.Kernel3Ideal.Proj
end
-- ==== Proof.ProjBlocks.lean ====
module

public import proofs.«01_k».proof.Proof.Gen.Kernel3Ideal.Frame
public import proofs.«01_k».proof.Proof.ProjPieces
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.Kernel3Ideal.Proj
open Cert.Kernel3Ideal Cert.Kernel3Ideal.Gen Cert.Rows

theorem hidden_block (x0 : Vec Ideal S512x2048 .f32) (x1 : Vec Ideal S1x1x12288 .f32) (x2 : Vec Ideal S1x2048 .f32) (x3 : Vec Ideal S2048x5120 .bf16) (x4 : Vec Ideal S4x128 .f32) (r : Fin 512) (d : Fin 2048) :
    k0_pay90 x0 x1 x2 x3 x4 (ix2 r d) = hidden (fun k => x0 (ix2 r k)) (fun k => x2 (ix2 0 k)) (fun k => x1 (ix3 0 0 ⟨2048 + k.val, by omega⟩)) (fun k => x1 (ix3 0 0 ⟨k.val, by omega⟩)) d := by
  pointwise [k0_pay90, k0_pay5]
  rfl

theorem naq_block (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 768) :
    k0_pay95 x0 x1 x2 x3 x4 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨1536 + q.val, by omega⟩)) := by
  pointwise [k0_pay95, k0_pay11]
  simp only [hidden_block]
  rfl

theorem nak_block (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 768) :
    k0_pay96 x0 x1 x2 x3 x4 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨2304 + q.val, by omega⟩)) := by
  pointwise [k0_pay96, k0_pay12]
  simp only [hidden_block]
  rfl

theorem nav_block (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 768) :
    k0_pay97 x0 x1 x2 x3 x4 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨3072 + q.val, by omega⟩)) := by
  pointwise [k0_pay97, k0_pay13]
  simp only [hidden_block]
  rfl

theorem gq_block (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 768) :
    k0_pay98 x0 x1 x2 x3 x4 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨3840 + q.val, by omega⟩)) := by
  pointwise [k0_pay98, k0_pay14]
  simp only [hidden_block]
  rfl

theorem gk_block (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 256) :
    k0_pay99 x0 x1 x2 x3 x4 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨4608 + q.val, by omega⟩)) := by
  pointwise [k0_pay99, k0_pay15]
  simp only [hidden_block]
  rfl

theorem gv_block (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 256) :
    k0_pay100 x0 x1 x2 x3 x4 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨4864 + q.val, by omega⟩)) := by
  pointwise [k0_pay100, k0_pay16]
  simp only [hidden_block]
  rfl

theorem naq_gain (x0 : Vec Ideal S512x2048 .f32) (x1 : Vec Ideal S1x1x12288 .f32) (x2 : Vec Ideal S1x2048 .f32) (x3 : Vec Ideal S2048x5120 .bf16) (x4 : Vec Ideal S4x128 .f32) (a : Fin 1) (k : Fin 128) :
    k0_pay91 x0 x1 x2 x3 x4 (ix2 a k) = x4 (ix2 0 k) := by
  pointwise [k0_pay91, k0_pay7]

theorem nak_gain (x0 : Vec Ideal S512x2048 .f32) (x1 : Vec Ideal S1x1x12288 .f32) (x2 : Vec Ideal S1x2048 .f32) (x3 : Vec Ideal S2048x5120 .bf16) (x4 : Vec Ideal S4x128 .f32) (a : Fin 1) (k : Fin 128) :
    k0_pay92 x0 x1 x2 x3 x4 (ix2 a k) = x4 (ix2 1 k) := by
  pointwise [k0_pay92, k0_pay8]

theorem gq_gain (x0 : Vec Ideal S512x2048 .f32) (x1 : Vec Ideal S1x1x12288 .f32) (x2 : Vec Ideal S1x2048 .f32) (x3 : Vec Ideal S2048x5120 .bf16) (x4 : Vec Ideal S4x128 .f32) (a : Fin 1) (k : Fin 128) :
    k0_pay93 x0 x1 x2 x3 x4 (ix2 a k) = x4 (ix2 2 k) := by
  pointwise [k0_pay93, k0_pay9]

theorem gk_gain (x0 : Vec Ideal S512x2048 .f32) (x1 : Vec Ideal S1x1x12288 .f32) (x2 : Vec Ideal S1x2048 .f32) (x3 : Vec Ideal S2048x5120 .bf16) (x4 : Vec Ideal S4x128 .f32) (a : Fin 1) (k : Fin 128) :
    k0_pay94 x0 x1 x2 x3 x4 (ix2 a k) = x4 (ix2 3 k) := by
  pointwise [k0_pay94, k0_pay10]

theorem hidden_rows (x0 : Vec Ideal S512x2048 .f32) (x1 : Vec Ideal S1x1x12288 .f32) (x2 : Vec Ideal S1x2048 .f32) (r : Fin 512) (d : Fin 2048) :
    k0_pay5 x0 x1 x2 (ix2 r d) = hidden (fun k => x0 (ix2 r k)) (fun k => x2 (ix2 0 k)) (fun k => x1 (ix3 0 0 ⟨2048 + k.val, by omega⟩)) (fun k => x1 (ix3 0 0 ⟨k.val, by omega⟩)) d := by
  pointwise [k0_pay5]
  rfl

theorem hy_out (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 1536) :
    out0_5 x0 x1 x2 x3 x4 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨q.val, by omega⟩)) := by
  unfold out0_5
  frame_out
  pointwise [k0_pay6]
  exact Finset.sum_congr rfl fun d _ => congrArg (· * _) (hidden_rows x0 x1 x2 r d)

theorem ix2_congr {p q : ℕ} {a a' : Fin p} {b b' : Fin q} (ha : a.val = a'.val) (hb : b.val = b'.val) : ix2 a b = ix2 a' b' := by
  rw [Fin.ext ha, Fin.ext hb]

theorem normed_congr {n : ℕ} {c : EReal} {z z' g g' : Fin n → EReal} {l l' : Fin n} (hz : ∀ k, z k = z' k) (hg : ∀ k, g k = g' k) (hl : l = l') :
    normed c z g l = normed c z' g' l' := by
  rw [funext hz, funext hg, hl]

theorem naq_tiles (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 768) :
    out0_6 x0 x1 x2 x3 x4 (ix2 r q) = normed (Ideal.ofBits .f32 0x43000000#32) (fun j : Fin 128 => k0_pay95 x0 x1 x2 x3 x4 (ix2 r ⟨128 * (q.val / 128) + j.val, by omega⟩)) (fun k => k0_pay91 x0 x1 x2 x3 x4 (ix2 0 k)) ⟨q.val % 128, by omega⟩ * Ideal.ofBits .f32 0x3E0293EE#32 := by
  unfold out0_6
  canon_tiles i e
  · idx_vars i
    have h0 : r.val = i0.val := e0
    have h1 : q.val = 640 + i1.val := e1
    exact (naq_5 _ _ i0 i1).trans (congrArg (· * Ideal.ofBits .f32 0x3E0293EE#32) (normed_congr (fun k => congrArg (k0_pay95 x0 x1 x2 x3 x4) (ix2_congr (by omega) (by simp only; omega))) (fun _ => rfl) (Fin.ext (by simp only; omega))))
  · idx_vars i
    have h0 : r.val = i0.val := e0
    have h1 : q.val = 512 + i1.val := e1
    exact (naq_4 _ _ i0 i1).trans (congrArg (· * Ideal.ofBits .f32 0x3E0293EE#32) (normed_congr (fun k => congrArg (k0_pay95 x0 x1 x2 x3 x4) (ix2_congr (by omega) (by simp only; omega))) (fun _ => rfl) (Fin.ext (by simp only; omega))))
  · idx_vars i
    have h0 : r.val = i0.val := e0
    have h1 : q.val = 384 + i1.val := e1
    exact (naq_3 _ _ i0 i1).trans (congrArg (· * Ideal.ofBits .f32 0x3E0293EE#32) (normed_congr (fun k => congrArg (k0_pay95 x0 x1 x2 x3 x4) (ix2_congr (by omega) (by simp only; omega))) (fun _ => rfl) (Fin.ext (by simp only; omega))))
  · idx_vars i
    have h0 : r.val = i0.val := e0
    have h1 : q.val = 256 + i1.val := e1
    exact (naq_2 _ _ i0 i1).trans (congrArg (· * Ideal.ofBits .f32 0x3E0293EE#32) (normed_congr (fun k => congrArg (k0_pay95 x0 x1 x2 x3 x4) (ix2_congr (by omega) (by simp only; omega))) (fun _ => rfl) (Fin.ext (by simp only; omega))))
  · idx_vars i
    have h0 : r.val = i0.val := e0
    have h1 : q.val = 128 + i1.val := e1
    exact (naq_1 _ _ i0 i1).trans (congrArg (· * Ideal.ofBits .f32 0x3E0293EE#32) (normed_congr (fun k => congrArg (k0_pay95 x0 x1 x2 x3 x4) (ix2_congr (by omega) (by simp only; omega))) (fun _ => rfl) (Fin.ext (by simp only; omega))))
  · idx_vars i
    have h0 : r.val = i0.val := e0
    have h1 : q.val = 0 + i1.val := e1.trans (Nat.zero_add _).symm
    exact (naq_0 _ _ _ i0 i1).trans (congrArg (· * Ideal.ofBits .f32 0x3E0293EE#32) (normed_congr (fun k => congrArg (k0_pay95 x0 x1 x2 x3 x4) (ix2_congr (by omega) (by simp only; omega))) (fun _ => rfl) (Fin.ext (by simp only; omega))))

theorem gq_tiles (x0 : Vec Ideal S512x2048 .f32) (x1 : Vec Ideal S1x1x12288 .f32) (x2 : Vec Ideal S1x2048 .f32) (x3 : Vec Ideal S2048x5120 .bf16) (x4 : Vec Ideal S4x128 .f32) (r : Fin 512) (q : Fin 768) :
    out0_7 x0 x1 x2 x3 x4 (ix2 r q) = normed (Ideal.ofBits .f32 0x43000000#32) (fun j : Fin 128 => k0_pay98 x0 x1 x2 x3 x4 (ix2 r ⟨128 * (q.val / 128) + j.val, by omega⟩)) (fun k => k0_pay93 x0 x1 x2 x3 x4 (ix2 0 k)) ⟨q.val % 128, by omega⟩ * Ideal.ofBits .f32 0x3E0293EE#32 := by
  unfold out0_7
  canon_tiles i e
  · idx_vars i
    have h0 : r.val = i0.val := e0
    have h1 : q.val = 640 + i1.val := e1
    exact (gq_5 _ _ i0 i1).trans (congrArg (· * Ideal.ofBits .f32 0x3E0293EE#32) (normed_congr (fun k => congrArg (k0_pay98 x0 x1 x2 x3 x4) (ix2_congr (by omega) (by simp only; omega))) (fun _ => rfl) (Fin.ext (by simp only; omega))))
  · idx_vars i
    have h0 : r.val = i0.val := e0
    have h1 : q.val = 512 + i1.val := e1
    exact (gq_4 _ _ i0 i1).trans (congrArg (· * Ideal.ofBits .f32 0x3E0293EE#32) (normed_congr (fun k => congrArg (k0_pay98 x0 x1 x2 x3 x4) (ix2_congr (by omega) (by simp only; omega))) (fun _ => rfl) (Fin.ext (by simp only; omega))))
  · idx_vars i
    have h0 : r.val = i0.val := e0
    have h1 : q.val = 384 + i1.val := e1
    exact (gq_3 _ _ i0 i1).trans (congrArg (· * Ideal.ofBits .f32 0x3E0293EE#32) (normed_congr (fun k => congrArg (k0_pay98 x0 x1 x2 x3 x4) (ix2_congr (by omega) (by simp only; omega))) (fun _ => rfl) (Fin.ext (by simp only; omega))))
  · idx_vars i
    have h0 : r.val = i0.val := e0
    have h1 : q.val = 256 + i1.val := e1
    exact (gq_2 _ _ i0 i1).trans (congrArg (· * Ideal.ofBits .f32 0x3E0293EE#32) (normed_congr (fun k => congrArg (k0_pay98 x0 x1 x2 x3 x4) (ix2_congr (by omega) (by simp only; omega))) (fun _ => rfl) (Fin.ext (by simp only; omega))))
  · idx_vars i
    have h0 : r.val = i0.val := e0
    have h1 : q.val = 128 + i1.val := e1
    exact (gq_1 _ _ i0 i1).trans (congrArg (· * Ideal.ofBits .f32 0x3E0293EE#32) (normed_congr (fun k => congrArg (k0_pay98 x0 x1 x2 x3 x4) (ix2_congr (by omega) (by simp only; omega))) (fun _ => rfl) (Fin.ext (by simp only; omega))))
  · idx_vars i
    have h0 : r.val = i0.val := e0
    have h1 : q.val = 0 + i1.val := e1.trans (Nat.zero_add _).symm
    exact (gq_0 _ _ i0 i1).trans (congrArg (· * Ideal.ofBits .f32 0x3E0293EE#32) (normed_congr (fun k => congrArg (k0_pay98 x0 x1 x2 x3 x4) (ix2_congr (by omega) (by simp only; omega))) (fun _ => rfl) (Fin.ext (by simp only; omega))))

theorem nak_tiles (x0 : Vec Ideal S512x2048 .f32) (x1 : Vec Ideal S1x1x12288 .f32) (x2 : Vec Ideal S1x2048 .f32) (x3 : Vec Ideal S2048x5120 .bf16) (x4 : Vec Ideal S4x128 .f32) (b : Fin 2) (h : Fin 6) (s : Fin 256) (l : Fin 128) :
    out0_8 x0 x1 x2 x3 x4 (ix4 b h s l) = normed (Ideal.ofBits .f32 0x43000000#32) (fun j : Fin 128 => k0_pay96 x0 x1 x2 x3 x4 (ix2 ⟨256 * b.val + s.val, by omega⟩ ⟨128 * h.val + j.val, by omega⟩)) (fun k => k0_pay92 x0 x1 x2 x3 x4 (ix2 0 k)) l := by
  unfold out0_8
  canon_tiles i e
  · idx_vars i
    have h0 : b.val = 1 + i0.val := e0
    have h1 : h.val = 5 + i1.val := e1
    have h2 : s.val = i2.val := e2
    have h3 : l.val = i3.val := e3
    exact (nak_5_1 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 0 + i0.val := e0.trans (Nat.zero_add _).symm
    have h1 : h.val = 5 + i1.val := e1
    have h2 : s.val = i2.val := e2
    have h3 : l.val = i3.val := e3
    exact (nak_5_0 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 1 + i0.val := e0
    have h1 : h.val = 4 + i1.val := e1
    have h2 : s.val = i2.val := e2
    have h3 : l.val = i3.val := e3
    exact (nak_4_1 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 0 + i0.val := e0.trans (Nat.zero_add _).symm
    have h1 : h.val = 4 + i1.val := e1
    have h2 : s.val = i2.val := e2
    have h3 : l.val = i3.val := e3
    exact (nak_4_0 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 1 + i0.val := e0
    have h1 : h.val = 3 + i1.val := e1
    have h2 : s.val = i2.val := e2
    have h3 : l.val = i3.val := e3
    exact (nak_3_1 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 0 + i0.val := e0.trans (Nat.zero_add _).symm
    have h1 : h.val = 3 + i1.val := e1
    have h2 : s.val = i2.val := e2
    have h3 : l.val = i3.val := e3
    exact (nak_3_0 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 1 + i0.val := e0
    have h1 : h.val = 2 + i1.val := e1
    have h2 : s.val = i2.val := e2
    have h3 : l.val = i3.val := e3
    exact (nak_2_1 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 0 + i0.val := e0.trans (Nat.zero_add _).symm
    have h1 : h.val = 2 + i1.val := e1
    have h2 : s.val = i2.val := e2
    have h3 : l.val = i3.val := e3
    exact (nak_2_0 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 1 + i0.val := e0
    have h1 : h.val = 1 + i1.val := e1
    have h2 : s.val = i2.val := e2
    have h3 : l.val = i3.val := e3
    exact (nak_1_1 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 0 + i0.val := e0.trans (Nat.zero_add _).symm
    have h1 : h.val = 1 + i1.val := e1
    have h2 : s.val = i2.val := e2
    have h3 : l.val = i3.val := e3
    exact (nak_1_0 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 1 + i0.val := e0
    have h1 : h.val = 0 + i1.val := e1.trans (Nat.zero_add _).symm
    have h2 : s.val = i2.val := e2
    have h3 : l.val = i3.val := e3
    exact (nak_0_1 _ _ i0 i1 i2 i3).trans (normed_congr (fun k => congrArg (k0_pay96 x0 x1 x2 x3 x4) (ix2_congr (by simp only; omega) (by simp only; omega))) (fun _ => rfl) (Fin.ext h3.symm))
  · idx_vars i
    have h0 : b.val = 0 + i0.val := e0.trans (Nat.zero_add _).symm
    have h1 : h.val = 0 + i1.val := e1.trans (Nat.zero_add _).symm
    have h2 : s.val = i2.val := e2
    have h3 : l.val = i3.val := e3
    exact (nak_0_0 _ _ i0 i1 i2 i3).trans (normed_congr (fun k => congrArg (k0_pay96 x0 x1 x2 x3 x4) (ix2_congr (by simp only; omega) (by simp only; omega))) (fun _ => rfl) (Fin.ext h3.symm))

theorem nav_tiles (x0 : Vec Ideal S512x2048 .f32) (x1 : Vec Ideal S1x1x12288 .f32) (x2 : Vec Ideal S1x2048 .f32) (x3 : Vec Ideal S2048x5120 .bf16) (x4 : Vec Ideal S4x128 .f32) (b : Fin 2) (h : Fin 6) (s : Fin 256) (l : Fin 128) :
    out0_9 x0 x1 x2 x3 x4 (ix4 b h s l) = k0_pay97 x0 x1 x2 x3 x4 (ix2 ⟨256 * b.val + s.val, by omega⟩ ⟨128 * h.val + l.val, by omega⟩) := by
  unfold out0_9
  canon_tiles i e
  · idx_vars i
    have h0 : b.val = 1 + i0.val := e0
    have h1 : h.val = 5 + i1.val := e1
    have h2 : s.val = i2.val := e2
    have h3 : l.val = i3.val := e3
    exact (nav_5_1 _ i0 i1 i2 i3).trans (congrArg (k0_pay97 x0 x1 x2 x3 x4) (ix2_congr (by simp only; omega) (by simp only; omega)))
  · idx_vars i
    have h0 : b.val = 0 + i0.val := e0.trans (Nat.zero_add _).symm
    have h1 : h.val = 5 + i1.val := e1
    have h2 : s.val = i2.val := e2
    have h3 : l.val = i3.val := e3
    exact (nav_5_0 _ i0 i1 i2 i3).trans (congrArg (k0_pay97 x0 x1 x2 x3 x4) (ix2_congr (by simp only; omega) (by simp only; omega)))
  · idx_vars i
    have h0 : b.val = 1 + i0.val := e0
    have h1 : h.val = 4 + i1.val := e1
    have h2 : s.val = i2.val := e2
    have h3 : l.val = i3.val := e3
    exact (nav_4_1 _ i0 i1 i2 i3).trans (congrArg (k0_pay97 x0 x1 x2 x3 x4) (ix2_congr (by simp only; omega) (by simp only; omega)))
  · idx_vars i
    have h0 : b.val = 0 + i0.val := e0.trans (Nat.zero_add _).symm
    have h1 : h.val = 4 + i1.val := e1
    have h2 : s.val = i2.val := e2
    have h3 : l.val = i3.val := e3
    exact (nav_4_0 _ i0 i1 i2 i3).trans (congrArg (k0_pay97 x0 x1 x2 x3 x4) (ix2_congr (by simp only; omega) (by simp only; omega)))
  · idx_vars i
    have h0 : b.val = 1 + i0.val := e0
    have h1 : h.val = 3 + i1.val := e1
    have h2 : s.val = i2.val := e2
    have h3 : l.val = i3.val := e3
    exact (nav_3_1 _ i0 i1 i2 i3).trans (congrArg (k0_pay97 x0 x1 x2 x3 x4) (ix2_congr (by simp only; omega) (by simp only; omega)))
  · idx_vars i
    have h0 : b.val = 0 + i0.val := e0.trans (Nat.zero_add _).symm
    have h1 : h.val = 3 + i1.val := e1
    have h2 : s.val = i2.val := e2
    have h3 : l.val = i3.val := e3
    exact (nav_3_0 _ i0 i1 i2 i3).trans (congrArg (k0_pay97 x0 x1 x2 x3 x4) (ix2_congr (by simp only; omega) (by simp only; omega)))
  · idx_vars i
    have h0 : b.val = 1 + i0.val := e0
    have h1 : h.val = 2 + i1.val := e1
    have h2 : s.val = i2.val := e2
    have h3 : l.val = i3.val := e3
    exact (nav_2_1 _ i0 i1 i2 i3).trans (congrArg (k0_pay97 x0 x1 x2 x3 x4) (ix2_congr (by simp only; omega) (by simp only; omega)))
  · idx_vars i
    have h0 : b.val = 0 + i0.val := e0.trans (Nat.zero_add _).symm
    have h1 : h.val = 2 + i1.val := e1
    have h2 : s.val = i2.val := e2
    have h3 : l.val = i3.val := e3
    exact (nav_2_0 _ i0 i1 i2 i3).trans (congrArg (k0_pay97 x0 x1 x2 x3 x4) (ix2_congr (by simp only; omega) (by simp only; omega)))
  · idx_vars i
    have h0 : b.val = 1 + i0.val := e0
    have h1 : h.val = 1 + i1.val := e1
    have h2 : s.val = i2.val := e2
    have h3 : l.val = i3.val := e3
    exact (nav_1_1 _ i0 i1 i2 i3).trans (congrArg (k0_pay97 x0 x1 x2 x3 x4) (ix2_congr (by simp only; omega) (by simp only; omega)))
  · idx_vars i
    have h0 : b.val = 0 + i0.val := e0.trans (Nat.zero_add _).symm
    have h1 : h.val = 1 + i1.val := e1
    have h2 : s.val = i2.val := e2
    have h3 : l.val = i3.val := e3
    exact (nav_1_0 _ i0 i1 i2 i3).trans (congrArg (k0_pay97 x0 x1 x2 x3 x4) (ix2_congr (by simp only; omega) (by simp only; omega)))
  · idx_vars i
    have h0 : b.val = 1 + i0.val := e0
    have h1 : h.val = 0 + i1.val := e1.trans (Nat.zero_add _).symm
    have h2 : s.val = i2.val := e2
    have h3 : l.val = i3.val := e3
    exact (nav_0_1 _ i0 i1 i2 i3).trans (congrArg (k0_pay97 x0 x1 x2 x3 x4) (ix2_congr (by simp only; omega) (by simp only; omega)))
  · idx_vars i
    have h0 : b.val = 0 + i0.val := e0.trans (Nat.zero_add _).symm
    have h1 : h.val = 0 + i1.val := e1.trans (Nat.zero_add _).symm
    have h2 : s.val = i2.val := e2
    have h3 : l.val = i3.val := e3
    exact (nav_0_0 _ i0 i1 i2 i3).trans (congrArg (k0_pay97 x0 x1 x2 x3 x4) (ix2_congr (by simp only; omega) (by simp only; omega)))

theorem gk_tiles (x0 : Vec Ideal S512x2048 .f32) (x1 : Vec Ideal S1x1x12288 .f32) (x2 : Vec Ideal S1x2048 .f32) (x3 : Vec Ideal S2048x5120 .bf16) (x4 : Vec Ideal S4x128 .f32) (b : Fin 2) (h : Fin 2) (s : Fin 256) (l : Fin 128) :
    out0_10 x0 x1 x2 x3 x4 (ix4 b h s l) = normed (Ideal.ofBits .f32 0x43000000#32) (fun j : Fin 128 => k0_pay99 x0 x1 x2 x3 x4 (ix2 ⟨256 * b.val + s.val, by omega⟩ ⟨128 * h.val + j.val, by omega⟩)) (fun k => k0_pay94 x0 x1 x2 x3 x4 (ix2 0 k)) l := by
  unfold out0_10
  canon_tiles i e
  · idx_vars i
    have h0 : b.val = 1 + i0.val := e0
    have h1 : h.val = 1 + i1.val := e1
    have h2 : s.val = i2.val := e2
    have h3 : l.val = i3.val := e3
    exact (gk_1_1 _ _ i0 i1 i2 i3).trans (normed_congr (fun k => congrArg (k0_pay99 x0 x1 x2 x3 x4) (ix2_congr (by simp only; omega) (by simp only; omega))) (fun _ => rfl) (Fin.ext h3.symm))
  · idx_vars i
    have h0 : b.val = 0 + i0.val := e0.trans (Nat.zero_add _).symm
    have h1 : h.val = 1 + i1.val := e1
    have h2 : s.val = i2.val := e2
    have h3 : l.val = i3.val := e3
    exact (gk_1_0 _ _ i0 i1 i2 i3).trans (normed_congr (fun k => congrArg (k0_pay99 x0 x1 x2 x3 x4) (ix2_congr (by simp only; omega) (by simp only; omega))) (fun _ => rfl) (Fin.ext h3.symm))
  · idx_vars i
    have h0 : b.val = 1 + i0.val := e0
    have h1 : h.val = 0 + i1.val := e1.trans (Nat.zero_add _).symm
    have h2 : s.val = i2.val := e2
    have h3 : l.val = i3.val := e3
    exact (gk_0_1 _ _ i0 i1 i2 i3).trans (normed_congr (fun k => congrArg (k0_pay99 x0 x1 x2 x3 x4) (ix2_congr (by simp only; omega) (by simp only; omega))) (fun _ => rfl) (Fin.ext h3.symm))
  · idx_vars i
    have h0 : b.val = 0 + i0.val := e0.trans (Nat.zero_add _).symm
    have h1 : h.val = 0 + i1.val := e1.trans (Nat.zero_add _).symm
    have h2 : s.val = i2.val := e2
    have h3 : l.val = i3.val := e3
    exact (gk_0_0 _ _ i0 i1 i2 i3).trans (normed_congr (fun k => congrArg (k0_pay99 x0 x1 x2 x3 x4) (ix2_congr (by simp only; omega) (by simp only; omega))) (fun _ => rfl) (Fin.ext h3.symm))

theorem gv_tiles (x0 : Vec Ideal S512x2048 .f32) (x1 : Vec Ideal S1x1x12288 .f32) (x2 : Vec Ideal S1x2048 .f32) (x3 : Vec Ideal S2048x5120 .bf16) (x4 : Vec Ideal S4x128 .f32) (b : Fin 2) (h : Fin 2) (s : Fin 256) (l : Fin 128) :
    out0_11 x0 x1 x2 x3 x4 (ix4 b h s l) = k0_pay100 x0 x1 x2 x3 x4 (ix2 ⟨256 * b.val + s.val, by omega⟩ ⟨128 * h.val + l.val, by omega⟩) := by
  unfold out0_11
  canon_tiles i e
  · idx_vars i
    have h0 : b.val = 1 + i0.val := e0
    have h1 : h.val = 1 + i1.val := e1
    have h2 : s.val = i2.val := e2
    have h3 : l.val = i3.val := e3
    exact (gv_1_1 _ i0 i1 i2 i3).trans (congrArg (k0_pay100 x0 x1 x2 x3 x4) (ix2_congr (by simp only; omega) (by simp only; omega)))
  · idx_vars i
    have h0 : b.val = 0 + i0.val := e0.trans (Nat.zero_add _).symm
    have h1 : h.val = 1 + i1.val := e1
    have h2 : s.val = i2.val := e2
    have h3 : l.val = i3.val := e3
    exact (gv_1_0 _ i0 i1 i2 i3).trans (congrArg (k0_pay100 x0 x1 x2 x3 x4) (ix2_congr (by simp only; omega) (by simp only; omega)))
  · idx_vars i
    have h0 : b.val = 1 + i0.val := e0
    have h1 : h.val = 0 + i1.val := e1.trans (Nat.zero_add _).symm
    have h2 : s.val = i2.val := e2
    have h3 : l.val = i3.val := e3
    exact (gv_0_1 _ i0 i1 i2 i3).trans (congrArg (k0_pay100 x0 x1 x2 x3 x4) (ix2_congr (by simp only; omega) (by simp only; omega)))
  · idx_vars i
    have h0 : b.val = 0 + i0.val := e0.trans (Nat.zero_add _).symm
    have h1 : h.val = 0 + i1.val := e1.trans (Nat.zero_add _).symm
    have h2 : s.val = i2.val := e2
    have h3 : l.val = i3.val := e3
    exact (gv_0_0 _ i0 i1 i2 i3).trans (congrArg (k0_pay100 x0 x1 x2 x3 x4) (ix2_congr (by simp only; omega) (by simp only; omega)))

end Cert.Kernel3Ideal.Proj
end
-- ==== Proof.Proj.lean ====
module

public import proofs.«01_k».proof.Proof.ProjBlocks
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel3Ideal.Proj
open Cert.Kernel3Ideal Cert.Kernel3Ideal.Gen Cert.Rows
variable (m : (ℓ : Loc nD τ sig) → Buf (Elt Ideal) ℓ)

theorem idx : ∀ t : Fin cfg0.N, win0_0.index t = ![t.val, 0] ∧ win0_1.index t = ![0, 0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0, 0, 0] ∧ win0_9.index t = ![t.val, 0, 0, 0] ∧ win0_10.index t = ![t.val, 0, 0, 0] ∧ win0_11.index t = ![t.val, 0, 0, 0] :=
  (by decide +kernel : ∀ t : Fin grid0.N, _)

theorem read_x (c : Dev nD) (t : Fin cfg0.N) (r : Fin 512) (k : Fin 2048) : iblk m c 0 t (ix2 r k)
    = (m ((c : Thread nD τ).loc main_arg0)) (ix3 ⟨(t.val * 512 + r.val) / 256, by have := t.isLt; have : cfg0.N = 16 := N_0; omega⟩ ⟨(t.val * 512 + r.val) % 256, by omega⟩ k) := by
  blk_simp [iblk, idx t]
  entry_read
  pointwise
  blk_ext [idx t]

theorem read_rows (c : Dev nD) (t : Fin cfg0.N) (b : Fin 2) (s : Fin 256) (k : Fin 2048) : iblk m c 0 t (ix2 ⟨256 * b.val + s.val, by omega⟩ k)
    = (m ((c : Thread nD τ).loc main_arg0)) (ix3 ⟨t.val * 2 + b.val, by have := t.isLt; have : cfg0.N = 16 := N_0; omega⟩ s k) := by
  rw [read_x]
  blk_ext

theorem read_mod (c : Dev nD) (t : Fin cfg0.N) (k : Fin 12288) : iblk m c 1 t (ix3 0 0 k) = (m ((c : Thread nD τ).loc main_arg1)) (ix2 0 k) := by
  blk_simp [iblk, idx t]
  entry_read
  pointwise
  blk_ext [idx t]

theorem read_norm (c : Dev nD) (t : Fin cfg0.N) (k : Fin 2048) : iblk m c 2 t (ix2 0 k) = (m ((c : Thread nD τ).loc main_arg2)) (ix1 k) := by
  blk_simp [iblk, idx t]
  entry_read
  pointwise
  blk_ext [idx t]

theorem read_w (c : Dev nD) (t : Fin cfg0.N) (d : Fin 2048) (k : Fin 5120) : iblk m c 3 t (ix2 d k) = (m ((c : Thread nD τ).loc main_arg3)) (ix2 d k) := by
  blk_simp [iblk, idx t]
  entry_read
  pointwise
  blk_ext [idx t]

/-- The four heads' gains, one row below another. -/
theorem gains (c : Dev nD) : V m c main_v4 = concatenate S4x128 0 [(⟨S1x128, broadcastInDim S1x128 ![1] bcast_S128_S1x128_1 (m ((c : Thread nD τ).loc main_arg4))⟩ : (s : Shape) × (s.Idx → EReal)), (⟨S1x128, broadcastInDim S1x128 ![1] bcast_S128_S1x128_1 (m ((c : Thread nD τ).loc main_arg5))⟩ : (s : Shape) × (s.Idx → EReal)), (⟨S1x128, broadcastInDim S1x128 ![1] bcast_S128_S1x128_1 (m ((c : Thread nD τ).loc main_arg6))⟩ : (s : Shape) × (s.Idx → EReal)), (⟨S1x128, broadcastInDim S1x128 ![1] bcast_S128_S1x128_1 (m ((c : Thread nD τ).loc main_arg7))⟩ : (s : Shape) × (s.Idx → EReal))]
    concatenates_S1x128_S1x128_S1x128_S1x128_S4x128_d0 := by
  rfl

theorem gain0_at (c : Dev nD) (k : Fin 128) : V m c main_v4 (ix2 0 k) = (m ((c : Thread nD τ).loc main_arg4)) (ix1 k) := by
  rw [gains]
  pointwise

theorem read_gain0 (c : Dev nD) (t : Fin cfg0.N) (k : Fin 128) : iblk m c 4 t (ix2 0 k) = (m ((c : Thread nD τ).loc main_arg4)) (ix1 k) := by
  refine Eq.trans ?_ (gain0_at m c k)
  blk_simp [iblk, idx t]
  blk_ext [idx t]

theorem gain1_at (c : Dev nD) (k : Fin 128) : V m c main_v4 (ix2 1 k) = (m ((c : Thread nD τ).loc main_arg5)) (ix1 k) := by
  rw [gains]
  pointwise

theorem read_gain1 (c : Dev nD) (t : Fin cfg0.N) (k : Fin 128) : iblk m c 4 t (ix2 1 k) = (m ((c : Thread nD τ).loc main_arg5)) (ix1 k) := by
  refine Eq.trans ?_ (gain1_at m c k)
  blk_simp [iblk, idx t]
  blk_ext [idx t]

theorem gain2_at (c : Dev nD) (k : Fin 128) : V m c main_v4 (ix2 2 k) = (m ((c : Thread nD τ).loc main_arg6)) (ix1 k) := by
  rw [gains]
  pointwise

theorem read_gain2 (c : Dev nD) (t : Fin cfg0.N) (k : Fin 128) : iblk m c 4 t (ix2 2 k) = (m ((c : Thread nD τ).loc main_arg6)) (ix1 k) := by
  refine Eq.trans ?_ (gain2_at m c k)
  blk_simp [iblk, idx t]
  blk_ext [idx t]

theorem gain3_at (c : Dev nD) (k : Fin 128) : V m c main_v4 (ix2 3 k) = (m ((c : Thread nD τ).loc main_arg7)) (ix1 k) := by
  rw [gains]
  pointwise

theorem read_gain3 (c : Dev nD) (t : Fin cfg0.N) (k : Fin 128) : iblk m c 4 t (ix2 3 k) = (m ((c : Thread nD τ).loc main_arg7)) (ix1 k) := by
  refine Eq.trans ?_ (gain3_at m c k)
  blk_simp [iblk, idx t]
  blk_ext [idx t]

theorem hy_element (c : Dev nD) (t : Fin cfg0.N) (r : Fin 512) (q : Fin 1536) : out0_5 (iblk m c 0 t) (iblk m c 1 t) (iblk m c 2 t) (iblk m c 3 t) (iblk m c 4 t) (ix2 r q)
    = Cert.Reference3Ideal.Proj.hy (m ((c : Thread nD τ).loc main_arg0)) (m ((c : Thread nD τ).loc main_arg1)) (m ((c : Thread nD τ).loc main_arg2)) (m ((c : Thread nD τ).loc main_arg3)) (ix2 ⟨t.val * 512 + r.val, by have := t.isLt; have : cfg0.N = 16 := N_0; omega⟩ q) := by
  rw [hy_out, Cert.Reference3Ideal.Proj.hy_apply]
  simp only [read_x, read_mod, read_norm, read_w]

theorem hy_final (c : Dev nD) : (dats m 0 c).arrAt 5 cfg0.N = Cert.Reference3Ideal.Proj.hy (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  refine (hy_element m c t y0 y1).trans (congrArg _ ?_)
  blk_ext [idx t]

theorem naq_element (c : Dev nD) (t : Fin cfg0.N) (r : Fin 512) (q : Fin 768) : out0_6 (iblk m c 0 t) (iblk m c 1 t) (iblk m c 2 t) (iblk m c 3 t) (iblk m c 4 t) (ix2 r q)
    = Cert.Reference3Ideal.Proj.naq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := t.isLt; have : cfg0.N = 16 := N_0; omega⟩ q) := by
  rw [naq_tiles, Cert.Reference3Ideal.Proj.naq_apply]
  simp only [naq_block, naq_gain, read_gain0, read_x, read_mod, read_norm, read_w]

theorem naq_final (c : Dev nD) : (dats m 0 c).arrAt 6 cfg0.N = Cert.Reference3Ideal.Proj.naq (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  refine (naq_element m c t y0 y1).trans (congrArg _ ?_)
  blk_ext [idx t]

theorem gq_element (c : Dev nD) (t : Fin cfg0.N) (r : Fin 512) (q : Fin 768) : out0_7 (iblk m c 0 t) (iblk m c 1 t) (iblk m c 2 t) (iblk m c 3 t) (iblk m c 4 t) (ix2 r q)
    = Cert.Reference3Ideal.Proj.gq (m ((c : Thread nD τ).loc main_arg0)) (m ((c : Thread nD τ).loc main_arg1)) (m ((c : Thread nD τ).loc main_arg2)) (m ((c : Thread nD τ).loc main_arg3)) (m ((c : Thread nD τ).loc main_arg6)) (ix2 ⟨t.val * 512 + r.val, by have := t.isLt; have : cfg0.N = 16 := N_0; omega⟩ q) := by
  rw [gq_tiles, Cert.Reference3Ideal.Proj.gq_apply]
  simp only [gq_block, gq_gain, read_gain2, read_x, read_mod, read_norm, read_w]

theorem gq_final (c : Dev nD) : (dats m 0 c).arrAt 7 cfg0.N = Cert.Reference3Ideal.Proj.gq (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 7 _ (by decide +kernel) fun t hf y => ?_
  blk_simp
  rw [after0_7]
  idx_vars y
  refine (gq_element m c t y0 y1).trans (congrArg _ ?_)
  blk_ext [idx t]

theorem nak_element (c : Dev nD) (t : Fin cfg0.N) (b : Fin 2) (h : Fin 6) (s : Fin 256) (l : Fin 128) : out0_8 (iblk m c 0 t) (iblk m c 1 t) (iblk m c 2 t) (iblk m c 3 t) (iblk m c 4 t) (ix4 b h s l)
    = Cert.Reference3Ideal.Proj.nak (m ((c : Thread nD τ).loc main_arg0)) (m ((c : Thread nD τ).loc main_arg1)) (m ((c : Thread nD τ).loc main_arg2)) (m ((c : Thread nD τ).loc main_arg3)) (m ((c : Thread nD τ).loc main_arg5)) (ix4 ⟨t.val * 2 + b.val, by have := t.isLt; have : cfg0.N = 16 := N_0; omega⟩ h s l) := by
  rw [nak_tiles, Cert.Reference3Ideal.Proj.nak_apply]
  simp only [nak_block, nak_gain, read_gain1, read_rows, read_mod, read_norm, read_w]

theorem nak_final (c : Dev nD) : (dats m 0 c).arrAt 8 cfg0.N = Cert.Reference3Ideal.Proj.nak (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 8 _ (by decide +kernel) fun t hf y => ?_
  blk_simp
  rw [after0_8]
  idx_vars y
  refine (nak_element m c t y0 y1 y2 y3).trans (congrArg _ ?_)
  blk_ext [idx t]

theorem nav_element (c : Dev nD) (t : Fin cfg0.N) (b : Fin 2) (h : Fin 6) (s : Fin 256) (l : Fin 128) : out0_9 (iblk m c 0 t) (iblk m c 1 t) (iblk m c 2 t) (iblk m c 3 t) (iblk m c 4 t) (ix4 b h s l)
    = Cert.Reference3Ideal.Proj.nav (m ((c : Thread nD τ).loc main_arg0)) (m ((c : Thread nD τ).loc main_arg1)) (m ((c : Thread nD τ).loc main_arg2)) (m ((c : Thread nD τ).loc main_arg3)) (ix4 ⟨t.val * 2 + b.val, by have := t.isLt; have : cfg0.N = 16 := N_0; omega⟩ h s l) := by
  rw [nav_tiles, Cert.Reference3Ideal.Proj.nav, Cert.Reference3Ideal.Proj.nav_head]
  simp only [nav_block, read_rows, read_mod, read_norm, read_w]

theorem nav_final (c : Dev nD) : (dats m 0 c).arrAt 9 cfg0.N = Cert.Reference3Ideal.Proj.nav (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  idx_vars y
  refine (nav_element m c t y0 y1 y2 y3).trans (congrArg _ ?_)
  blk_ext [idx t]

theorem gk_element (c : Dev nD) (t : Fin cfg0.N) (b : Fin 2) (h : Fin 2) (s : Fin 256) (l : Fin 128) : out0_10 (iblk m c 0 t) (iblk m c 1 t) (iblk m c 2 t) (iblk m c 3 t) (iblk m c 4 t) (ix4 b h s l)
    = Cert.Reference3Ideal.Proj.gk (m ((c : Thread nD τ).loc main_arg0)) (m ((c : Thread nD τ).loc main_arg1)) (m ((c : Thread nD τ).loc main_arg2)) (m ((c : Thread nD τ).loc main_arg3)) (m ((c : Thread nD τ).loc main_arg7)) (ix4 ⟨t.val * 2 + b.val, by have := t.isLt; have : cfg0.N = 16 := N_0; omega⟩ h s l) := by
  rw [gk_tiles, Cert.Reference3Ideal.Proj.gk_apply]
  simp only [gk_block, gk_gain, read_gain3, read_rows, read_mod, read_norm, read_w]

theorem gk_final (c : Dev nD) : (dats m 0 c).arrAt 10 cfg0.N = Cert.Reference3Ideal.Proj.gk (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 10 _ (by decide +kernel) fun t hf y => ?_
  blk_simp
  rw [after0_10]
  idx_vars y
  refine (gk_element m c t y0 y1 y2 y3).trans (congrArg _ ?_)
  blk_ext [idx t]

theorem gv_element (c : Dev nD) (t : Fin cfg0.N) (b : Fin 2) (h : Fin 2) (s : Fin 256) (l : Fin 128) : out0_11 (iblk m c 0 t) (iblk m c 1 t) (iblk m c 2 t) (iblk m c 3 t) (iblk m c 4 t) (ix4 b h s l)
    = Cert.Reference3Ideal.Proj.gv (m ((c : Thread nD τ).loc main_arg0)) (m ((c : Thread nD τ).loc main_arg1)) (m ((c : Thread nD τ).loc main_arg2)) (m ((c : Thread nD τ).loc main_arg3)) (ix4 ⟨t.val * 2 + b.val, by have := t.isLt; have : cfg0.N = 16 := N_0; omega⟩ h s l) := by
  rw [gv_tiles, Cert.Reference3Ideal.Proj.gv, Cert.Reference3Ideal.Proj.gv_head]
  simp only [gv_block, read_rows, read_mod, read_norm, read_w]

theorem gv_final (c : Dev nD) : (dats m 0 c).arrAt 11 cfg0.N = Cert.Reference3Ideal.Proj.gv (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  idx_vars y
  refine (gv_element m c t y0 y1 y2 y3).trans (congrArg _ ?_)
  blk_ext [idx t]

/-- What every run leaves: the seven results, and the arguments as they were. -/
theorem leaves (ρ : Dev nD → PrngReg) : θ_run defs (onTc (τ := τ) (main (F := Ideal))) ⟨m, fun _ => 0, ρ⟩ fun r => ∀ c : Dev nD,
      r.2.mem ((c : Thread nD τ).loc main_v9_0) = Cert.Reference3Ideal.Proj.hy (m ((c : Thread nD τ).loc main_arg0)) (m ((c : Thread nD τ).loc main_arg1)) (m ((c : Thread nD τ).loc main_arg2)) (m ((c : Thread nD τ).loc main_arg3))
      ∧ r.2.mem ((c : Thread nD τ).loc main_v9_1) = Cert.Reference3Ideal.Proj.naq (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v9_2) = Cert.Reference3Ideal.Proj.gq (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c : Thread nD τ).loc main_v9_3) = Cert.Reference3Ideal.Proj.nak (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v9_4) = Cert.Reference3Ideal.Proj.nav (m ((c : Thread nD τ).loc main_arg0)) (m ((c : Thread nD τ).loc main_arg1)) (m ((c : Thread nD τ).loc main_arg2)) (m ((c : Thread nD τ).loc main_arg3))
      ∧ r.2.mem ((c : Thread nD τ).loc main_v9_5) = Cert.Reference3Ideal.Proj.gk (m ((c : Thread nD τ).loc main_arg0)) (m ((c : Thread nD τ).loc main_arg1)) (m ((c : Thread nD τ).loc main_arg2)) (m ((c : Thread nD τ).loc main_arg3)) (m ((c : Thread nD τ).loc main_arg7))
      ∧ r.2.mem ((c : Thread nD τ).loc main_v9_6) = Cert.Reference3Ideal.Proj.gv (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  have keep : ∀ {r : PUnit × MemSt nD τ sig (Elt Ideal)}, Pipeline.FramePost cfgs (dats m) 0 (V m) r → ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := fun h c =>
    ⟨((h c).2 main_arg0 (Pipeline.mem_restRefs_of _ (by decide) (by decide))).trans (V_main_arg0 m c), ((h c).2 main_arg1 (Pipeline.mem_restRefs_of _ (by decide) (by decide))).trans (V_main_arg1 m c), ((h c).2 main_arg2 (Pipeline.mem_restRefs_of _ (by decide) (by decide))).trans (V_main_arg2 m c), ((h c).2 main_arg3 (Pipeline.mem_restRefs_of _ (by decide) (by decide))).trans (V_main_arg3 m c), ((h c).2 main_arg4 (Pipeline.mem_restRefs_of _ (by decide) (by decide))).trans (V_main_arg4 m c), ((h c).2 main_arg5 (Pipeline.mem_restRefs_of _ (by decide) (by decide))).trans (V_main_arg5 m c), ((h c).2 main_arg6 (Pipeline.mem_restRefs_of _ (by decide) (by decide))).trans (V_main_arg6 m c), ((h c).2 main_arg7 (Pipeline.mem_restRefs_of _ (by decide) (by decide))).trans (V_main_arg7 m c)⟩
  exact (θ_run defs _ _).mono (fun r h c => ⟨((h c).1 5).trans (hy_final m c), ((h c).1 6).trans (naq_final m c), ((h c).1 7).trans (gq_final m c), ((h c).1 8).trans (nak_final m c), ((h c).1 9).trans (nav_final m c), ((h c).1 10).trans (gk_final m c), ((h c).1 11).trans (gv_final m c), keep h c⟩) (run_main m ρ)
end Cert.Kernel3Ideal.Proj
end
-- ==== Proof.RopeRef.lean ====
module

public import proofs.«01_k».proof.Proof.Gen.Reference4Ideal.Run
public import proofs.«01_k».proof.Proof.ProjRef
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.Rows

/-- A head's 128 entries, each half of them turned by its own angles: entry `l` and entry `l + 32` are a pair. -/
def turned (a u : Fin 128 → EReal) (l : Fin 128) : EReal :=
  if h : l.val % 64 < 32 then u l * Ideal.cos (a l) - u ⟨l.val + 32, by omega⟩ * Ideal.sin (a l)
  else u ⟨l.val - 32, by omega⟩ * Ideal.sin (a l) + u l * Ideal.cos (a l)

/-- The same by a kernel's tables: the entry times a cosine and its partner times a signed sine. -/
def spun (u c s : Fin 128 → EReal) (l : Fin 128) : EReal :=
  u l * c l + (if h : l.val % 64 < 32 then u ⟨l.val + 32, by omega⟩ else u ⟨l.val - 32, by omega⟩) * s l

theorem spun_eq_turned (a u c s : Fin 128 → EReal) (l : Fin 128) (hc : c l = Ideal.cos (a l))
    (hs : s l = if l.val % 64 < 32 then - Ideal.sin (a l) else Ideal.sin (a l)) : spun u c s l = turned a u l := by
  unfold spun turned
  rw [hc, hs]
  by_cases h : l.val % 64 < 32
  · rw [dif_pos h, dif_pos h, if_pos h, mul_neg, sub_eq_add_neg]
  · rw [dif_neg h, dif_neg h, if_neg h, add_comm]
end Cert.Rows

namespace Cert.Reference4Ideal.Proj
open Cert.Reference4Ideal Cert.Reference4Ideal.Gen Cert.Reference4Ideal.Value Cert.Rows

/-- The modulated norm of every token. -/
def hid (x : FVec Ideal S2x4096x2048 .f32) (e : FVec Ideal S8x12288 .f32) (n : FVec Ideal S2048 .f32) : FVec Ideal S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 n))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 2048] (extractStridedSlice S2x12288 ![1, 0] e slices_S8x12288_S2x12288_1_0) slices_S2x12288_S2x2048_0_2048))))) (broadcastInDim S2x4096x2048 ![0, 1, 2] bcast_S2x1x2048_S2x4096x2048_0_1_2 (broadcastInDim S2x1x2048 ![0, 2] bcast_S2x2048_S2x1x2048_0_2 (extractStridedSlice S2x2048 ![0, 0] (extractStridedSlice S2x12288 ![1, 0] e slices_S8x12288_S2x12288_1_0) slices_S2x12288_S2x2048_0_0)))

/-- Its projection. -/
def proj (h : FVec Ideal S2x4096x2048 .f32) (w : FVec Ideal S2048x5120 .f32) : FVec Ideal S2x4096x5120 .f32 :=
  Host.dotGeneral dot_S2x4096x2048_S2048x5120_S2x4096x5120_2_0_01_1_n_n none h w

/-- The tokens' places in the grid. -/
def place : IVec S4096 32 := iotaInDim S4096 32 0

/-- The grid's width. -/
def width : IVec S_ 32 := id (constantI S_ 32 64#32)

/-- The angles' frequencies. -/
def freq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

def quot : IVec S4096 32 := Host.divsi place (broadcastInDim S4096 ![] bcast_S_S4096 width)
def modulus : IVec S_ 32 := select (cmpi .eq width (constantI S_ 32 0#32)) (constantI S_ 32 1#32) width
def rest : IVec S4096 32 := Host.remsi place (broadcastInDim S4096 ![] bcast_S_S4096 modulus)

/-- The angles of the tokens' grid rows. -/
def rowAng : FVec Ideal S4096x32 .f32 :=
  mulf (broadcastInDim S4096x32 ![0, 1] bcast_S4096x1_S4096x32_0_1 (broadcastInDim S4096x1 ![0] bcast_S4096_S4096x1_0 (sitofp .f32 (select (andi (cmpi .ne (signi place) (broadcastInDim S4096 ![] bcast_S_S4096 (signi width))) (cmpi .ne (Host.remsi place (broadcastInDim S4096 ![] bcast_S_S4096 width)) (broadcastInDim S4096 ![] bcast_S_S4096 (constantI S_ 32 0#32)))) (subi quot (broadcastInDim S4096 ![] bcast_S_S4096 (constantI S_ 32 1#32))) quot)))) (broadcastInDim S4096x32 ![0, 1] bcast_S1x32_S4096x32_0_1 (broadcastInDim S1x32 ![1] bcast_S32_S1x32_1 freq))

/-- The angles of the tokens' grid columns. -/
def colAng : FVec Ideal S4096x32 .f32 :=
  mulf (broadcastInDim S4096x32 ![0, 1] bcast_S4096x1_S4096x32_0_1 (broadcastInDim S4096x1 ![0] bcast_S4096_S4096x1_0 (sitofp .f32 (select (andi (cmpi .ne (cmpi .slt rest (broadcastInDim S4096 ![] bcast_S_S4096 (constantI S_ 32 0#32))) (broadcastInDim S4096 ![] bcast_S_S4096 (cmpi .slt modulus (constantI S_ 32 0#32)))) (cmpi .ne rest (broadcastInDim S4096 ![] bcast_S_S4096 (constantI S_ 32 0#32)))) (addi rest (broadcastInDim S4096 ![] bcast_S_S4096 modulus)) rest)))) (broadcastInDim S4096x32 ![0, 1] bcast_S1x32_S4096x32_0_1 (broadcastInDim S1x32 ![1] bcast_S32_S1x32_1 freq))

/-- The angle of a token's entry in a head: its row's in the first half, its column's in the second. -/
def ang (p : Fin 4096) (l : Fin 128) : EReal :=
  if l.val < 64 then rowAng (ix2 p ⟨l.val % 32, by omega⟩) else colAng (ix2 p ⟨l.val % 32, by omega⟩)

/-- Heads of a projection. -/
def heads6 (y : FVec Ideal S2x4096x768 .f32) : FVec Ideal S2x6x4096x128 .f32 :=
  transpose S2x6x4096x128 [0, 2, 1, 3] (shapeCast _ y shapeCasts_S2x4096x768_S2x4096x6x128) transposes_S2x4096x6x128_S2x6x4096x128_0_2_1_3

/-- Every head's norm. -/
def unit6 (T : FVec Ideal S2x6x4096x128 .f32) (g : FVec Ideal S128 .f32) : FVec Ideal S2x6x4096x128 .f32 :=
  mulf (mulf T (broadcastInDim S2x6x4096x128 ![0, 1, 2, 3] bcast_S2x6x4096x1_S2x6x4096x128_0_1_2_3 (Host.rsqrt (addf (Host.divf (broadcastInDim S2x6x4096x1 ![0, 1, 2] bcast_S2x6x4096_S2x6x4096x1_0_1_2 (Host.reduceAdd (mulf T T) (constant S_ .f32 0x00000000#32) reducesTo_S2x6x4096x128_S2x6x4096_d3 h_S_)) (broadcastInDim S2x6x4096x1 ![] bcast_S_S2x6x4096x1 (constant S_ .f32 0x43000000#32))) (broadcastInDim S2x6x4096x1 ![] bcast_S_S2x6x4096x1 (constant S_ .f32 0x358637BD#32)))))) (broadcastInDim S2x6x4096x128 ![0, 1, 2, 3] bcast_S1x1x1x128_S2x6x4096x128_0_1_2_3 (broadcastInDim S1x1x1x128 ![3] bcast_S128_S1x1x1x128_3 g))

/-- Every head turned by its token's angles. -/
def turn6 (U : FVec Ideal S2x6x4096x128 .f32) : FVec Ideal S2x6x4096x128 .f32 :=
  concatenate S2x6x4096x128 3 [⟨S2x6x4096x64, (concatenate S2x6x4096x64 3 [⟨S2x6x4096x32, (subf (mulf (extractStridedSlice S2x6x4096x32 ![0, 0, 0, 0] (extractStridedSlice S2x6x4096x64 ![0, 0, 0, 0] U slices_S2x6x4096x128_S2x6x4096x64_0_0_0_0) slices_S2x6x4096x64_S2x6x4096x32_0_0_0_0) (broadcastInDim S2x6x4096x32 ![0, 1, 2, 3] bcast_S1x1x4096x32_S2x6x4096x32_0_1_2_3 (broadcastInDim S1x1x4096x32 ![2, 3] bcast_S4096x32_S1x1x4096x32_2_3 (Host.cos rowAng)))) (mulf (extractStridedSlice S2x6x4096x32 ![0, 0, 0, 32] (extractStridedSlice S2x6x4096x64 ![0, 0, 0, 0] U slices_S2x6x4096x128_S2x6x4096x64_0_0_0_0) slices_S2x6x4096x64_S2x6x4096x32_0_0_0_32) (broadcastInDim S2x6x4096x32 ![0, 1, 2, 3] bcast_S1x1x4096x32_S2x6x4096x32_0_1_2_3 (broadcastInDim S1x1x4096x32 ![2, 3] bcast_S4096x32_S1x1x4096x32_2_3 (Host.sin rowAng)))))⟩, ⟨S2x6x4096x32, (addf (mulf (extractStridedSlice S2x6x4096x32 ![0, 0, 0, 0] (extractStridedSlice S2x6x4096x64 ![0, 0, 0, 0] U slices_S2x6x4096x128_S2x6x4096x64_0_0_0_0) slices_S2x6x4096x64_S2x6x4096x32_0_0_0_0) (broadcastInDim S2x6x4096x32 ![0, 1, 2, 3] bcast_S1x1x4096x32_S2x6x4096x32_0_1_2_3 (broadcastInDim S1x1x4096x32 ![2, 3] bcast_S4096x32_S1x1x4096x32_2_3 (Host.sin rowAng)))) (mulf (extractStridedSlice S2x6x4096x32 ![0, 0, 0, 32] (extractStridedSlice S2x6x4096x64 ![0, 0, 0, 0] U slices_S2x6x4096x128_S2x6x4096x64_0_0_0_0) slices_S2x6x4096x64_S2x6x4096x32_0_0_0_32) (broadcastInDim S2x6x4096x32 ![0, 1, 2, 3] bcast_S1x1x4096x32_S2x6x4096x32_0_1_2_3 (broadcastInDim S1x1x4096x32 ![2, 3] bcast_S4096x32_S1x1x4096x32_2_3 (Host.cos rowAng)))))⟩] concatenates_S2x6x4096x32_S2x6x4096x32_S2x6x4096x64_d3)⟩, ⟨S2x6x4096x64, (concatenate S2x6x4096x64 3 [⟨S2x6x4096x32, (subf (mulf (extractStridedSlice S2x6x4096x32 ![0, 0, 0, 0] (extractStridedSlice S2x6x4096x64 ![0, 0, 0, 64] U slices_S2x6x4096x128_S2x6x4096x64_0_0_0_64) slices_S2x6x4096x64_S2x6x4096x32_0_0_0_0) (broadcastInDim S2x6x4096x32 ![0, 1, 2, 3] bcast_S1x1x4096x32_S2x6x4096x32_0_1_2_3 (broadcastInDim S1x1x4096x32 ![2, 3] bcast_S4096x32_S1x1x4096x32_2_3 (Host.cos colAng)))) (mulf (extractStridedSlice S2x6x4096x32 ![0, 0, 0, 32] (extractStridedSlice S2x6x4096x64 ![0, 0, 0, 64] U slices_S2x6x4096x128_S2x6x4096x64_0_0_0_64) slices_S2x6x4096x64_S2x6x4096x32_0_0_0_32) (broadcastInDim S2x6x4096x32 ![0, 1, 2, 3] bcast_S1x1x4096x32_S2x6x4096x32_0_1_2_3 (broadcastInDim S1x1x4096x32 ![2, 3] bcast_S4096x32_S1x1x4096x32_2_3 (Host.sin colAng)))))⟩, ⟨S2x6x4096x32, (addf (mulf (extractStridedSlice S2x6x4096x32 ![0, 0, 0, 0] (extractStridedSlice S2x6x4096x64 ![0, 0, 0, 64] U slices_S2x6x4096x128_S2x6x4096x64_0_0_0_64) slices_S2x6x4096x64_S2x6x4096x32_0_0_0_0) (broadcastInDim S2x6x4096x32 ![0, 1, 2, 3] bcast_S1x1x4096x32_S2x6x4096x32_0_1_2_3 (broadcastInDim S1x1x4096x32 ![2, 3] bcast_S4096x32_S1x1x4096x32_2_3 (Host.sin colAng)))) (mulf (extractStridedSlice S2x6x4096x32 ![0, 0, 0, 32] (extractStridedSlice S2x6x4096x64 ![0, 0, 0, 64] U slices_S2x6x4096x128_S2x6x4096x64_0_0_0_64) slices_S2x6x4096x64_S2x6x4096x32_0_0_0_32) (broadcastInDim S2x6x4096x32 ![0, 1, 2, 3] bcast_S1x1x4096x32_S2x6x4096x32_0_1_2_3 (broadcastInDim S1x1x4096x32 ![2, 3] bcast_S4096x32_S1x1x4096x32_2_3 (Host.cos colAng)))))⟩] concatenates_S2x6x4096x32_S2x6x4096x32_S2x6x4096x64_d3)⟩] concatenates_S2x6x4096x64_S2x6x4096x64_S2x6x4096x128_d3

/-- Heads side by side. -/
def flat6 (U : FVec Ideal S2x6x4096x128 .f32) : FVec Ideal S8192x768 .bf16 :=
  truncf .bf16 (shapeCast _ (transpose S2x4096x6x128 [0, 2, 1, 3] U transposes_S2x6x4096x128_S2x4096x6x128_0_2_1_3) shapeCasts_S2x4096x6x128_S8192x768) bitsLt_bf16_f32

theorem heads6_apply (y : FVec Ideal S2x4096x768 .f32) (b : Fin 2) (h : Fin 6) (s : Fin 4096) (l : Fin 128) :
    heads6 y (ix4 b h s l) = y (ix3 b s ⟨128 * h.val + l.val, by omega⟩) := by
  pointwise [heads6]
  blk_ext

theorem unit6_apply (T : FVec Ideal S2x6x4096x128 .f32) (g : FVec Ideal S128 .f32) (b : Fin 2) (h : Fin 6) (s : Fin 4096) (l : Fin 128) :
    unit6 T g (ix4 b h s l) = normed (Ideal.ofBits .f32 0x43000000#32) (fun k => T (ix4 b h s k)) (fun k => g (ix1 k)) l := by
  pointwise [unit6]
  rfl

theorem flat6_apply (U : FVec Ideal S2x6x4096x128 .f32) (r : Fin 8192) (q : Fin 768) :
    flat6 U (ix2 r q) = U (ix4 ⟨r.val / 4096, by omega⟩ ⟨q.val / 128, by omega⟩ ⟨r.val % 4096, by omega⟩ ⟨q.val % 128, by omega⟩) := by
  pointwise [flat6]

theorem turn6_0 (U : FVec Ideal S2x6x4096x128 .f32) (b : Fin 2) (h : Fin 6) (s : Fin 4096) (j : Fin 32) :
    turn6 U (ix4 b h s ⟨0 + j.val, by omega⟩) = U (ix4 b h s ⟨0 + j.val, by omega⟩) * Ideal.cos (rowAng (ix2 s j)) - U (ix4 b h s ⟨32 + j.val, by omega⟩) * Ideal.sin (rowAng (ix2 s j)) := by
  pointwise [turn6]
  rw [dif_pos (by omega)]

theorem turn6_1 (U : FVec Ideal S2x6x4096x128 .f32) (b : Fin 2) (h : Fin 6) (s : Fin 4096) (j : Fin 32) :
    turn6 U (ix4 b h s ⟨32 + j.val, by omega⟩) = U (ix4 b h s ⟨0 + j.val, by omega⟩) * Ideal.sin (rowAng (ix2 s j)) + U (ix4 b h s ⟨32 + j.val, by omega⟩) * Ideal.cos (rowAng (ix2 s j)) := by
  pointwise [turn6]
  rw [dif_pos (by omega)]

theorem turn6_2 (U : FVec Ideal S2x6x4096x128 .f32) (b : Fin 2) (h : Fin 6) (s : Fin 4096) (j : Fin 32) :
    turn6 U (ix4 b h s ⟨64 + j.val, by omega⟩) = U (ix4 b h s ⟨64 + j.val, by omega⟩) * Ideal.cos (colAng (ix2 s j)) - U (ix4 b h s ⟨96 + j.val, by omega⟩) * Ideal.sin (colAng (ix2 s j)) := by
  pointwise [turn6]
  exact congrArg (fun i : Fin 128 => _ - U (ix4 b h s i) * _) (Fin.ext (by simp only; omega))

theorem turn6_3 (U : FVec Ideal S2x6x4096x128 .f32) (b : Fin 2) (h : Fin 6) (s : Fin 4096) (j : Fin 32) :
    turn6 U (ix4 b h s ⟨96 + j.val, by omega⟩) = U (ix4 b h s ⟨64 + j.val, by omega⟩) * Ideal.sin (colAng (ix2 s j)) + U (ix4 b h s ⟨96 + j.val, by omega⟩) * Ideal.cos (colAng (ix2 s j)) := by
  pointwise [turn6]
  rw [dif_neg (by omega), dif_neg (by omega)]
  simp only [show 96 + j.val - 64 - 32 = j.val by omega]
  exact congrArg (fun i : Fin 128 => _ + U (ix4 b h s i) * _) (Fin.ext (by simp only; omega))

/-- Six heads side by side, scaled. -/
def flatScaled (U : FVec Ideal S2x6x4096x128 .f32) : FVec Ideal S8192x768 .bf16 :=
  truncf .bf16 (mulf (shapeCast _ (transpose S2x4096x6x128 [0, 2, 1, 3] U transposes_S2x6x4096x128_S2x4096x6x128_0_2_1_3) shapeCasts_S2x4096x6x128_S8192x768) (broadcastInDim S8192x768 ![] bcast_S_S8192x768 (constant S_ .f32 0x3E0293EE#32))) bitsLt_bf16_f32

theorem flatScaled_apply (U : FVec Ideal S2x6x4096x128 .f32) (r : Fin 8192) (q : Fin 768) :
    flatScaled U (ix2 r q) = U (ix4 ⟨r.val / 4096, by omega⟩ ⟨q.val / 128, by omega⟩ ⟨r.val % 4096, by omega⟩ ⟨q.val % 128, by omega⟩) * Ideal.ofBits .f32 0x3E0293EE#32 := by
  pointwise [flatScaled]

/-- Heads of a projection. -/
def heads2 (y : FVec Ideal S2x4096x256 .f32) : FVec Ideal S2x2x4096x128 .f32 :=
  transpose S2x2x4096x128 [0, 2, 1, 3] (shapeCast _ y shapeCasts_S2x4096x256_S2x4096x2x128) transposes_S2x4096x2x128_S2x2x4096x128_0_2_1_3

/-- Every head's norm. -/
def unit2 (T : FVec Ideal S2x2x4096x128 .f32) (g : FVec Ideal S128 .f32) : FVec Ideal S2x2x4096x128 .f32 :=
  mulf (mulf T (broadcastInDim S2x2x4096x128 ![0, 1, 2, 3] bcast_S2x2x4096x1_S2x2x4096x128_0_1_2_3 (Host.rsqrt (addf (Host.divf (broadcastInDim S2x2x4096x1 ![0, 1, 2] bcast_S2x2x4096_S2x2x4096x1_0_1_2 (Host.reduceAdd (mulf T T) (constant S_ .f32 0x00000000#32) reducesTo_S2x2x4096x128_S2x2x4096_d3 h_S_)) (broadcastInDim S2x2x4096x1 ![] bcast_S_S2x2x4096x1 (constant S_ .f32 0x43000000#32))) (broadcastInDim S2x2x4096x1 ![] bcast_S_S2x2x4096x1 (constant S_ .f32 0x358637BD#32)))))) (broadcastInDim S2x2x4096x128 ![0, 1, 2, 3] bcast_S1x1x1x128_S2x2x4096x128_0_1_2_3 (broadcastInDim S1x1x1x128 ![3] bcast_S128_S1x1x1x128_3 g))

/-- Every head turned by its token's angles. -/
def turn2 (U : FVec Ideal S2x2x4096x128 .f32) : FVec Ideal S2x2x4096x128 .f32 :=
  concatenate S2x2x4096x128 3 [⟨S2x2x4096x64, (concatenate S2x2x4096x64 3 [⟨S2x2x4096x32, (subf (mulf (extractStridedSlice S2x2x4096x32 ![0, 0, 0, 0] (extractStridedSlice S2x2x4096x64 ![0, 0, 0, 0] U slices_S2x2x4096x128_S2x2x4096x64_0_0_0_0) slices_S2x2x4096x64_S2x2x4096x32_0_0_0_0) (broadcastInDim S2x2x4096x32 ![0, 1, 2, 3] bcast_S1x1x4096x32_S2x2x4096x32_0_1_2_3 (broadcastInDim S1x1x4096x32 ![2, 3] bcast_S4096x32_S1x1x4096x32_2_3 (Host.cos rowAng)))) (mulf (extractStridedSlice S2x2x4096x32 ![0, 0, 0, 32] (extractStridedSlice S2x2x4096x64 ![0, 0, 0, 0] U slices_S2x2x4096x128_S2x2x4096x64_0_0_0_0) slices_S2x2x4096x64_S2x2x4096x32_0_0_0_32) (broadcastInDim S2x2x4096x32 ![0, 1, 2, 3] bcast_S1x1x4096x32_S2x2x4096x32_0_1_2_3 (broadcastInDim S1x1x4096x32 ![2, 3] bcast_S4096x32_S1x1x4096x32_2_3 (Host.sin rowAng)))))⟩, ⟨S2x2x4096x32, (addf (mulf (extractStridedSlice S2x2x4096x32 ![0, 0, 0, 0] (extractStridedSlice S2x2x4096x64 ![0, 0, 0, 0] U slices_S2x2x4096x128_S2x2x4096x64_0_0_0_0) slices_S2x2x4096x64_S2x2x4096x32_0_0_0_0) (broadcastInDim S2x2x4096x32 ![0, 1, 2, 3] bcast_S1x1x4096x32_S2x2x4096x32_0_1_2_3 (broadcastInDim S1x1x4096x32 ![2, 3] bcast_S4096x32_S1x1x4096x32_2_3 (Host.sin rowAng)))) (mulf (extractStridedSlice S2x2x4096x32 ![0, 0, 0, 32] (extractStridedSlice S2x2x4096x64 ![0, 0, 0, 0] U slices_S2x2x4096x128_S2x2x4096x64_0_0_0_0) slices_S2x2x4096x64_S2x2x4096x32_0_0_0_32) (broadcastInDim S2x2x4096x32 ![0, 1, 2, 3] bcast_S1x1x4096x32_S2x2x4096x32_0_1_2_3 (broadcastInDim S1x1x4096x32 ![2, 3] bcast_S4096x32_S1x1x4096x32_2_3 (Host.cos rowAng)))))⟩] concatenates_S2x2x4096x32_S2x2x4096x32_S2x2x4096x64_d3)⟩, ⟨S2x2x4096x64, (concatenate S2x2x4096x64 3 [⟨S2x2x4096x32, (subf (mulf (extractStridedSlice S2x2x4096x32 ![0, 0, 0, 0] (extractStridedSlice S2x2x4096x64 ![0, 0, 0, 64] U slices_S2x2x4096x128_S2x2x4096x64_0_0_0_64) slices_S2x2x4096x64_S2x2x4096x32_0_0_0_0) (broadcastInDim S2x2x4096x32 ![0, 1, 2, 3] bcast_S1x1x4096x32_S2x2x4096x32_0_1_2_3 (broadcastInDim S1x1x4096x32 ![2, 3] bcast_S4096x32_S1x1x4096x32_2_3 (Host.cos colAng)))) (mulf (extractStridedSlice S2x2x4096x32 ![0, 0, 0, 32] (extractStridedSlice S2x2x4096x64 ![0, 0, 0, 64] U slices_S2x2x4096x128_S2x2x4096x64_0_0_0_64) slices_S2x2x4096x64_S2x2x4096x32_0_0_0_32) (broadcastInDim S2x2x4096x32 ![0, 1, 2, 3] bcast_S1x1x4096x32_S2x2x4096x32_0_1_2_3 (broadcastInDim S1x1x4096x32 ![2, 3] bcast_S4096x32_S1x1x4096x32_2_3 (Host.sin colAng)))))⟩, ⟨S2x2x4096x32, (addf (mulf (extractStridedSlice S2x2x4096x32 ![0, 0, 0, 0] (extractStridedSlice S2x2x4096x64 ![0, 0, 0, 64] U slices_S2x2x4096x128_S2x2x4096x64_0_0_0_64) slices_S2x2x4096x64_S2x2x4096x32_0_0_0_0) (broadcastInDim S2x2x4096x32 ![0, 1, 2, 3] bcast_S1x1x4096x32_S2x2x4096x32_0_1_2_3 (broadcastInDim S1x1x4096x32 ![2, 3] bcast_S4096x32_S1x1x4096x32_2_3 (Host.sin colAng)))) (mulf (extractStridedSlice S2x2x4096x32 ![0, 0, 0, 32] (extractStridedSlice S2x2x4096x64 ![0, 0, 0, 64] U slices_S2x2x4096x128_S2x2x4096x64_0_0_0_64) slices_S2x2x4096x64_S2x2x4096x32_0_0_0_32) (broadcastInDim S2x2x4096x32 ![0, 1, 2, 3] bcast_S1x1x4096x32_S2x2x4096x32_0_1_2_3 (broadcastInDim S1x1x4096x32 ![2, 3] bcast_S4096x32_S1x1x4096x32_2_3 (Host.cos colAng)))))⟩] concatenates_S2x2x4096x32_S2x2x4096x32_S2x2x4096x64_d3)⟩] concatenates_S2x2x4096x64_S2x2x4096x64_S2x2x4096x128_d3

/-- Heads side by side. -/
def flat2 (U : FVec Ideal S2x2x4096x128 .f32) : FVec Ideal S8192x256 .bf16 :=
  truncf .bf16 (shapeCast _ (transpose S2x4096x2x128 [0, 2, 1, 3] U transposes_S2x2x4096x128_S2x4096x2x128_0_2_1_3) shapeCasts_S2x4096x2x128_S8192x256) bitsLt_bf16_f32

theorem heads2_apply (y : FVec Ideal S2x4096x256 .f32) (b : Fin 2) (h : Fin 2) (s : Fin 4096) (l : Fin 128) :
    heads2 y (ix4 b h s l) = y (ix3 b s ⟨128 * h.val + l.val, by omega⟩) := by
  pointwise [heads2]
  blk_ext

theorem unit2_apply (T : FVec Ideal S2x2x4096x128 .f32) (g : FVec Ideal S128 .f32) (b : Fin 2) (h : Fin 2) (s : Fin 4096) (l : Fin 128) :
    unit2 T g (ix4 b h s l) = normed (Ideal.ofBits .f32 0x43000000#32) (fun k => T (ix4 b h s k)) (fun k => g (ix1 k)) l := by
  pointwise [unit2]
  rfl

theorem flat2_apply (U : FVec Ideal S2x2x4096x128 .f32) (r : Fin 8192) (q : Fin 256) :
    flat2 U (ix2 r q) = U (ix4 ⟨r.val / 4096, by omega⟩ ⟨q.val / 128, by omega⟩ ⟨r.val % 4096, by omega⟩ ⟨q.val % 128, by omega⟩) := by
  pointwise [flat2]

theorem turn2_0 (U : FVec Ideal S2x2x4096x128 .f32) (b : Fin 2) (h : Fin 2) (s : Fin 4096) (j : Fin 32) :
    turn2 U (ix4 b h s ⟨0 + j.val, by omega⟩) = U (ix4 b h s ⟨0 + j.val, by omega⟩) * Ideal.cos (rowAng (ix2 s j)) - U (ix4 b h s ⟨32 + j.val, by omega⟩) * Ideal.sin (rowAng (ix2 s j)) := by
  pointwise [turn2]
  rw [dif_pos (by omega)]

theorem turn2_1 (U : FVec Ideal S2x2x4096x128 .f32) (b : Fin 2) (h : Fin 2) (s : Fin 4096) (j : Fin 32) :
    turn2 U (ix4 b h s ⟨32 + j.val, by omega⟩) = U (ix4 b h s ⟨0 + j.val, by omega⟩) * Ideal.sin (rowAng (ix2 s j)) + U (ix4 b h s ⟨32 + j.val, by omega⟩) * Ideal.cos (rowAng (ix2 s j)) := by
  pointwise [turn2]
  rw [dif_pos (by omega)]

theorem turn2_2 (U : FVec Ideal S2x2x4096x128 .f32) (b : Fin 2) (h : Fin 2) (s : Fin 4096) (j : Fin 32) :
    turn2 U (ix4 b h s ⟨64 + j.val, by omega⟩) = U (ix4 b h s ⟨64 + j.val, by omega⟩) * Ideal.cos (colAng (ix2 s j)) - U (ix4 b h s ⟨96 + j.val, by omega⟩) * Ideal.sin (colAng (ix2 s j)) := by
  pointwise [turn2]
  exact congrArg (fun i : Fin 128 => _ - U (ix4 b h s i) * _) (Fin.ext (by simp only; omega))

theorem turn2_3 (U : FVec Ideal S2x2x4096x128 .f32) (b : Fin 2) (h : Fin 2) (s : Fin 4096) (j : Fin 32) :
    turn2 U (ix4 b h s ⟨96 + j.val, by omega⟩) = U (ix4 b h s ⟨64 + j.val, by omega⟩) * Ideal.sin (colAng (ix2 s j)) + U (ix4 b h s ⟨96 + j.val, by omega⟩) * Ideal.cos (colAng (ix2 s j)) := by
  pointwise [turn2]
  rw [dif_neg (by omega), dif_neg (by omega)]
  simp only [show 96 + j.val - 64 - 32 = j.val by omega]
  exact congrArg (fun i : Fin 128 => _ + U (ix4 b h s i) * _) (Fin.ext (by simp only; omega))

theorem hid_apply (x : FVec Ideal S2x4096x2048 .f32) (e : FVec Ideal S8x12288 .f32) (n : FVec Ideal S2048 .f32) (b : Fin 2) (s : Fin 4096) (d : Fin 2048) :
    hid x e n (ix3 b s d) = hidden (fun k => x (ix3 b s k)) (fun k => n (ix1 k)) (fun k => e (ix2 ⟨1 + b.val, by omega⟩ ⟨2048 + k.val, by omega⟩)) (fun k => e (ix2 ⟨1 + b.val, by omega⟩ ⟨k.val, by omega⟩)) d := by
  pointwise [hid]
  rfl

theorem proj_apply (h : FVec Ideal S2x4096x2048 .f32) (w : FVec Ideal S2048x5120 .f32) (b : Fin 2) (s : Fin 4096) (e : Fin 5120) :
    proj h w (ix3 b s e) = ∑ d : Fin 2048, h (ix3 b s d) * w (ix2 d e) := by
  pointwise [proj]

theorem ang_0 (s : Fin 4096) (j : Fin 32) : ang s ⟨0 + j.val, by omega⟩ = rowAng (ix2 s j) := by
  unfold ang
  rw [if_pos (by simp only; omega)]
  blk_ext

theorem ang_1 (s : Fin 4096) (j : Fin 32) : ang s ⟨32 + j.val, by omega⟩ = rowAng (ix2 s j) := by
  unfold ang
  rw [if_pos (by simp only; omega)]
  blk_ext

theorem ang_2 (s : Fin 4096) (j : Fin 32) : ang s ⟨64 + j.val, by omega⟩ = colAng (ix2 s j) := by
  unfold ang
  rw [if_neg (by simp only; omega)]
  blk_ext

theorem ang_3 (s : Fin 4096) (j : Fin 32) : ang s ⟨96 + j.val, by omega⟩ = colAng (ix2 s j) := by
  unfold ang
  rw [if_neg (by simp only; omega)]
  blk_ext

theorem turn6_apply (U : FVec Ideal S2x6x4096x128 .f32) (b : Fin 2) (h : Fin 6) (s : Fin 4096) (l : Fin 128) :
    turn6 U (ix4 b h s l) = turned (ang s) (fun k => U (ix4 b h s k)) l := by
  rcases (by omega : l.val < 32 ∨ (32 ≤ l.val ∧ l.val < 64) ∨ (64 ≤ l.val ∧ l.val < 96) ∨ (96 ≤ l.val ∧ l.val < 128)) with hl | hl | hl | hl
  · obtain ⟨j, hj⟩ : ∃ j : Fin 32, 0 + j.val = l.val := ⟨⟨l.val - 0, by omega⟩, by simp only; omega⟩
    obtain rfl : (⟨0 + j.val, Nat.lt_of_lt_of_le (Nat.add_lt_add_left j.isLt _) (by decide)⟩ : Fin 128) = l := Fin.ext hj
    rw [turn6_0]
    unfold turned
    rw [dif_pos (by simp only; omega), ang_0]
    exact congrArg (fun i : Fin 128 => _ - U (ix4 b h s i) * _) (Fin.ext (by simp only; omega))
  · obtain ⟨j, hj⟩ : ∃ j : Fin 32, 32 + j.val = l.val := ⟨⟨l.val - 32, by omega⟩, by simp only; omega⟩
    obtain rfl : (⟨32 + j.val, Nat.lt_of_lt_of_le (Nat.add_lt_add_left j.isLt _) (by decide)⟩ : Fin 128) = l := Fin.ext hj
    rw [turn6_1]
    unfold turned
    rw [dif_neg (by simp only; omega), ang_1]
    exact congrArg (fun i : Fin 128 => U (ix4 b h s i) * _ + _) (Fin.ext (by simp only; omega))
  · obtain ⟨j, hj⟩ : ∃ j : Fin 32, 64 + j.val = l.val := ⟨⟨l.val - 64, by omega⟩, by simp only; omega⟩
    obtain rfl : (⟨64 + j.val, Nat.lt_of_lt_of_le (Nat.add_lt_add_left j.isLt _) (by decide)⟩ : Fin 128) = l := Fin.ext hj
    rw [turn6_2]
    unfold turned
    rw [dif_pos (by simp only; omega), ang_2]
    exact congrArg (fun i : Fin 128 => _ - U (ix4 b h s i) * _) (Fin.ext (by simp only; omega))
  · obtain ⟨j, hj⟩ : ∃ j : Fin 32, 96 + j.val = l.val := ⟨⟨l.val - 96, by omega⟩, by simp only; omega⟩
    obtain rfl : (⟨96 + j.val, Nat.lt_of_lt_of_le (Nat.add_lt_add_left j.isLt _) (by decide)⟩ : Fin 128) = l := Fin.ext hj
    rw [turn6_3]
    unfold turned
    rw [dif_neg (by simp only; omega), ang_3]
    exact congrArg (fun i : Fin 128 => U (ix4 b h s i) * _ + _) (Fin.ext (by simp only; omega))

theorem turn2_apply (U : FVec Ideal S2x2x4096x128 .f32) (b : Fin 2) (h : Fin 2) (s : Fin 4096) (l : Fin 128) :
    turn2 U (ix4 b h s l) = turned (ang s) (fun k => U (ix4 b h s k)) l := by
  rcases (by omega : l.val < 32 ∨ (32 ≤ l.val ∧ l.val < 64) ∨ (64 ≤ l.val ∧ l.val < 96) ∨ (96 ≤ l.val ∧ l.val < 128)) with hl | hl | hl | hl
  · obtain ⟨j, hj⟩ : ∃ j : Fin 32, 0 + j.val = l.val := ⟨⟨l.val - 0, by omega⟩, by simp only; omega⟩
    obtain rfl : (⟨0 + j.val, Nat.lt_of_lt_of_le (Nat.add_lt_add_left j.isLt _) (by decide)⟩ : Fin 128) = l := Fin.ext hj
    rw [turn2_0]
    unfold turned
    rw [dif_pos (by simp only; omega), ang_0]
    exact congrArg (fun i : Fin 128 => _ - U (ix4 b h s i) * _) (Fin.ext (by simp only; omega))
  · obtain ⟨j, hj⟩ : ∃ j : Fin 32, 32 + j.val = l.val := ⟨⟨l.val - 32, by omega⟩, by simp only; omega⟩
    obtain rfl : (⟨32 + j.val, Nat.lt_of_lt_of_le (Nat.add_lt_add_left j.isLt _) (by decide)⟩ : Fin 128) = l := Fin.ext hj
    rw [turn2_1]
    unfold turned
    rw [dif_neg (by simp only; omega), ang_1]
    exact congrArg (fun i : Fin 128 => U (ix4 b h s i) * _ + _) (Fin.ext (by simp only; omega))
  · obtain ⟨j, hj⟩ : ∃ j : Fin 32, 64 + j.val = l.val := ⟨⟨l.val - 64, by omega⟩, by simp only; omega⟩
    obtain rfl : (⟨64 + j.val, Nat.lt_of_lt_of_le (Nat.add_lt_add_left j.isLt _) (by decide)⟩ : Fin 128) = l := Fin.ext hj
    rw [turn2_2]
    unfold turned
    rw [dif_pos (by simp only; omega), ang_2]
    exact congrArg (fun i : Fin 128 => _ - U (ix4 b h s i) * _) (Fin.ext (by simp only; omega))
  · obtain ⟨j, hj⟩ : ∃ j : Fin 32, 96 + j.val = l.val := ⟨⟨l.val - 96, by omega⟩, by simp only; omega⟩
    obtain rfl : (⟨96 + j.val, Nat.lt_of_lt_of_le (Nat.add_lt_add_left j.isLt _) (by decide)⟩ : Fin 128) = l := Fin.ext hj
    rw [turn2_3]
    unfold turned
    rw [dif_neg (by simp only; omega), ang_3]
    exact congrArg (fun i : Fin 128 => U (ix4 b h s i) * _ + _) (Fin.ext (by simp only; omega))

/-- The first part of the projection, for the filter. -/
def hy (x : FVec Ideal S2x4096x2048 .f32) (e : FVec Ideal S8x12288 .f32) (n : FVec Ideal S2048 .f32) (w : FVec Ideal S2048x5120 .f32) : FVec Ideal S8192x1536 .f32 :=
  shapeCast _ (extractStridedSlice S2x4096x1536 ![0, 0, 0] (proj (hid x e n) w) slices_S2x4096x5120_S2x4096x1536_0_0_0) shapeCasts_S2x4096x1536_S8192x1536

theorem hy_apply (x : FVec Ideal S2x4096x2048 .f32) (e : FVec Ideal S8x12288 .f32) (n : FVec Ideal S2048 .f32) (w : FVec Ideal S2048x5120 .f32) (r : Fin 8192) (l : Fin 1536) :
    hy x e n w (ix2 r l) = entry (fun k => x (ix3 ⟨r.val / 4096, by omega⟩ ⟨r.val % 4096, by omega⟩ k)) (fun k => n (ix1 k)) (fun k => e (ix2 ⟨1 + (⟨r.val / 4096, by omega⟩ : Fin 2).val, by omega⟩ ⟨2048 + k.val, by omega⟩)) (fun k => e (ix2 ⟨1 + (⟨r.val / 4096, by omega⟩ : Fin 2).val, by omega⟩ ⟨k.val, by omega⟩)) (fun d => w (ix2 d ⟨l.val, by omega⟩)) := by
  rw [hy]
  pointwise
  simp only [proj_apply, hid_apply]
  rfl

theorem naq_head (x : FVec Ideal S2x4096x2048 .f32) (e : FVec Ideal S8x12288 .f32) (n : FVec Ideal S2048 .f32) (w : FVec Ideal S2048x5120 .f32) (b : Fin 2) (h : Fin 6) (s : Fin 4096) (l : Fin 128) :
    heads6 (extractStridedSlice S2x4096x768 ![0, 0, 1536] (proj (hid x e n) w) slices_S2x4096x5120_S2x4096x768_0_0_1536) (ix4 b h s l) = entry (fun k => x (ix3 b s k)) (fun k => n (ix1 k)) (fun k => e (ix2 ⟨1 + (b : Fin 2).val, by omega⟩ ⟨2048 + k.val, by omega⟩)) (fun k => e (ix2 ⟨1 + (b : Fin 2).val, by omega⟩ ⟨k.val, by omega⟩)) (fun d => w (ix2 d ⟨1536 + (128 * h.val + l.val), by omega⟩)) := by
  rw [heads6_apply]
  pointwise
  simp only [proj_apply, hid_apply]
  rfl

def naq (x : FVec Ideal S2x4096x2048 .f32) (e : FVec Ideal S8x12288 .f32) (n : FVec Ideal S2048 .f32) (w : FVec Ideal S2048x5120 .f32) (g : FVec Ideal S128 .f32) : FVec Ideal S8192x768 .bf16 :=
  flatScaled (unit6 (heads6 (extractStridedSlice S2x4096x768 ![0, 0, 1536] (proj (hid x e n) w) slices_S2x4096x5120_S2x4096x768_0_0_1536)) g)

theorem naq_apply (x : FVec Ideal S2x4096x2048 .f32) (e : FVec Ideal S8x12288 .f32) (n : FVec Ideal S2048 .f32) (w : FVec Ideal S2048x5120 .f32) (g : FVec Ideal S128 .f32) (r : Fin 8192) (q : Fin 768) :
    naq x e n w g (ix2 r q) = normed (Ideal.ofBits .f32 0x43000000#32) (fun j : Fin 128 => entry (fun k => x (ix3 ⟨r.val / 4096, by omega⟩ ⟨r.val % 4096, by omega⟩ k)) (fun k => n (ix1 k)) (fun k => e (ix2 ⟨1 + (⟨r.val / 4096, by omega⟩ : Fin 2).val, by omega⟩ ⟨2048 + k.val, by omega⟩)) (fun k => e (ix2 ⟨1 + (⟨r.val / 4096, by omega⟩ : Fin 2).val, by omega⟩ ⟨k.val, by omega⟩)) (fun d => w (ix2 d ⟨1536 + (128 * (q.val / 128) + j.val), by omega⟩))) (fun k => g (ix1 k)) ⟨q.val % 128, by omega⟩ * Ideal.ofBits .f32 0x3E0293EE#32 := by
  rw [naq, flatScaled_apply]
  simp only [unit6_apply, naq_head]

theorem nak_head (x : FVec Ideal S2x4096x2048 .f32) (e : FVec Ideal S8x12288 .f32) (n : FVec Ideal S2048 .f32) (w : FVec Ideal S2048x5120 .f32) (b : Fin 2) (h : Fin 6) (s : Fin 4096) (l : Fin 128) :
    heads6 (extractStridedSlice S2x4096x768 ![0, 0, 2304] (proj (hid x e n) w) slices_S2x4096x5120_S2x4096x768_0_0_2304) (ix4 b h s l) = entry (fun k => x (ix3 b s k)) (fun k => n (ix1 k)) (fun k => e (ix2 ⟨1 + (b : Fin 2).val, by omega⟩ ⟨2048 + k.val, by omega⟩)) (fun k => e (ix2 ⟨1 + (b : Fin 2).val, by omega⟩ ⟨k.val, by omega⟩)) (fun d => w (ix2 d ⟨2304 + (128 * h.val + l.val), by omega⟩)) := by
  rw [heads6_apply]
  pointwise
  simp only [proj_apply, hid_apply]
  rfl

def nak (x : FVec Ideal S2x4096x2048 .f32) (e : FVec Ideal S8x12288 .f32) (n : FVec Ideal S2048 .f32) (w : FVec Ideal S2048x5120 .f32) (g : FVec Ideal S128 .f32) : FVec Ideal S8192x768 .bf16 :=
  flat6 (unit6 (heads6 (extractStridedSlice S2x4096x768 ![0, 0, 2304] (proj (hid x e n) w) slices_S2x4096x5120_S2x4096x768_0_0_2304)) g)

theorem nak_apply (x : FVec Ideal S2x4096x2048 .f32) (e : FVec Ideal S8x12288 .f32) (n : FVec Ideal S2048 .f32) (w : FVec Ideal S2048x5120 .f32) (g : FVec Ideal S128 .f32) (r : Fin 8192) (q : Fin 768) :
    nak x e n w g (ix2 r q) = normed (Ideal.ofBits .f32 0x43000000#32) (fun j : Fin 128 => entry (fun k => x (ix3 ⟨r.val / 4096, by omega⟩ ⟨r.val % 4096, by omega⟩ k)) (fun k => n (ix1 k)) (fun k => e (ix2 ⟨1 + (⟨r.val / 4096, by omega⟩ : Fin 2).val, by omega⟩ ⟨2048 + k.val, by omega⟩)) (fun k => e (ix2 ⟨1 + (⟨r.val / 4096, by omega⟩ : Fin 2).val, by omega⟩ ⟨k.val, by omega⟩)) (fun d => w (ix2 d ⟨2304 + (128 * (q.val / 128) + j.val), by omega⟩))) (fun k => g (ix1 k)) ⟨q.val % 128, by omega⟩ := by
  rw [nak, flat6_apply]
  simp only [unit6_apply, nak_head]

theorem nav_head (x : FVec Ideal S2x4096x2048 .f32) (e : FVec Ideal S8x12288 .f32) (n : FVec Ideal S2048 .f32) (w : FVec Ideal S2048x5120 .f32) (b : Fin 2) (h : Fin 6) (s : Fin 4096) (l : Fin 128) :
    heads6 (extractStridedSlice S2x4096x768 ![0, 0, 3072] (proj (hid x e n) w) slices_S2x4096x5120_S2x4096x768_0_0_3072) (ix4 b h s l) = entry (fun k => x (ix3 b s k)) (fun k => n (ix1 k)) (fun k => e (ix2 ⟨1 + (b : Fin 2).val, by omega⟩ ⟨2048 + k.val, by omega⟩)) (fun k => e (ix2 ⟨1 + (b : Fin 2).val, by omega⟩ ⟨k.val, by omega⟩)) (fun d => w (ix2 d ⟨3072 + (128 * h.val + l.val), by omega⟩)) := by
  rw [heads6_apply]
  pointwise
  simp only [proj_apply, hid_apply]
  rfl

def nav (x : FVec Ideal S2x4096x2048 .f32) (e : FVec Ideal S8x12288 .f32) (n : FVec Ideal S2048 .f32) (w : FVec Ideal S2048x5120 .f32) : FVec Ideal S8192x768 .bf16 :=
  flat6 (heads6 (extractStridedSlice S2x4096x768 ![0, 0, 3072] (proj (hid x e n) w) slices_S2x4096x5120_S2x4096x768_0_0_3072))

theorem nav_apply (x : FVec Ideal S2x4096x2048 .f32) (e : FVec Ideal S8x12288 .f32) (n : FVec Ideal S2048 .f32) (w : FVec Ideal S2048x5120 .f32) (r : Fin 8192) (q : Fin 768) :
    nav x e n w (ix2 r q) = entry (fun k => x (ix3 ⟨r.val / 4096, by omega⟩ ⟨r.val % 4096, by omega⟩ k)) (fun k => n (ix1 k)) (fun k => e (ix2 ⟨1 + (⟨r.val / 4096, by omega⟩ : Fin 2).val, by omega⟩ ⟨2048 + k.val, by omega⟩)) (fun k => e (ix2 ⟨1 + (⟨r.val / 4096, by omega⟩ : Fin 2).val, by omega⟩ ⟨k.val, by omega⟩)) (fun d => w (ix2 d ⟨3072 + (128 * (q.val / 128) + q.val % 128), by omega⟩)) := by
  rw [nav, flat6_apply, nav_head]

theorem gq_head (x : FVec Ideal S2x4096x2048 .f32) (e : FVec Ideal S8x12288 .f32) (n : FVec Ideal S2048 .f32) (w : FVec Ideal S2048x5120 .f32) (b : Fin 2) (h : Fin 6) (s : Fin 4096) (l : Fin 128) :
    heads6 (extractStridedSlice S2x4096x768 ![0, 0, 3840] (proj (hid x e n) w) slices_S2x4096x5120_S2x4096x768_0_0_3840) (ix4 b h s l) = entry (fun k => x (ix3 b s k)) (fun k => n (ix1 k)) (fun k => e (ix2 ⟨1 + (b : Fin 2).val, by omega⟩ ⟨2048 + k.val, by omega⟩)) (fun k => e (ix2 ⟨1 + (b : Fin 2).val, by omega⟩ ⟨k.val, by omega⟩)) (fun d => w (ix2 d ⟨3840 + (128 * h.val + l.val), by omega⟩)) := by
  rw [heads6_apply]
  pointwise
  simp only [proj_apply, hid_apply]
  rfl

def gq (x : FVec Ideal S2x4096x2048 .f32) (e : FVec Ideal S8x12288 .f32) (n : FVec Ideal S2048 .f32) (w : FVec Ideal S2048x5120 .f32) (g : FVec Ideal S128 .f32) : FVec Ideal S8192x768 .bf16 :=
  flatScaled (turn6 (unit6 (heads6 (extractStridedSlice S2x4096x768 ![0, 0, 3840] (proj (hid x e n) w) slices_S2x4096x5120_S2x4096x768_0_0_3840)) g))

theorem gq_apply (x : FVec Ideal S2x4096x2048 .f32) (e : FVec Ideal S8x12288 .f32) (n : FVec Ideal S2048 .f32) (w : FVec Ideal S2048x5120 .f32) (g : FVec Ideal S128 .f32) (r : Fin 8192) (q : Fin 768) :
    gq x e n w g (ix2 r q) = turned (ang ⟨r.val % 4096, by omega⟩) (fun i => normed (Ideal.ofBits .f32 0x43000000#32) (fun j : Fin 128 => entry (fun k => x (ix3 ⟨r.val / 4096, by omega⟩ ⟨r.val % 4096, by omega⟩ k)) (fun k => n (ix1 k)) (fun k => e (ix2 ⟨1 + (⟨r.val / 4096, by omega⟩ : Fin 2).val, by omega⟩ ⟨2048 + k.val, by omega⟩)) (fun k => e (ix2 ⟨1 + (⟨r.val / 4096, by omega⟩ : Fin 2).val, by omega⟩ ⟨k.val, by omega⟩)) (fun d => w (ix2 d ⟨3840 + (128 * (q.val / 128) + j.val), by omega⟩))) (fun k => g (ix1 k)) i) ⟨q.val % 128, by omega⟩ * Ideal.ofBits .f32 0x3E0293EE#32 := by
  rw [gq, flatScaled_apply]
  simp only [turn6_apply, unit6_apply, gq_head]

theorem gk_head (x : FVec Ideal S2x4096x2048 .f32) (e : FVec Ideal S8x12288 .f32) (n : FVec Ideal S2048 .f32) (w : FVec Ideal S2048x5120 .f32) (b : Fin 2) (h : Fin 2) (s : Fin 4096) (l : Fin 128) :
    heads2 (extractStridedSlice S2x4096x256 ![0, 0, 4608] (proj (hid x e n) w) slices_S2x4096x5120_S2x4096x256_0_0_4608) (ix4 b h s l) = entry (fun k => x (ix3 b s k)) (fun k => n (ix1 k)) (fun k => e (ix2 ⟨1 + (b : Fin 2).val, by omega⟩ ⟨2048 + k.val, by omega⟩)) (fun k => e (ix2 ⟨1 + (b : Fin 2).val, by omega⟩ ⟨k.val, by omega⟩)) (fun d => w (ix2 d ⟨4608 + (128 * h.val + l.val), by omega⟩)) := by
  rw [heads2_apply]
  pointwise
  simp only [proj_apply, hid_apply]
  rfl

def gk (x : FVec Ideal S2x4096x2048 .f32) (e : FVec Ideal S8x12288 .f32) (n : FVec Ideal S2048 .f32) (w : FVec Ideal S2048x5120 .f32) (g : FVec Ideal S128 .f32) : FVec Ideal S8192x256 .bf16 :=
  flat2 (turn2 (unit2 (heads2 (extractStridedSlice S2x4096x256 ![0, 0, 4608] (proj (hid x e n) w) slices_S2x4096x5120_S2x4096x256_0_0_4608)) g))

theorem gk_apply (x : FVec Ideal S2x4096x2048 .f32) (e : FVec Ideal S8x12288 .f32) (n : FVec Ideal S2048 .f32) (w : FVec Ideal S2048x5120 .f32) (g : FVec Ideal S128 .f32) (r : Fin 8192) (q : Fin 256) :
    gk x e n w g (ix2 r q) = turned (ang ⟨r.val % 4096, by omega⟩) (fun i => normed (Ideal.ofBits .f32 0x43000000#32) (fun j : Fin 128 => entry (fun k => x (ix3 ⟨r.val / 4096, by omega⟩ ⟨r.val % 4096, by omega⟩ k)) (fun k => n (ix1 k)) (fun k => e (ix2 ⟨1 + (⟨r.val / 4096, by omega⟩ : Fin 2).val, by omega⟩ ⟨2048 + k.val, by omega⟩)) (fun k => e (ix2 ⟨1 + (⟨r.val / 4096, by omega⟩ : Fin 2).val, by omega⟩ ⟨k.val, by omega⟩)) (fun d => w (ix2 d ⟨4608 + (128 * (q.val / 128) + j.val), by omega⟩))) (fun k => g (ix1 k)) i) ⟨q.val % 128, by omega⟩ := by
  rw [gk, flat2_apply]
  simp only [turn2_apply, unit2_apply, gk_head]

theorem gv_head (x : FVec Ideal S2x4096x2048 .f32) (e : FVec Ideal S8x12288 .f32) (n : FVec Ideal S2048 .f32) (w : FVec Ideal S2048x5120 .f32) (b : Fin 2) (h : Fin 2) (s : Fin 4096) (l : Fin 128) :
    heads2 (extractStridedSlice S2x4096x256 ![0, 0, 4864] (proj (hid x e n) w) slices_S2x4096x5120_S2x4096x256_0_0_4864) (ix4 b h s l) = entry (fun k => x (ix3 b s k)) (fun k => n (ix1 k)) (fun k => e (ix2 ⟨1 + (b : Fin 2).val, by omega⟩ ⟨2048 + k.val, by omega⟩)) (fun k => e (ix2 ⟨1 + (b : Fin 2).val, by omega⟩ ⟨k.val, by omega⟩)) (fun d => w (ix2 d ⟨4864 + (128 * h.val + l.val), by omega⟩)) := by
  rw [heads2_apply]
  pointwise
  simp only [proj_apply, hid_apply]
  rfl

def gv (x : FVec Ideal S2x4096x2048 .f32) (e : FVec Ideal S8x12288 .f32) (n : FVec Ideal S2048 .f32) (w : FVec Ideal S2048x5120 .f32) : FVec Ideal S8192x256 .bf16 :=
  flat2 (heads2 (extractStridedSlice S2x4096x256 ![0, 0, 4864] (proj (hid x e n) w) slices_S2x4096x5120_S2x4096x256_0_0_4864))

theorem gv_apply (x : FVec Ideal S2x4096x2048 .f32) (e : FVec Ideal S8x12288 .f32) (n : FVec Ideal S2048 .f32) (w : FVec Ideal S2048x5120 .f32) (r : Fin 8192) (q : Fin 256) :
    gv x e n w (ix2 r q) = entry (fun k => x (ix3 ⟨r.val / 4096, by omega⟩ ⟨r.val % 4096, by omega⟩ k)) (fun k => n (ix1 k)) (fun k => e (ix2 ⟨1 + (⟨r.val / 4096, by omega⟩ : Fin 2).val, by omega⟩ ⟨2048 + k.val, by omega⟩)) (fun k => e (ix2 ⟨1 + (⟨r.val / 4096, by omega⟩ : Fin 2).val, by omega⟩ ⟨k.val, by omega⟩)) (fun d => w (ix2 d ⟨4864 + (128 * (q.val / 128) + q.val % 128), by omega⟩)) := by
  rw [gv, flat2_apply, gv_head]

end Cert.Reference4Ideal.Proj
end
-- ==== Proof.RopePieces.lean ====
module

public import proofs.«01_k».proof.Proof.Gen.Kernel4Ideal.Frame
public import proofs.«01_k».proof.Proof.RopeRef
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.Kernel4Ideal.Proj
open Cert.Kernel4Ideal Cert.Kernel4Ideal.Gen Cert.Rows

/-- A head's entries times a cosine and their partners times a sine. -/
def spin (v c u : FVec Ideal S512x128 .f32) : FVec Ideal S512x128 .f32 :=
  have v580 : IVec S512x128 32 := iota .tc S512x128 32 [1] iota_S512x128_d1_w32
  let v581 : BitVec 1 := Scalar.cmpi .eq 64#32 0#32
  let v582 : BitVec 32 := Scalar.select v581 1#32 64#32
  have v583 : IVec S512x128 32 := broadcast S512x128 v582
  have v584 : IVec S512x128 32 := remsi v580 v583
  have v585 : IVec S512x128 32 := broadcast S512x128 0#32
  have v586 : IVec S512x128 1 := cmpi .ne v584 v585
  have v587 : IVec S512x128 32 := broadcast S512x128 0#32
  have v588 : IVec S512x128 1 := cmpi .slt v584 v587
  let v589 : BitVec 1 := Scalar.cmpi .slt v582 0#32
  have v590 : IVec S512x128 1 := broadcast S512x128 v589
  have v591 : IVec S512x128 1 := broadcastTo S512x128 v590 broadcasts_S512x128_S512x128
  have v592 : IVec S512x128 1 := xori v588 v591
  have v593 : IVec S512x128 1 := andi v592 v586
  have v594 : IVec S512x128 32 := broadcast S512x128 v582
  have v595 : IVec S512x128 32 := addi v584 v594
  have v596 : IVec S512x128 32 := select v593 v595 v584
  have v597 : IVec S512x128 32 := broadcast S512x128 32#32
  have v598 : IVec S512x128 1 := cmpi .slt v596 v597
  have v599 : FVec Ideal S512x128 .f32 := dynamicRotate 1 96#32 none v rotates_S512x128_d1
  have v600 : FVec Ideal S512x128 .f32 := dynamicRotate 1 32#32 none v rotates_S512x128_d1
  have v601 : FVec Ideal S512x128 .f32 := select v598 v599 v600
  have v602 : FVec Ideal S512x128 .f32 := mulf v c
  have v603 : FVec Ideal S512x128 .f32 := mulf v601 u
  have v604 : FVec Ideal S512x128 .f32 := addf v602 v603
  v604

/-- A head's norm. -/
def unitHead (g : FVec Ideal S1x128 .f32) (z : FVec Ideal S512x128 .f32) : FVec Ideal S512x128 .f32 :=
  have v524 : FVec Ideal S512x128 .f32 := mulf z z
  have v525 : FVec Ideal S512 .f32 := multiReduction .add [1] S512 v524 0x00000000#32 reduces_S512x128_S512 (.inl rfl) rfl
  have v526 : FVec Ideal S512x1 .f32 := shapeCast S512x1 v525 shapeCasts_S512_S512x1
  have cst_194 : Ideal .f32 := Scalar.ofBits .f32 0x43000000#32
  have v527 : FVec Ideal S512x1 .f32 := broadcast S512x1 cst_194
  have v528 : FVec Ideal S512x1 .f32 := divf v526 v527
  have cst_195 : Ideal .f32 := Scalar.ofBits .f32 0x358637BD#32
  have v529 : FVec Ideal S512x1 .f32 := broadcast S512x1 cst_195
  have v530 : FVec Ideal S512x1 .f32 := addf v528 v529
  have v531 : FVec Ideal S512x1 .f32 := rsqrt v530
  have v532 : FVec Ideal S512x128 .f32 := broadcastTo S512x128 v531 broadcasts_S512x1_S512x128
  have v533 : FVec Ideal S512x128 .f32 := mulf z v532
  have v534 : FVec Ideal S512x128 .f32 := broadcastTo S512x128 g broadcasts_S1x128_S512x128
  have v535 : FVec Ideal S512x128 .f32 := mulf v533 v534
  v535

/-- Whether a lane is in the lower part of its half, as the kernel computes it. -/
def lower (l : ℕ) : BitVec 1 :=
  IntOp.cmpi CmpIPredicate.slt
    (Scalar.select
      (IntOp.andi
        (IntOp.xori
          (IntOp.cmpi CmpIPredicate.slt
            (IntOp.remsi ArithUnit.vector (BitVec.ofNat 32 l)
              (Scalar.select (Scalar.cmpi CmpIPredicate.eq 64#32 0#32) 1#32 64#32))
            0#32)
          (Scalar.cmpi CmpIPredicate.slt (Scalar.select (Scalar.cmpi CmpIPredicate.eq 64#32 0#32) 1#32 64#32)
            0#32))
        (IntOp.cmpi CmpIPredicate.ne
          (IntOp.remsi ArithUnit.vector (BitVec.ofNat 32 l)
            (Scalar.select (Scalar.cmpi CmpIPredicate.eq 64#32 0#32) 1#32 64#32))
          0#32))
      (IntOp.addi
        (IntOp.remsi ArithUnit.vector (BitVec.ofNat 32 l)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l)
        (Scalar.select (Scalar.cmpi CmpIPredicate.eq 64#32 0#32) 1#32 64#32)))
    32#32

theorem lower_eq : ∀ l : Fin 128, lower l.val = if l.val % 64 < 32 then 1#1 else 0#1 := by
  decide +kernel

theorem spin_apply (v c u : FVec Ideal S512x128 .f32) (r : Fin 512) (l : Fin 128) :
    spin v c u (ix2 r l) = spun (fun k => v (ix2 r k)) (fun k => c (ix2 r k)) (fun k => u (ix2 r k)) l := by
  have hm := lower_eq l
  unfold lower at hm
  pointwise [spin, spun]
  rw [hm]
  by_cases h : l.val % 64 < 32
  · rw [if_pos h, dif_pos h]
    exact congrArg (fun i : Fin 128 => _ + v (ix2 r i) * _) (Fin.ext (by simp only; omega))
  · rw [if_neg h, dif_neg h]
    exact congrArg (fun i : Fin 128 => _ + v (ix2 r i) * _) (Fin.ext (by simp only; omega))

theorem unitHead_apply (g : FVec Ideal S1x128 .f32) (z : FVec Ideal S512x128 .f32) (r : Fin 512) (l : Fin 128) :
    unitHead g z (ix2 r l) = normed (Ideal.ofBits .f32 0x43000000#32) (fun k => z (ix2 r k)) (fun k => g (ix2 0 k)) l := by
  pointwise [unitHead, normed]

theorem naq_5 (z : FVec Ideal S512x768 .f32) (g : FVec Ideal S1x128 .f32) (r : Fin 512) (l : Fin 128) :
    k0_pay37 (F := Ideal) g z (ix2 r l) = normed (Ideal.ofBits .f32 0x43000000#32) (fun k => z (ix2 r ⟨640 + k.val, by omega⟩)) (fun k => g (ix2 0 k)) l * Ideal.ofBits .f32 0x3E0293EE#32 := by
  have e : k0_pay37 (F := Ideal) g z = truncf .bf16 (mulf (unitHead g (extractStridedSlice S512x128 ![0, 640] z slices_S512x768_o0_640_S512x128)) (broadcast S512x128 (Scalar.ofBits .f32 0x3E0293EE#32))) bitsLt_bf16_f32 := rfl
  rw [e]
  pointwise [unitHead_apply]

theorem naq_4 (z : FVec Ideal S512x768 .f32) (g : FVec Ideal S1x128 .f32) (r : Fin 512) (l : Fin 128) :
    k0_pay34 (F := Ideal) g z (ix2 r l) = normed (Ideal.ofBits .f32 0x43000000#32) (fun k => z (ix2 r ⟨512 + k.val, by omega⟩)) (fun k => g (ix2 0 k)) l * Ideal.ofBits .f32 0x3E0293EE#32 := by
  have e : k0_pay34 (F := Ideal) g z = truncf .bf16 (mulf (unitHead g (extractStridedSlice S512x128 ![0, 512] z slices_S512x768_o0_512_S512x128)) (broadcast S512x128 (Scalar.ofBits .f32 0x3E0293EE#32))) bitsLt_bf16_f32 := rfl
  rw [e]
  pointwise [unitHead_apply]

theorem naq_3 (z : FVec Ideal S512x768 .f32) (g : FVec Ideal S1x128 .f32) (r : Fin 512) (l : Fin 128) :
    k0_pay30 (F := Ideal) g z (ix2 r l) = normed (Ideal.ofBits .f32 0x43000000#32) (fun k => z (ix2 r ⟨384 + k.val, by omega⟩)) (fun k => g (ix2 0 k)) l * Ideal.ofBits .f32 0x3E0293EE#32 := by
  have e : k0_pay30 (F := Ideal) g z = truncf .bf16 (mulf (unitHead g (extractStridedSlice S512x128 ![0, 384] z slices_S512x768_o0_384_S512x128)) (broadcast S512x128 (Scalar.ofBits .f32 0x3E0293EE#32))) bitsLt_bf16_f32 := rfl
  rw [e]
  pointwise [unitHead_apply]

theorem naq_2 (z : FVec Ideal S512x768 .f32) (g : FVec Ideal S1x128 .f32) (r : Fin 512) (l : Fin 128) :
    k0_pay25 (F := Ideal) g z (ix2 r l) = normed (Ideal.ofBits .f32 0x43000000#32) (fun k => z (ix2 r ⟨256 + k.val, by omega⟩)) (fun k => g (ix2 0 k)) l * Ideal.ofBits .f32 0x3E0293EE#32 := by
  have e : k0_pay25 (F := Ideal) g z = truncf .bf16 (mulf (unitHead g (extractStridedSlice S512x128 ![0, 256] z slices_S512x768_o0_256_S512x128)) (broadcast S512x128 (Scalar.ofBits .f32 0x3E0293EE#32))) bitsLt_bf16_f32 := rfl
  rw [e]
  pointwise [unitHead_apply]

theorem naq_1 (z : FVec Ideal S512x768 .f32) (g : FVec Ideal S1x128 .f32) (r : Fin 512) (l : Fin 128) :
    k0_pay22 (F := Ideal) g z (ix2 r l) = normed (Ideal.ofBits .f32 0x43000000#32) (fun k => z (ix2 r ⟨128 + k.val, by omega⟩)) (fun k => g (ix2 0 k)) l * Ideal.ofBits .f32 0x3E0293EE#32 := by
  have e : k0_pay22 (F := Ideal) g z = truncf .bf16 (mulf (unitHead g (extractStridedSlice S512x128 ![0, 128] z slices_S512x768_o0_128_S512x128)) (broadcast S512x128 (Scalar.ofBits .f32 0x3E0293EE#32))) bitsLt_bf16_f32 := rfl
  rw [e]
  pointwise [unitHead_apply]

theorem naq_0 (y : FVec Ideal S512x2048 .bf16) (p : Vec Ideal S2048x768 .bf16) (g : FVec Ideal S1x128 .f32) (r : Fin 512) (l : Fin 128) :
    k0_pay19 (F := Ideal) g (k0_pay17 y p) (k0_pay18 y p) (ix2 r l) = normed (Ideal.ofBits .f32 0x43000000#32) (fun k => (k0_pay9 (F := Ideal) y p) (ix2 r ⟨0 + k.val, by omega⟩)) (fun k => g (ix2 0 k)) l * Ideal.ofBits .f32 0x3E0293EE#32 := by
  have e : k0_pay19 (F := Ideal) g (k0_pay17 y p) (k0_pay18 y p) = truncf .bf16 (mulf (unitHead g (extractStridedSlice S512x128 ![0, 0] (k0_pay9 (F := Ideal) y p) slices_S512x768_o0_0_S512x128)) (broadcast S512x128 (Scalar.ofBits .f32 0x3E0293EE#32))) bitsLt_bf16_f32 := rfl
  rw [e]
  pointwise [unitHead_apply]

theorem nak_5 (z : FVec Ideal S512x768 .f32) (g : FVec Ideal S1x128 .f32) (r : Fin 512) (l : Fin 128) :
    k0_pay38 (F := Ideal) g z (ix2 r l) = normed (Ideal.ofBits .f32 0x43000000#32) (fun k => z (ix2 r ⟨640 + k.val, by omega⟩)) (fun k => g (ix2 0 k)) l := by
  have e : k0_pay38 (F := Ideal) g z = truncf .bf16 (unitHead g (extractStridedSlice S512x128 ![0, 640] z slices_S512x768_o0_640_S512x128)) bitsLt_bf16_f32 := rfl
  rw [e]
  pointwise [unitHead_apply]

theorem nak_4 (z : FVec Ideal S512x768 .f32) (g : FVec Ideal S1x128 .f32) (r : Fin 512) (l : Fin 128) :
    k0_pay35 (F := Ideal) g z (ix2 r l) = normed (Ideal.ofBits .f32 0x43000000#32) (fun k => z (ix2 r ⟨512 + k.val, by omega⟩)) (fun k => g (ix2 0 k)) l := by
  have e : k0_pay35 (F := Ideal) g z = truncf .bf16 (unitHead g (extractStridedSlice S512x128 ![0, 512] z slices_S512x768_o0_512_S512x128)) bitsLt_bf16_f32 := rfl
  rw [e]
  pointwise [unitHead_apply]

theorem nak_3 (z : FVec Ideal S512x768 .f32) (g : FVec Ideal S1x128 .f32) (r : Fin 512) (l : Fin 128) :
    k0_pay32 (F := Ideal) g (k0_pay31 z) (ix2 r l) = normed (Ideal.ofBits .f32 0x43000000#32) (fun k => z (ix2 r ⟨384 + k.val, by omega⟩)) (fun k => g (ix2 0 k)) l := by
  have e : k0_pay32 (F := Ideal) g (k0_pay31 z) = truncf .bf16 (unitHead g (extractStridedSlice S512x128 ![0, 384] z slices_S512x768_o0_384_S512x128)) bitsLt_bf16_f32 := rfl
  rw [e]
  pointwise [unitHead_apply]

theorem nak_2 (z : FVec Ideal S512x768 .f32) (g : FVec Ideal S1x128 .f32) (r : Fin 512) (l : Fin 128) :
    k0_pay28 (F := Ideal) g (k0_pay26 z) (k0_pay27 z) (ix2 r l) = normed (Ideal.ofBits .f32 0x43000000#32) (fun k => z (ix2 r ⟨256 + k.val, by omega⟩)) (fun k => g (ix2 0 k)) l := by
  have e : k0_pay28 (F := Ideal) g (k0_pay26 z) (k0_pay27 z) = truncf .bf16 (unitHead g (extractStridedSlice S512x128 ![0, 256] z slices_S512x768_o0_256_S512x128)) bitsLt_bf16_f32 := rfl
  rw [e]
  pointwise [unitHead_apply]

theorem nak_1 (z : FVec Ideal S512x768 .f32) (g : FVec Ideal S1x128 .f32) (r : Fin 512) (l : Fin 128) :
    k0_pay23 (F := Ideal) g z (ix2 r l) = normed (Ideal.ofBits .f32 0x43000000#32) (fun k => z (ix2 r ⟨128 + k.val, by omega⟩)) (fun k => g (ix2 0 k)) l := by
  have e : k0_pay23 (F := Ideal) g z = truncf .bf16 (unitHead g (extractStridedSlice S512x128 ![0, 128] z slices_S512x768_o0_128_S512x128)) bitsLt_bf16_f32 := rfl
  rw [e]
  pointwise [unitHead_apply]

theorem nak_0 (z : FVec Ideal S512x768 .f32) (g : FVec Ideal S1x128 .f32) (r : Fin 512) (l : Fin 128) :
    k0_pay20 (F := Ideal) g z (ix2 r l) = normed (Ideal.ofBits .f32 0x43000000#32) (fun k => z (ix2 r ⟨0 + k.val, by omega⟩)) (fun k => g (ix2 0 k)) l := by
  have e : k0_pay20 (F := Ideal) g z = truncf .bf16 (unitHead g (extractStridedSlice S512x128 ![0, 0] z slices_S512x768_o0_0_S512x128)) bitsLt_bf16_f32 := rfl
  rw [e]
  pointwise [unitHead_apply]

theorem nav_5 (z : FVec Ideal S512x768 .f32) (r : Fin 512) (l : Fin 128) :
    k0_pay39 (F := Ideal) z (ix2 r l) = z (ix2 r ⟨640 + l.val, by omega⟩) := by
  have e : k0_pay39 (F := Ideal) z = truncf .bf16 (extractStridedSlice S512x128 ![0, 640] z slices_S512x768_o0_640_S512x128) bitsLt_bf16_f32 := rfl
  rw [e]
  pointwise

theorem nav_4 (z : FVec Ideal S512x768 .f32) (r : Fin 512) (l : Fin 128) :
    k0_pay36 (F := Ideal) z (ix2 r l) = z (ix2 r ⟨512 + l.val, by omega⟩) := by
  have e : k0_pay36 (F := Ideal) z = truncf .bf16 (extractStridedSlice S512x128 ![0, 512] z slices_S512x768_o0_512_S512x128) bitsLt_bf16_f32 := rfl
  rw [e]
  pointwise

theorem nav_3 (z : FVec Ideal S512x768 .f32) (r : Fin 512) (l : Fin 128) :
    k0_pay33 (F := Ideal) z (ix2 r l) = z (ix2 r ⟨384 + l.val, by omega⟩) := by
  have e : k0_pay33 (F := Ideal) z = truncf .bf16 (extractStridedSlice S512x128 ![0, 384] z slices_S512x768_o0_384_S512x128) bitsLt_bf16_f32 := rfl
  rw [e]
  pointwise

theorem nav_2 (z : FVec Ideal S512x768 .f32) (r : Fin 512) (l : Fin 128) :
    k0_pay29 (F := Ideal) z (ix2 r l) = z (ix2 r ⟨256 + l.val, by omega⟩) := by
  have e : k0_pay29 (F := Ideal) z = truncf .bf16 (extractStridedSlice S512x128 ![0, 256] z slices_S512x768_o0_256_S512x128) bitsLt_bf16_f32 := rfl
  rw [e]
  pointwise

theorem nav_1 (z : FVec Ideal S512x768 .f32) (r : Fin 512) (l : Fin 128) :
    k0_pay24 (F := Ideal) z (ix2 r l) = z (ix2 r ⟨128 + l.val, by omega⟩) := by
  have e : k0_pay24 (F := Ideal) z = truncf .bf16 (extractStridedSlice S512x128 ![0, 128] z slices_S512x768_o0_128_S512x128) bitsLt_bf16_f32 := rfl
  rw [e]
  pointwise

theorem nav_0 (z : FVec Ideal S512x768 .f32) (r : Fin 512) (l : Fin 128) :
    k0_pay21 (F := Ideal) z (ix2 r l) = z (ix2 r ⟨0 + l.val, by omega⟩) := by
  have e : k0_pay21 (F := Ideal) z = truncf .bf16 (extractStridedSlice S512x128 ![0, 0] z slices_S512x768_o0_0_S512x128) bitsLt_bf16_f32 := rfl
  rw [e]
  pointwise

theorem gq_5 (z : FVec Ideal S512x768 .f32) (g : FVec Ideal S1x128 .f32) (c u : FVec Ideal S512x128 .f32) (r : Fin 512) (l : Fin 128) :
    k0_pay58 (F := Ideal) c u (k0_pay56 z) (k0_pay57 g) (ix2 r l) = spun (fun i => normed (Ideal.ofBits .f32 0x43000000#32) (fun k => z (ix2 r ⟨640 + k.val, by omega⟩)) (fun k => g (ix2 0 k)) i) (fun k => c (ix2 r k)) (fun k => u (ix2 r k)) l * Ideal.ofBits .f32 0x3E0293EE#32 := by
  have e : k0_pay58 (F := Ideal) c u (k0_pay56 z) (k0_pay57 g) = truncf .bf16 (mulf (spin (unitHead g (extractStridedSlice S512x128 ![0, 640] z slices_S512x768_o0_640_S512x128)) c u) (broadcast S512x128 (Scalar.ofBits .f32 0x3E0293EE#32))) bitsLt_bf16_f32 := rfl
  rw [e]
  pointwise [spin_apply, unitHead_apply]

theorem gq_4 (z : FVec Ideal S512x768 .f32) (g : FVec Ideal S1x128 .f32) (c u : FVec Ideal S512x128 .f32) (r : Fin 512) (l : Fin 128) :
    k0_pay55 (F := Ideal) g c u (k0_pay53 z) (k0_pay54 z) (ix2 r l) = spun (fun i => normed (Ideal.ofBits .f32 0x43000000#32) (fun k => z (ix2 r ⟨512 + k.val, by omega⟩)) (fun k => g (ix2 0 k)) i) (fun k => c (ix2 r k)) (fun k => u (ix2 r k)) l * Ideal.ofBits .f32 0x3E0293EE#32 := by
  have e : k0_pay55 (F := Ideal) g c u (k0_pay53 z) (k0_pay54 z) = truncf .bf16 (mulf (spin (unitHead g (extractStridedSlice S512x128 ![0, 512] z slices_S512x768_o0_512_S512x128)) c u) (broadcast S512x128 (Scalar.ofBits .f32 0x3E0293EE#32))) bitsLt_bf16_f32 := rfl
  rw [e]
  pointwise [spin_apply, unitHead_apply]

theorem gq_3 (z : FVec Ideal S512x768 .f32) (g : FVec Ideal S1x128 .f32) (c u : FVec Ideal S512x128 .f32) (r : Fin 512) (l : Fin 128) :
    k0_pay52 (F := Ideal) g c u (k0_pay50 z) (k0_pay51 z) (ix2 r l) = spun (fun i => normed (Ideal.ofBits .f32 0x43000000#32) (fun k => z (ix2 r ⟨384 + k.val, by omega⟩)) (fun k => g (ix2 0 k)) i) (fun k => c (ix2 r k)) (fun k => u (ix2 r k)) l * Ideal.ofBits .f32 0x3E0293EE#32 := by
  have e : k0_pay52 (F := Ideal) g c u (k0_pay50 z) (k0_pay51 z) = truncf .bf16 (mulf (spin (unitHead g (extractStridedSlice S512x128 ![0, 384] z slices_S512x768_o0_384_S512x128)) c u) (broadcast S512x128 (Scalar.ofBits .f32 0x3E0293EE#32))) bitsLt_bf16_f32 := rfl
  rw [e]
  pointwise [spin_apply, unitHead_apply]

theorem gq_2 (z : FVec Ideal S512x768 .f32) (g : FVec Ideal S1x128 .f32) (c u : FVec Ideal S512x128 .f32) (r : Fin 512) (l : Fin 128) :
    k0_pay49 (F := Ideal) g c u (k0_pay47 z) (k0_pay48 z) (Scalar.ofBits .f32 0x358637BD#32) (ix2 r l) = spun (fun i => normed (Ideal.ofBits .f32 0x43000000#32) (fun k => z (ix2 r ⟨256 + k.val, by omega⟩)) (fun k => g (ix2 0 k)) i) (fun k => c (ix2 r k)) (fun k => u (ix2 r k)) l * Ideal.ofBits .f32 0x3E0293EE#32 := by
  have e : k0_pay49 (F := Ideal) g c u (k0_pay47 z) (k0_pay48 z) (Scalar.ofBits .f32 0x358637BD#32) = truncf .bf16 (mulf (spin (unitHead g (extractStridedSlice S512x128 ![0, 256] z slices_S512x768_o0_256_S512x128)) c u) (broadcast S512x128 (Scalar.ofBits .f32 0x3E0293EE#32))) bitsLt_bf16_f32 := rfl
  rw [e]
  pointwise [spin_apply, unitHead_apply]

theorem gq_1 (z : FVec Ideal S512x768 .f32) (g : FVec Ideal S1x128 .f32) (c u : FVec Ideal S512x128 .f32) (r : Fin 512) (l : Fin 128) :
    k0_pay46 (F := Ideal) g c u (k0_pay43 z) (k0_pay44 z) (k0_pay45 (F := Ideal)) (ix2 r l) = spun (fun i => normed (Ideal.ofBits .f32 0x43000000#32) (fun k => z (ix2 r ⟨128 + k.val, by omega⟩)) (fun k => g (ix2 0 k)) i) (fun k => c (ix2 r k)) (fun k => u (ix2 r k)) l * Ideal.ofBits .f32 0x3E0293EE#32 := by
  have e : k0_pay46 (F := Ideal) g c u (k0_pay43 z) (k0_pay44 z) (k0_pay45 (F := Ideal)) = truncf .bf16 (mulf (spin (unitHead g (extractStridedSlice S512x128 ![0, 128] z slices_S512x768_o0_128_S512x128)) c u) (broadcast S512x128 (Scalar.ofBits .f32 0x3E0293EE#32))) bitsLt_bf16_f32 := rfl
  rw [e]
  pointwise [spin_apply, unitHead_apply]

theorem gq_0 (z : FVec Ideal S512x768 .f32) (g : FVec Ideal S1x128 .f32) (c u : FVec Ideal S512x128 .f32) (r : Fin 512) (l : Fin 128) :
    k0_pay42 (F := Ideal) g c u (k0_pay40 z) (k0_pay41 z) (ix2 r l) = spun (fun i => normed (Ideal.ofBits .f32 0x43000000#32) (fun k => z (ix2 r ⟨0 + k.val, by omega⟩)) (fun k => g (ix2 0 k)) i) (fun k => c (ix2 r k)) (fun k => u (ix2 r k)) l * Ideal.ofBits .f32 0x3E0293EE#32 := by
  have e : k0_pay42 (F := Ideal) g c u (k0_pay40 z) (k0_pay41 z) = truncf .bf16 (mulf (spin (unitHead g (extractStridedSlice S512x128 ![0, 0] z slices_S512x768_o0_0_S512x128)) c u) (broadcast S512x128 (Scalar.ofBits .f32 0x3E0293EE#32))) bitsLt_bf16_f32 := rfl
  rw [e]
  pointwise [spin_apply, unitHead_apply]

theorem gk_1 (z : FVec Ideal S512x256 .f32) (g : FVec Ideal S1x128 .f32) (c u : FVec Ideal S512x128 .f32) (r : Fin 512) (l : Fin 128) :
    k0_pay1 (F := Ideal) c u (k0_pay63 g z) (ix2 r l) = spun (fun i => normed (Ideal.ofBits .f32 0x43000000#32) (fun k => z (ix2 r ⟨128 + k.val, by omega⟩)) (fun k => g (ix2 0 k)) i) (fun k => c (ix2 r k)) (fun k => u (ix2 r k)) l := by
  have e : k0_pay1 (F := Ideal) c u (k0_pay63 g z) = truncf .bf16 (spin (unitHead g (extractStridedSlice S512x128 ![0, 128] z slices_S512x256_o0_128_S512x128)) c u) bitsLt_bf16_f32 := rfl
  rw [e]
  pointwise [spin_apply, unitHead_apply]

theorem gk_0 (z : FVec Ideal S512x256 .f32) (g : FVec Ideal S1x128 .f32) (c u : FVec Ideal S512x128 .f32) (r : Fin 512) (l : Fin 128) :
    k0_pay61 (F := Ideal) c u (k0_pay59 g z) (ix2 r l) = spun (fun i => normed (Ideal.ofBits .f32 0x43000000#32) (fun k => z (ix2 r ⟨0 + k.val, by omega⟩)) (fun k => g (ix2 0 k)) i) (fun k => c (ix2 r k)) (fun k => u (ix2 r k)) l := by
  have e : k0_pay61 (F := Ideal) c u (k0_pay59 g z) = truncf .bf16 (spin (unitHead g (extractStridedSlice S512x128 ![0, 0] z slices_S512x256_o0_0_S512x128)) c u) bitsLt_bf16_f32 := rfl
  rw [e]
  pointwise [spin_apply, unitHead_apply]

theorem gv_1 (z : FVec Ideal S512x256 .f32) (r : Fin 512) (l : Fin 128) :
    k0_pay2 (F := Ideal) z (ix2 r l) = z (ix2 r ⟨128 + l.val, by omega⟩) := by
  have e : k0_pay2 (F := Ideal) z = truncf .bf16 (extractStridedSlice S512x128 ![0, 128] z slices_S512x256_o0_128_S512x128) bitsLt_bf16_f32 := rfl
  rw [e]
  pointwise

theorem gv_0 (z : FVec Ideal S512x256 .f32) (r : Fin 512) (l : Fin 128) :
    k0_pay62 (F := Ideal) (k0_pay60 z) (ix2 r l) = z (ix2 r ⟨0 + l.val, by omega⟩) := by
  have e : k0_pay62 (F := Ideal) (k0_pay60 z) = truncf .bf16 (extractStridedSlice S512x128 ![0, 0] z slices_S512x256_o0_0_S512x128) bitsLt_bf16_f32 := rfl
  rw [e]
  pointwise

end Cert.Kernel4Ideal.Proj
end
-- ==== Proof.RopeBlocks.lean ====
module

public import proofs.«01_k».proof.Proof.Gen.Kernel4Ideal.Frame
public import proofs.«01_k».proof.Proof.RopePieces
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.Kernel4Ideal.Proj
open Cert.Kernel4Ideal Cert.Kernel4Ideal.Gen Cert.Rows

theorem hidden_rows (x0 : Vec Ideal S512x2048 .f32) (x1 : Vec Ideal S1x1x12288 .f32) (x2 : Vec Ideal S1x2048 .f32) (r : Fin 512) (d : Fin 2048) :
    k0_pay3 x0 x1 x2 (ix2 r d) = hidden (fun k => x0 (ix2 r k)) (fun k => x2 (ix2 0 k)) (fun k => x1 (ix3 0 0 ⟨2048 + k.val, by omega⟩)) (fun k => x1 (ix3 0 0 ⟨k.val, by omega⟩)) d := by
  pointwise [k0_pay3]
  rfl

theorem hidden_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (d : Fin 2048) :
    k0_pay64 x0 x1 x2 x3 x4 x5 x6 (ix2 r d) = hidden (fun k => x0 (ix2 r k)) (fun k => x2 (ix2 0 k)) (fun k => x1 (ix3 0 0 ⟨2048 + k.val, by omega⟩)) (fun k => x1 (ix3 0 0 ⟨k.val, by omega⟩)) d := by
  pointwise [k0_pay64, k0_pay3]
  rfl

theorem naq_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    k0_pay69 x0 x1 x2 x3 x4 x5 x6 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨1536 + q.val, by omega⟩)) := by
  pointwise [k0_pay69, k0_pay9]
  simp only [hidden_block]
  rfl

theorem nak_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    k0_pay70 x0 x1 x2 x3 x4 x5 x6 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨2304 + q.val, by omega⟩)) := by
  pointwise [k0_pay70, k0_pay10]
  simp only [hidden_block]
  rfl

theorem nav_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    k0_pay71 x0 x1 x2 x3 x4 x5 x6 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨3072 + q.val, by omega⟩)) := by
  pointwise [k0_pay71, k0_pay11]
  simp only [hidden_block]
  rfl

theorem gq_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    k0_pay72 x0 x1 x2 x3 x4 x5 x6 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨3840 + q.val, by omega⟩)) := by
  pointwise [k0_pay72, k0_pay12]
  simp only [hidden_block]
  rfl

theorem gk_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 256) :
    k0_pay73 x0 x1 x2 x3 x4 x5 x6 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨4608 + q.val, by omega⟩)) := by
  pointwise [k0_pay73, k0_pay13]
  simp only [hidden_block]
  rfl

theorem gv_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 256) :
    k0_pay74 x0 x1 x2 x3 x4 x5 x6 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨4864 + q.val, by omega⟩)) := by
  pointwise [k0_pay74, k0_pay14]
  simp only [hidden_block]
  rfl

theorem naq_gain (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (a : Fin 1) (k : Fin 128) :
    k0_pay65 x0 x1 x2 x3 x4 x5 x6 (ix2 a k) = x4 (ix2 0 k) := by
  pointwise [k0_pay65, k0_pay5]

theorem nak_gain (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (a : Fin 1) (k : Fin 128) :
    k0_pay66 x0 x1 x2 x3 x4 x5 x6 (ix2 a k) = x4 (ix2 1 k) := by
  pointwise [k0_pay66, k0_pay6]

theorem gq_gain (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (a : Fin 1) (k : Fin 128) :
    k0_pay67 x0 x1 x2 x3 x4 x5 x6 (ix2 a k) = x4 (ix2 2 k) := by
  pointwise [k0_pay67, k0_pay7]

theorem gk_gain (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (a : Fin 1) (k : Fin 128) :
    k0_pay68 x0 x1 x2 x3 x4 x5 x6 (ix2 a k) = x4 (ix2 3 k) := by
  pointwise [k0_pay68, k0_pay8]

theorem cos_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (l : Fin 128) :
    k0_pay75 x0 x1 x2 x3 x4 x5 x6 (ix2 r l) = x5 (ix2 r l) := by
  pointwise [k0_pay75, k0_pay15]

theorem sin_block (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (l : Fin 128) :
    k0_pay76 x0 x1 x2 x3 x4 x5 x6 (ix2 r l) = x6 (ix2 r l) := by
  pointwise [k0_pay76, k0_pay16]

theorem hy_out (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 1536) :
    out0_7 x0 x1 x2 x3 x4 x5 x6 (ix2 r q) = entry (fun k => x0 (ix2 r k)) (fun k => x2 (ix2 0 k)) (fun k => x1 (ix3 0 0 ⟨2048 + k.val, by omega⟩)) (fun k => x1 (ix3 0 0 ⟨k.val, by omega⟩)) (fun d => x3 (ix2 d ⟨q.val, by omega⟩)) := by
  unfold out0_7
  frame_out
  pointwise [k0_pay4]
  exact Finset.sum_congr rfl fun d _ => congrArg (· * _) (hidden_rows x0 x1 x2 r d)

theorem ix2_congr {p q : ℕ} {a a' : Fin p} {b b' : Fin q} (ha : a.val = a'.val) (hb : b.val = b'.val) : ix2 a b = ix2 a' b' := by
  rw [Fin.ext ha, Fin.ext hb]

theorem normed_congr {n : ℕ} {c : EReal} {z z' g g' : Fin n → EReal} {l l' : Fin n} (hz : ∀ k, z k = z' k) (hg : ∀ k, g k = g' k) (hl : l = l') :
    normed c z g l = normed c z' g' l' := by
  rw [funext hz, funext hg, hl]

theorem spun_congr {u u' c c' s s' : Fin 128 → EReal} {l l' : Fin 128} (hu : ∀ k, u k = u' k) (hc : ∀ k, c k = c' k) (hs : ∀ k, s k = s' k) (hl : l = l') :
    spun u c s l = spun u' c' s' l' := by
  rw [funext hu, funext hc, funext hs, hl]

theorem naq_tiles (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    out0_8 x0 x1 x2 x3 x4 x5 x6 (ix2 r q) = normed (Ideal.ofBits .f32 0x43000000#32) (fun j : Fin 128 => k0_pay69 x0 x1 x2 x3 x4 x5 x6 (ix2 r ⟨128 * (q.val / 128) + j.val, by omega⟩)) (fun k => k0_pay65 x0 x1 x2 x3 x4 x5 x6 (ix2 0 k)) ⟨q.val % 128, by omega⟩ * Ideal.ofBits .f32 0x3E0293EE#32 := by
  unfold out0_8
  canon_tiles i e
  · idx_vars i
    have h0 : r.val = i0.val := e0
    have h1 : q.val = 640 + i1.val := e1
    exact (naq_5 _ _ i0 i1).trans (congrArg (· * Ideal.ofBits .f32 0x3E0293EE#32) (normed_congr (fun k => congrArg (k0_pay69 x0 x1 x2 x3 x4 x5 x6) (ix2_congr (by omega) (by simp only; omega))) (fun _ => rfl) (Fin.ext (by simp only; omega))))
  · idx_vars i
    have h0 : r.val = i0.val := e0
    have h1 : q.val = 512 + i1.val := e1
    exact (naq_4 _ _ i0 i1).trans (congrArg (· * Ideal.ofBits .f32 0x3E0293EE#32) (normed_congr (fun k => congrArg (k0_pay69 x0 x1 x2 x3 x4 x5 x6) (ix2_congr (by omega) (by simp only; omega))) (fun _ => rfl) (Fin.ext (by simp only; omega))))
  · idx_vars i
    have h0 : r.val = i0.val := e0
    have h1 : q.val = 384 + i1.val := e1
    exact (naq_3 _ _ i0 i1).trans (congrArg (· * Ideal.ofBits .f32 0x3E0293EE#32) (normed_congr (fun k => congrArg (k0_pay69 x0 x1 x2 x3 x4 x5 x6) (ix2_congr (by omega) (by simp only; omega))) (fun _ => rfl) (Fin.ext (by simp only; omega))))
  · idx_vars i
    have h0 : r.val = i0.val := e0
    have h1 : q.val = 256 + i1.val := e1
    exact (naq_2 _ _ i0 i1).trans (congrArg (· * Ideal.ofBits .f32 0x3E0293EE#32) (normed_congr (fun k => congrArg (k0_pay69 x0 x1 x2 x3 x4 x5 x6) (ix2_congr (by omega) (by simp only; omega))) (fun _ => rfl) (Fin.ext (by simp only; omega))))
  · idx_vars i
    have h0 : r.val = i0.val := e0
    have h1 : q.val = 128 + i1.val := e1
    exact (naq_1 _ _ i0 i1).trans (congrArg (· * Ideal.ofBits .f32 0x3E0293EE#32) (normed_congr (fun k => congrArg (k0_pay69 x0 x1 x2 x3 x4 x5 x6) (ix2_congr (by omega) (by simp only; omega))) (fun _ => rfl) (Fin.ext (by simp only; omega))))
  · idx_vars i
    have h0 : r.val = i0.val := e0
    have h1 : q.val = 0 + i1.val := e1.trans (Nat.zero_add _).symm
    exact (naq_0 _ _ _ i0 i1).trans (congrArg (· * Ideal.ofBits .f32 0x3E0293EE#32) (normed_congr (fun k => congrArg (k0_pay69 x0 x1 x2 x3 x4 x5 x6) (ix2_congr (by omega) (by simp only; omega))) (fun _ => rfl) (Fin.ext (by simp only; omega))))

theorem nak_tiles (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    out0_9 x0 x1 x2 x3 x4 x5 x6 (ix2 r q) = normed (Ideal.ofBits .f32 0x43000000#32) (fun j : Fin 128 => k0_pay70 x0 x1 x2 x3 x4 x5 x6 (ix2 r ⟨128 * (q.val / 128) + j.val, by omega⟩)) (fun k => k0_pay66 x0 x1 x2 x3 x4 x5 x6 (ix2 0 k)) ⟨q.val % 128, by omega⟩ := by
  unfold out0_9
  canon_tiles i e
  · idx_vars i
    have h0 : r.val = i0.val := e0
    have h1 : q.val = 640 + i1.val := e1
    exact (nak_5 _ _ i0 i1).trans (normed_congr (fun k => congrArg (k0_pay70 x0 x1 x2 x3 x4 x5 x6) (ix2_congr (by omega) (by simp only; omega))) (fun _ => rfl) (Fin.ext (by simp only; omega)))
  · idx_vars i
    have h0 : r.val = i0.val := e0
    have h1 : q.val = 512 + i1.val := e1
    exact (nak_4 _ _ i0 i1).trans (normed_congr (fun k => congrArg (k0_pay70 x0 x1 x2 x3 x4 x5 x6) (ix2_congr (by omega) (by simp only; omega))) (fun _ => rfl) (Fin.ext (by simp only; omega)))
  · idx_vars i
    have h0 : r.val = i0.val := e0
    have h1 : q.val = 384 + i1.val := e1
    exact (nak_3 _ _ i0 i1).trans (normed_congr (fun k => congrArg (k0_pay70 x0 x1 x2 x3 x4 x5 x6) (ix2_congr (by omega) (by simp only; omega))) (fun _ => rfl) (Fin.ext (by simp only; omega)))
  · idx_vars i
    have h0 : r.val = i0.val := e0
    have h1 : q.val = 256 + i1.val := e1
    exact (nak_2 _ _ i0 i1).trans (normed_congr (fun k => congrArg (k0_pay70 x0 x1 x2 x3 x4 x5 x6) (ix2_congr (by omega) (by simp only; omega))) (fun _ => rfl) (Fin.ext (by simp only; omega)))
  · idx_vars i
    have h0 : r.val = i0.val := e0
    have h1 : q.val = 128 + i1.val := e1
    exact (nak_1 _ _ i0 i1).trans (normed_congr (fun k => congrArg (k0_pay70 x0 x1 x2 x3 x4 x5 x6) (ix2_congr (by omega) (by simp only; omega))) (fun _ => rfl) (Fin.ext (by simp only; omega)))
  · idx_vars i
    have h0 : r.val = i0.val := e0
    have h1 : q.val = 0 + i1.val := e1.trans (Nat.zero_add _).symm
    exact (nak_0 _ _ i0 i1).trans (normed_congr (fun k => congrArg (k0_pay70 x0 x1 x2 x3 x4 x5 x6) (ix2_congr (by omega) (by simp only; omega))) (fun _ => rfl) (Fin.ext (by simp only; omega)))

theorem nav_tiles (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    out0_10 x0 x1 x2 x3 x4 x5 x6 (ix2 r q) = k0_pay71 x0 x1 x2 x3 x4 x5 x6 (ix2 r ⟨128 * (q.val / 128) + q.val % 128, by omega⟩) := by
  unfold out0_10
  canon_tiles i e
  · idx_vars i
    have h0 : r.val = i0.val := e0
    have h1 : q.val = 640 + i1.val := e1
    exact (nav_5 _ i0 i1).trans (congrArg (k0_pay71 x0 x1 x2 x3 x4 x5 x6) (ix2_congr (by omega) (by simp only; omega)))
  · idx_vars i
    have h0 : r.val = i0.val := e0
    have h1 : q.val = 512 + i1.val := e1
    exact (nav_4 _ i0 i1).trans (congrArg (k0_pay71 x0 x1 x2 x3 x4 x5 x6) (ix2_congr (by omega) (by simp only; omega)))
  · idx_vars i
    have h0 : r.val = i0.val := e0
    have h1 : q.val = 384 + i1.val := e1
    exact (nav_3 _ i0 i1).trans (congrArg (k0_pay71 x0 x1 x2 x3 x4 x5 x6) (ix2_congr (by omega) (by simp only; omega)))
  · idx_vars i
    have h0 : r.val = i0.val := e0
    have h1 : q.val = 256 + i1.val := e1
    exact (nav_2 _ i0 i1).trans (congrArg (k0_pay71 x0 x1 x2 x3 x4 x5 x6) (ix2_congr (by omega) (by simp only; omega)))
  · idx_vars i
    have h0 : r.val = i0.val := e0
    have h1 : q.val = 128 + i1.val := e1
    exact (nav_1 _ i0 i1).trans (congrArg (k0_pay71 x0 x1 x2 x3 x4 x5 x6) (ix2_congr (by omega) (by simp only; omega)))
  · idx_vars i
    have h0 : r.val = i0.val := e0
    have h1 : q.val = 0 + i1.val := e1.trans (Nat.zero_add _).symm
    exact (nav_0 _ i0 i1).trans (congrArg (k0_pay71 x0 x1 x2 x3 x4 x5 x6) (ix2_congr (by omega) (by simp only; omega)))

theorem gq_tiles (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 768) :
    out0_11 x0 x1 x2 x3 x4 x5 x6 (ix2 r q) = spun (fun i => normed (Ideal.ofBits .f32 0x43000000#32) (fun j : Fin 128 => k0_pay72 x0 x1 x2 x3 x4 x5 x6 (ix2 r ⟨128 * (q.val / 128) + j.val, by omega⟩)) (fun k => k0_pay67 x0 x1 x2 x3 x4 x5 x6 (ix2 0 k)) i) (fun k => k0_pay75 x0 x1 x2 x3 x4 x5 x6 (ix2 r k)) (fun k => k0_pay76 x0 x1 x2 x3 x4 x5 x6 (ix2 r k)) ⟨q.val % 128, by omega⟩ * Ideal.ofBits .f32 0x3E0293EE#32 := by
  unfold out0_11
  canon_tiles i e
  · idx_vars i
    have h0 : r.val = i0.val := e0
    have h1 : q.val = 640 + i1.val := e1
    exact (gq_5 _ _ _ _ i0 i1).trans (congrArg (· * Ideal.ofBits .f32 0x3E0293EE#32) (spun_congr (fun i => normed_congr (fun k => congrArg (k0_pay72 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega))))
  · idx_vars i
    have h0 : r.val = i0.val := e0
    have h1 : q.val = 512 + i1.val := e1
    exact (gq_4 _ _ _ _ i0 i1).trans (congrArg (· * Ideal.ofBits .f32 0x3E0293EE#32) (spun_congr (fun i => normed_congr (fun k => congrArg (k0_pay72 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega))))
  · idx_vars i
    have h0 : r.val = i0.val := e0
    have h1 : q.val = 384 + i1.val := e1
    exact (gq_3 _ _ _ _ i0 i1).trans (congrArg (· * Ideal.ofBits .f32 0x3E0293EE#32) (spun_congr (fun i => normed_congr (fun k => congrArg (k0_pay72 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega))))
  · idx_vars i
    have h0 : r.val = i0.val := e0
    have h1 : q.val = 256 + i1.val := e1
    exact (gq_2 _ _ _ _ i0 i1).trans (congrArg (· * Ideal.ofBits .f32 0x3E0293EE#32) (spun_congr (fun i => normed_congr (fun k => congrArg (k0_pay72 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega))))
  · idx_vars i
    have h0 : r.val = i0.val := e0
    have h1 : q.val = 128 + i1.val := e1
    exact (gq_1 _ _ _ _ i0 i1).trans (congrArg (· * Ideal.ofBits .f32 0x3E0293EE#32) (spun_congr (fun i => normed_congr (fun k => congrArg (k0_pay72 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega))))
  · idx_vars i
    have h0 : r.val = i0.val := e0
    have h1 : q.val = 0 + i1.val := e1.trans (Nat.zero_add _).symm
    exact (gq_0 _ _ _ _ i0 i1).trans (congrArg (· * Ideal.ofBits .f32 0x3E0293EE#32) (spun_congr (fun i => normed_congr (fun k => congrArg (k0_pay72 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega))))

theorem gk_tiles (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 256) :
    out0_12 x0 x1 x2 x3 x4 x5 x6 (ix2 r q) = spun (fun i => normed (Ideal.ofBits .f32 0x43000000#32) (fun j : Fin 128 => k0_pay73 x0 x1 x2 x3 x4 x5 x6 (ix2 r ⟨128 * (q.val / 128) + j.val, by omega⟩)) (fun k => k0_pay68 x0 x1 x2 x3 x4 x5 x6 (ix2 0 k)) i) (fun k => k0_pay75 x0 x1 x2 x3 x4 x5 x6 (ix2 r k)) (fun k => k0_pay76 x0 x1 x2 x3 x4 x5 x6 (ix2 r k)) ⟨q.val % 128, by omega⟩ := by
  unfold out0_12
  canon_tiles i e
  · idx_vars i
    have h0 : r.val = i0.val := e0
    have h1 : q.val = 128 + i1.val := e1
    exact (gk_1 _ _ _ _ i0 i1).trans (spun_congr (fun i => normed_congr (fun k => congrArg (k0_pay73 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega)))
  · idx_vars i
    have h0 : r.val = i0.val := e0
    have h1 : q.val = 0 + i1.val := e1.trans (Nat.zero_add _).symm
    exact (gk_0 _ _ _ _ i0 i1).trans (spun_congr (fun i => normed_congr (fun k => congrArg (k0_pay73 x0 x1 x2 x3 x4 x5 x6) (ix2_congr (by omega) (by simp only; omega))) (fun _ => rfl) rfl) (fun k => congrArg (k0_pay75 x0 x1 x2 x3 x4 x5 x6) (ix2_congr (by omega) rfl)) (fun k => congrArg (k0_pay76 x0 x1 x2 x3 x4 x5 x6) (ix2_congr (by omega) rfl)) (Fin.ext (by simp only; omega)))

theorem gv_tiles (x0 : Vec Ideal S512x2048 .f32) (x1 : Vec Ideal S1x1x12288 .f32) (x2 : Vec Ideal S1x2048 .f32) (x3 : Vec Ideal S2048x5120 .bf16) (x4 : Vec Ideal S4x128 .f32) (x5 : Vec Ideal S512x128 .f32) (x6 : Vec Ideal S512x128 .f32) (r : Fin 512) (q : Fin 256) :
    out0_13 x0 x1 x2 x3 x4 x5 x6 (ix2 r q) = k0_pay74 x0 x1 x2 x3 x4 x5 x6 (ix2 r ⟨128 * (q.val / 128) + q.val % 128, by omega⟩) := by
  unfold out0_13
  canon_tiles i e
  · idx_vars i
    have h0 : r.val = i0.val := e0
    have h1 : q.val = 128 + i1.val := e1
    exact (gv_1 _ i0 i1).trans (congrArg (k0_pay74 x0 x1 x2 x3 x4 x5 x6) (ix2_congr (by omega) (by simp only; omega)))
  · idx_vars i
    have h0 : r.val = i0.val := e0
    have h1 : q.val = 0 + i1.val := e1.trans (Nat.zero_add _).symm
    exact (gv_0 _ i0 i1).trans (congrArg (k0_pay74 x0 x1 x2 x3 x4 x5 x6) (ix2_congr (by omega) (by simp only; omega)))

end Cert.Kernel4Ideal.Proj
end
-- ==== Proof.RopeTables.lean ====
module

public import proofs.«01_k».proof.Proof.RopeBlocks
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
namespace Cert.Kernel4Ideal.Proj
open Cert.Kernel4Ideal Cert.Kernel4Ideal.Gen Cert.Rows
open Cert.Reference4Ideal.Proj (rowAng colAng ang ang_0 ang_1 ang_2 ang_3)
variable (m : (ℓ : Loc nD τ sig) → Buf (Elt Ideal) ℓ)

/-- The grid's rows of the tokens at places `p`, the grid `k` wide. -/
def floorOf (p : IVec S4096 32) (k : IVec S_ 32) : IVec S4096 32 :=
  select (andi (cmpi .ne (signi p) (broadcastInDim S4096 ![] bcast_S_S4096 (signi (id k)))) (cmpi .ne (Host.remsi p (broadcastInDim S4096 ![] bcast_S_S4096 (id k))) (broadcastInDim S4096 ![] bcast_S_S4096 (constantI S_ 32 0#32)))) (subi (Host.divsi p (broadcastInDim S4096 ![] bcast_S_S4096 (id k))) (broadcastInDim S4096 ![] bcast_S_S4096 (constantI S_ 32 1#32))) (Host.divsi p (broadcastInDim S4096 ![] bcast_S_S4096 (id k)))

/-- Their columns. -/
def restOf (p : IVec S4096 32) (k : IVec S_ 32) : IVec S4096 32 :=
  select (andi (cmpi .ne (cmpi .slt (Host.remsi p (broadcastInDim S4096 ![] bcast_S_S4096 (select (cmpi .eq (id k) (constantI S_ 32 0#32)) (constantI S_ 32 1#32) (id k)))) (broadcastInDim S4096 ![] bcast_S_S4096 (constantI S_ 32 0#32))) (broadcastInDim S4096 ![] bcast_S_S4096 (cmpi .slt (select (cmpi .eq (id k) (constantI S_ 32 0#32)) (constantI S_ 32 1#32) (id k)) (constantI S_ 32 0#32)))) (cmpi .ne (Host.remsi p (broadcastInDim S4096 ![] bcast_S_S4096 (select (cmpi .eq (id k) (constantI S_ 32 0#32)) (constantI S_ 32 1#32) (id k)))) (broadcastInDim S4096 ![] bcast_S_S4096 (constantI S_ 32 0#32)))) (addi (Host.remsi p (broadcastInDim S4096 ![] bcast_S_S4096 (select (cmpi .eq (id k) (constantI S_ 32 0#32)) (constantI S_ 32 1#32) (id k)))) (broadcastInDim S4096 ![] bcast_S_S4096 (select (cmpi .eq (id k) (constantI S_ 32 0#32)) (constantI S_ 32 1#32) (id k)))) (Host.remsi p (broadcastInDim S4096 ![] bcast_S_S4096 (select (cmpi .eq (id k) (constantI S_ 32 0#32)) (constantI S_ 32 1#32) (id k))))

/-- The angles at coordinates `v`. -/
def angOf (v : FVec Ideal S4096 .f32) : FVec Ideal S4096x32 .f32 :=
  mulf (broadcastInDim S4096x32 ![0, 1] bcast_S4096x1_S4096x32_0_1 (broadcastInDim S4096x1 ![0] bcast_S4096_S4096x1_0 v)) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op ops ih => exact ih _

theorem staged (c : Dev nD) (b : Ref sig .tc) : V m c b = StableHlo.after hostOps0_4 (StableHlo.after hostOps0_3 (StableHlo.after hostOps0_2
    (StableHlo.after hostOps0_1 (StableHlo.after hostOps0 (fun b => m (c, b)))))) b := by
  show StableHlo.after (hostOps0 ++ (hostOps0_1 ++ (hostOps0_2 ++ (hostOps0_3 ++ (hostOps0_4 ++ []))))) _ _ = _
  rw [after_append, after_append, after_append, after_append, after_append]
  rfl

section
variable (W : Valuation τ sig (Elt Ideal))

theorem stage1 : StableHlo.after hostOps0_1 W main_v10 = floorOf (W main_v9) (W main_c) := rfl
theorem stage1_place : StableHlo.after hostOps0_1 W main_v9 = W main_v9 := rfl
theorem stage2 : StableHlo.after hostOps0_2 W main_v11 = (sitofp (F := Ideal) .f32 (W main_v10) : FVec Ideal S4096 .f32) := rfl
theorem stage2_place : StableHlo.after hostOps0_2 W main_v9 = W main_v9 := rfl
theorem stage2_width : StableHlo.after hostOps0_2 W main_c_0 = constantI S_ 32 64#32 := rfl

theorem stage3_cut : (hostOps0_3 : List (HloOp τ sig (Elt Ideal))) = hostOps0_3.take 7 ++ hostOps0_3.drop 7 := (List.take_append_drop 7 _).symm
theorem stage3_mod : StableHlo.after (hostOps0_3.take 7) W main_call1_v2 = select (cmpi .eq (id (W main_c_0)) (constantI S_ 32 0#32)) (constantI S_ 32 1#32) (id (W main_c_0)) := rfl
theorem stage3_rem : StableHlo.after (hostOps0_3.take 7) W main_call1_v4 = Host.remsi (W main_v9) (broadcastInDim S4096 ![] bcast_S_S4096 (select (cmpi .eq (id (W main_c_0)) (constantI S_ 32 0#32)) (constantI S_ 32 1#32) (id (W main_c_0)))) := rfl
/-- The columns from the remainders `v` and the modulus `u`. -/
def signedOf (v : IVec S4096 32) (u : IVec S_ 32) : IVec S4096 32 :=
  select (andi (cmpi .ne (cmpi .slt v (broadcastInDim S4096 ![] bcast_S_S4096 (constantI S_ 32 0#32))) (broadcastInDim S4096 ![] bcast_S_S4096 (cmpi .slt u (constantI S_ 32 0#32)))) (cmpi .ne v (broadcastInDim S4096 ![] bcast_S_S4096 (constantI S_ 32 0#32)))) (addi v (broadcastInDim S4096 ![] bcast_S_S4096 u)) v
theorem stage3_end : StableHlo.after (hostOps0_3.drop 7) W main_v12 = signedOf (W main_call1_v4) (W main_call1_v2) := rfl
theorem stage3 : StableHlo.after hostOps0_3 W main_v12 = restOf (W main_v9) (W main_c_0) := by
  rw [stage3_cut, after_append, stage3_end, stage3_rem, stage3_mod]
  rfl
theorem stage3_rows : StableHlo.after hostOps0_3 W main_v11 = W main_v11 := rfl
theorem stage4_rows : StableHlo.after hostOps0_4 W main_v24 = angOf (W main_v11) := rfl
theorem stage4_cols : StableHlo.after hostOps0_4 W main_v29 = angOf (sitofp (F := Ideal) .f32 (W main_v12) : FVec Ideal S4096 .f32) := rfl
theorem stage4_cos : StableHlo.after hostOps0_4 W main_v34 = concatenate S4096x128 1 [(⟨S4096x32, (Host.cos (angOf (W main_v11)) : FVec Ideal S4096x32 .f32)⟩ : (s : Shape) × (s.Idx → EReal)), (⟨S4096x32, (Host.cos (angOf (W main_v11)) : FVec Ideal S4096x32 .f32)⟩ : (s : Shape) × (s.Idx → EReal)), (⟨S4096x32, (Host.cos (angOf (sitofp (F := Ideal) .f32 (W main_v12) : FVec Ideal S4096 .f32)) : FVec Ideal S4096x32 .f32)⟩ : (s : Shape) × (s.Idx → EReal)), (⟨S4096x32, (Host.cos (angOf (sitofp (F := Ideal) .f32 (W main_v12) : FVec Ideal S4096 .f32)) : FVec Ideal S4096x32 .f32)⟩ : (s : Shape) × (s.Idx → EReal))] concatenates_S4096x32_S4096x32_S4096x32_S4096x32_S4096x128_d1 := rfl
theorem stage4_sin : StableHlo.after hostOps0_4 W main_v41 = concatenate S4096x128 1 [(⟨S4096x32, (Host.negf (Host.sin (angOf (W main_v11))) : FVec Ideal S4096x32 .f32)⟩ : (s : Shape) × (s.Idx → EReal)), (⟨S4096x32, (Host.sin (angOf (W main_v11)) : FVec Ideal S4096x32 .f32)⟩ : (s : Shape) × (s.Idx → EReal)), (⟨S4096x32, (Host.negf (Host.sin (angOf (sitofp (F := Ideal) .f32 (W main_v12) : FVec Ideal S4096 .f32))) : FVec Ideal S4096x32 .f32)⟩ : (s : Shape) × (s.Idx → EReal)), (⟨S4096x32, (Host.sin (angOf (sitofp (F := Ideal) .f32 (W main_v12) : FVec Ideal S4096 .f32)) : FVec Ideal S4096x32 .f32)⟩ : (s : Shape) × (s.Idx → EReal))] concatenates_S4096x32_S4096x32_S4096x32_S4096x32_S4096x128_d1 := rfl
end

/-- The kernel's table of the heads' cosines. -/
theorem cos_table (c : Dev nD) : V m c main_v34 = concatenate S4096x128 1 [(⟨S4096x32, (Host.cos (rowAng) : FVec Ideal S4096x32 .f32)⟩ : (s : Shape) × (s.Idx → EReal)), (⟨S4096x32, (Host.cos (rowAng) : FVec Ideal S4096x32 .f32)⟩ : (s : Shape) × (s.Idx → EReal)), (⟨S4096x32, (Host.cos (colAng) : FVec Ideal S4096x32 .f32)⟩ : (s : Shape) × (s.Idx → EReal)), (⟨S4096x32, (Host.cos (colAng) : FVec Ideal S4096x32 .f32)⟩ : (s : Shape) × (s.Idx → EReal))] concatenates_S4096x32_S4096x32_S4096x32_S4096x32_S4096x128_d1 := by
  rw [staged, stage4_cos, stage3, stage3_rows, stage2, stage2_place, stage2_width, stage1, stage1_place]
  rfl

theorem cos_0 (c : Dev nD) (s : Fin 4096) (j : Fin 32) : V m c main_v34 (ix2 s ⟨0 + j.val, by omega⟩) = Ideal.cos (ang s ⟨0 + j.val, by omega⟩) := by
  rw [cos_table, ang_0]
  pointwise

theorem cos_1 (c : Dev nD) (s : Fin 4096) (j : Fin 32) : V m c main_v34 (ix2 s ⟨32 + j.val, by omega⟩) = Ideal.cos (ang s ⟨32 + j.val, by omega⟩) := by
  rw [cos_table, ang_1]
  pointwise

theorem cos_2 (c : Dev nD) (s : Fin 4096) (j : Fin 32) : V m c main_v34 (ix2 s ⟨64 + j.val, by omega⟩) = Ideal.cos (ang s ⟨64 + j.val, by omega⟩) := by
  rw [cos_table, ang_2]
  pointwise
  rw [dif_neg (by omega), dif_neg (by omega), dif_pos (by omega)]
  simp only [show 64 + j.val - 32 - 32 = j.val by omega]

theorem cos_3 (c : Dev nD) (s : Fin 4096) (j : Fin 32) : V m c main_v34 (ix2 s ⟨96 + j.val, by omega⟩) = Ideal.cos (ang s ⟨96 + j.val, by omega⟩) := by
  rw [cos_table, ang_3]
  pointwise
  rw [dif_neg (by omega), dif_neg (by omega), dif_neg (by omega)]
  simp only [show 96 + j.val - 32 - 32 - 32 = j.val by omega]

theorem cos_at (c : Dev nD) (s : Fin 4096) (l : Fin 128) : V m c main_v34 (ix2 s l) = Ideal.cos (ang s l) := by
  rcases (by omega : l.val < 32 ∨ (32 ≤ l.val ∧ l.val < 64) ∨ (64 ≤ l.val ∧ l.val < 96) ∨ (96 ≤ l.val ∧ l.val < 128)) with hl | hl | hl | hl
  · obtain ⟨j, hj⟩ : ∃ j : Fin 32, 0 + j.val = l.val := ⟨⟨l.val - 0, by omega⟩, by simp only; omega⟩
    obtain rfl : (⟨0 + j.val, Nat.lt_of_lt_of_le (Nat.add_lt_add_left j.isLt _) (by decide)⟩ : Fin 128) = l := Fin.ext hj
    exact cos_0 m c s j
  · obtain ⟨j, hj⟩ : ∃ j : Fin 32, 32 + j.val = l.val := ⟨⟨l.val - 32, by omega⟩, by simp only; omega⟩
    obtain rfl : (⟨32 + j.val, Nat.lt_of_lt_of_le (Nat.add_lt_add_left j.isLt _) (by decide)⟩ : Fin 128) = l := Fin.ext hj
    exact cos_1 m c s j
  · obtain ⟨j, hj⟩ : ∃ j : Fin 32, 64 + j.val = l.val := ⟨⟨l.val - 64, by omega⟩, by simp only; omega⟩
    obtain rfl : (⟨64 + j.val, Nat.lt_of_lt_of_le (Nat.add_lt_add_left j.isLt _) (by decide)⟩ : Fin 128) = l := Fin.ext hj
    exact cos_2 m c s j
  · obtain ⟨j, hj⟩ : ∃ j : Fin 32, 96 + j.val = l.val := ⟨⟨l.val - 96, by omega⟩, by simp only; omega⟩
    obtain rfl : (⟨96 + j.val, Nat.lt_of_lt_of_le (Nat.add_lt_add_left j.isLt _) (by decide)⟩ : Fin 128) = l := Fin.ext hj
    exact cos_3 m c s j

/-- The kernel's table of the heads' signed sines. -/
theorem sin_table (c : Dev nD) : V m c main_v41 = concatenate S4096x128 1 [(⟨S4096x32, (Host.negf (Host.sin (rowAng)) : FVec Ideal S4096x32 .f32)⟩ : (s : Shape) × (s.Idx → EReal)), (⟨S4096x32, (Host.sin (rowAng) : FVec Ideal S4096x32 .f32)⟩ : (s : Shape) × (s.Idx → EReal)), (⟨S4096x32, (Host.negf (Host.sin (colAng)) : FVec Ideal S4096x32 .f32)⟩ : (s : Shape) × (s.Idx → EReal)), (⟨S4096x32, (Host.sin (colAng) : FVec Ideal S4096x32 .f32)⟩ : (s : Shape) × (s.Idx → EReal))] concatenates_S4096x32_S4096x32_S4096x32_S4096x32_S4096x128_d1 := by
  rw [staged, stage4_sin, stage3, stage3_rows, stage2, stage2_place, stage2_width, stage1, stage1_place]
  rfl

theorem sin_0 (c : Dev nD) (s : Fin 4096) (j : Fin 32) : V m c main_v41 (ix2 s ⟨0 + j.val, by omega⟩) = - Ideal.sin (ang s ⟨0 + j.val, by omega⟩) := by
  rw [sin_table, ang_0]
  pointwise

theorem sin_1 (c : Dev nD) (s : Fin 4096) (j : Fin 32) : V m c main_v41 (ix2 s ⟨32 + j.val, by omega⟩) = Ideal.sin (ang s ⟨32 + j.val, by omega⟩) := by
  rw [sin_table, ang_1]
  pointwise

theorem sin_2 (c : Dev nD) (s : Fin 4096) (j : Fin 32) : V m c main_v41 (ix2 s ⟨64 + j.val, by omega⟩) = - Ideal.sin (ang s ⟨64 + j.val, by omega⟩) := by
  rw [sin_table, ang_2]
  pointwise
  rw [dif_neg (by omega), dif_neg (by omega), dif_pos (by omega)]
  simp only [show 64 + j.val - 32 - 32 = j.val by omega]

theorem sin_3 (c : Dev nD) (s : Fin 4096) (j : Fin 32) : V m c main_v41 (ix2 s ⟨96 + j.val, by omega⟩) = Ideal.sin (ang s ⟨96 + j.val, by omega⟩) := by
  rw [sin_table, ang_3]
  pointwise
  rw [dif_neg (by omega), dif_neg (by omega), dif_neg (by omega)]
  simp only [show 96 + j.val - 32 - 32 - 32 = j.val by omega]

theorem sin_at (c : Dev nD) (s : Fin 4096) (l : Fin 128) : V m c main_v41 (ix2 s l) = if (l : Fin 128).val % 64 < 32 then - Ideal.sin (ang s l) else Ideal.sin (ang s l) := by
  rcases (by omega : l.val < 32 ∨ (32 ≤ l.val ∧ l.val < 64) ∨ (64 ≤ l.val ∧ l.val < 96) ∨ (96 ≤ l.val ∧ l.val < 128)) with hl | hl | hl | hl
  · obtain ⟨j, hj⟩ : ∃ j : Fin 32, 0 + j.val = l.val := ⟨⟨l.val - 0, by omega⟩, by simp only; omega⟩
    obtain rfl : (⟨0 + j.val, Nat.lt_of_lt_of_le (Nat.add_lt_add_left j.isLt _) (by decide)⟩ : Fin 128) = l := Fin.ext hj
    rw [if_pos (by simp only; omega)]
    exact sin_0 m c s j
  · obtain ⟨j, hj⟩ : ∃ j : Fin 32, 32 + j.val = l.val := ⟨⟨l.val - 32, by omega⟩, by simp only; omega⟩
    obtain rfl : (⟨32 + j.val, Nat.lt_of_lt_of_le (Nat.add_lt_add_left j.isLt _) (by decide)⟩ : Fin 128) = l := Fin.ext hj
    rw [if_neg (by simp only; omega)]
    exact sin_1 m c s j
  · obtain ⟨j, hj⟩ : ∃ j : Fin 32, 64 + j.val = l.val := ⟨⟨l.val - 64, by omega⟩, by simp only; omega⟩
    obtain rfl : (⟨64 + j.val, Nat.lt_of_lt_of_le (Nat.add_lt_add_left j.isLt _) (by decide)⟩ : Fin 128) = l := Fin.ext hj
    rw [if_pos (by simp only; omega)]
    exact sin_2 m c s j
  · obtain ⟨j, hj⟩ : ∃ j : Fin 32, 96 + j.val = l.val := ⟨⟨l.val - 96, by omega⟩, by simp only; omega⟩
    obtain rfl : (⟨96 + j.val, Nat.lt_of_lt_of_le (Nat.add_lt_add_left j.isLt _) (by decide)⟩ : Fin 128) = l := Fin.ext hj
    rw [if_neg (by simp only; omega)]
    exact sin_3 m c s j
end Cert.Kernel4Ideal.Proj
end
-- ==== Proof.Rope.lean ====
module

public import proofs.«01_k».proof.Proof.RopeTables
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel4Ideal.Proj
open Cert.Kernel4Ideal Cert.Kernel4Ideal.Gen Cert.Rows
open Cert.Reference4Ideal.Proj (rowAng colAng ang ang_0 ang_1 ang_2 ang_3)
variable (m : (ℓ : Loc nD τ sig) → Buf (Elt Ideal) ℓ)

theorem idx : ∀ t : Fin cfg0.N, win0_0.index t = ![t.val, 0] ∧ win0_1.index t = ![1 + t.val / 8, 0, 0] ∧ win0_2.index t = ![0, 0] ∧ win0_3.index t = ![0, 0]
    ∧ win0_4.index t = ![0, 0] ∧ win0_5.index t = ![t.val % 8, 0] ∧ win0_6.index t = ![t.val % 8, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

theorem x_rows (c : Dev nD) : V m c main_v5 = shapeCast S8192x2048 (m ((c : Thread nD τ).loc main_arg0)) shapeCasts_S2x4096x2048_S8192x2048 := rfl

theorem mod_rows (c : Dev nD) : V m c main_v6 = shapeCast S8x1x12288 (m ((c : Thread nD τ).loc main_arg1)) shapeCasts_S8x12288_S8x1x12288 := rfl

theorem norm_row (c : Dev nD) : V m c main_v8 = shapeCast S1x2048 (m ((c : Thread nD τ).loc main_arg2)) shapeCasts_S2048_S1x2048 := rfl

theorem weights (c : Dev nD) : V m c main_v7 = (truncf .bf16 ((m ((c : Thread nD τ).loc main_arg3)) : FVec Ideal S2048x5120 .f32) bitsLt_bf16_f32 : FVec Ideal S2048x5120 .bf16) := rfl

theorem rows_at (X : FVec Ideal S2x4096x2048 .f32) (r : Fin 8192) (k : Fin 2048) : shapeCast S8192x2048 X shapeCasts_S2x4096x2048_S8192x2048 (ix2 r k)
    = X (ix3 ⟨r.val / 4096, by omega⟩ ⟨r.val % 4096, by omega⟩ k) := by
  pointwise

theorem planes_at (X : FVec Ideal S8x12288 .f32) (b : Fin 8) (k : Fin 12288) : shapeCast S8x1x12288 X shapeCasts_S8x12288_S8x1x12288 (ix3 b 0 k) = X (ix2 b k) := by
  pointwise

/-- The lane rotation with the tables of the angles. -/
theorem spun_ang (a u : Fin 128 → EReal) (l : Fin 128) :
    spun u (fun k => Ideal.cos (a k)) (fun k => if k.val % 64 < 32 then - Ideal.sin (a k) else Ideal.sin (a k)) l = turned a u l :=
  spun_eq_turned a u _ _ l rfl rfl

theorem x_at (c : Dev nD) (r : Fin 8192) (k : Fin 2048) : V m c main_v5 (ix2 r k) = (m ((c : Thread nD τ).loc main_arg0)) (ix3 ⟨r.val / 4096, by omega⟩ ⟨r.val % 4096, by omega⟩ k) := by
  rw [x_rows]
  exact rows_at _ r k

theorem mod_at (c : Dev nD) (b : Fin 8) (k : Fin 12288) : V m c main_v6 (ix3 b 0 k) = (m ((c : Thread nD τ).loc main_arg1)) (ix2 b k) := by
  rw [mod_rows]
  exact planes_at _ b k

theorem norm_at (c : Dev nD) (k : Fin 2048) : V m c main_v8 (ix2 0 k) = (m ((c : Thread nD τ).loc main_arg2)) (ix1 k) := by
  rw [norm_row]
  pointwise

theorem w_at (c : Dev nD) (d : Fin 2048) (k : Fin 5120) : V m c main_v7 (ix2 d k) = (m ((c : Thread nD τ).loc main_arg3)) (ix2 d k) := by
  rw [weights]
  pointwise

theorem read_x (c : Dev nD) (t : Fin cfg0.N) (r : Fin 512) (k : Fin 2048) : iblk m c 0 t (ix2 r k)
    = (m ((c : Thread nD τ).loc main_arg0)) (ix3 ⟨(t.val * 512 + r.val) / 4096, by have := t.isLt; have : cfg0.N = 16 := N_0; omega⟩ ⟨(t.val * 512 + r.val) % 4096, by omega⟩ k) := by
  refine Eq.trans ?_ (x_at m c ⟨t.val * 512 + r.val, by have := t.isLt; have : cfg0.N = 16 := N_0; omega⟩ k)
  blk_simp [iblk, idx t]
  blk_ext [idx t]

theorem read_mod (c : Dev nD) (t : Fin cfg0.N) (r : Fin 512) (k : Fin 12288) : iblk m c 1 t (ix3 0 0 k)
    = (m ((c : Thread nD τ).loc main_arg1)) (ix2 ⟨1 + (t.val * 512 + r.val) / 4096, by have := t.isLt; have : cfg0.N = 16 := N_0; omega⟩ k) := by
  refine Eq.trans ?_ (mod_at m c ⟨1 + (t.val * 512 + r.val) / 4096, by have := t.isLt; have : cfg0.N = 16 := N_0; omega⟩ k)
  blk_simp [iblk, idx t]
  blk_ext [idx t]

theorem read_norm (c : Dev nD) (t : Fin cfg0.N) (k : Fin 2048) : iblk m c 2 t (ix2 0 k) = (m ((c : Thread nD τ).loc main_arg2)) (ix1 k) := by
  refine Eq.trans ?_ (norm_at m c k)
  blk_simp [iblk, idx t]
  blk_ext [idx t]

theorem read_w (c : Dev nD) (t : Fin cfg0.N) (d : Fin 2048) (k : Fin 5120) : iblk m c 3 t (ix2 d k) = (m ((c : Thread nD τ).loc main_arg3)) (ix2 d k) := by
  refine Eq.trans ?_ (w_at m c d k)
  blk_simp [iblk, idx t]
  blk_ext [idx t]

theorem read_cos (c : Dev nD) (t : Fin cfg0.N) (r : Fin 512) (l : Fin 128) : iblk m c 5 t (ix2 r l)
    = Ideal.cos (ang ⟨(t.val * 512 + r.val) % 4096, by omega⟩ l) := by
  refine Eq.trans ?_ (cos_at m c _ l)
  blk_simp [iblk, idx t]
  blk_ext [idx t]

theorem read_sin (c : Dev nD) (t : Fin cfg0.N) (r : Fin 512) (l : Fin 128) : iblk m c 6 t (ix2 r l)
    = if l.val % 64 < 32 then - Ideal.sin (ang ⟨(t.val * 512 + r.val) % 4096, by omega⟩ l) else Ideal.sin (ang ⟨(t.val * 512 + r.val) % 4096, by omega⟩ l) := by
  refine Eq.trans ?_ (sin_at m c _ l)
  blk_simp [iblk, idx t]
  blk_ext [idx t]

/-- The four heads' gains, one row below another. -/
theorem gains (c : Dev nD) : V m c main_v4 = concatenate S4x128 0 [(⟨S1x128, broadcastInDim S1x128 ![1] bcast_S128_S1x128_1 (m ((c : Thread nD τ).loc main_arg4))⟩ : (s : Shape) × (s.Idx → EReal)), (⟨S1x128, broadcastInDim S1x128 ![1] bcast_S128_S1x128_1 (m ((c : Thread nD τ).loc main_arg5))⟩ : (s : Shape) × (s.Idx → EReal)), (⟨S1x128, broadcastInDim S1x128 ![1] bcast_S128_S1x128_1 (m ((c : Thread nD τ).loc main_arg6))⟩ : (s : Shape) × (s.Idx → EReal)), (⟨S1x128, broadcastInDim S1x128 ![1] bcast_S128_S1x128_1 (m ((c : Thread nD τ).loc main_arg7))⟩ : (s : Shape) × (s.Idx → EReal))]
    concatenates_S1x128_S1x128_S1x128_S1x128_S4x128_d0 := by
  rfl

theorem gain0_at (c : Dev nD) (k : Fin 128) : V m c main_v4 (ix2 0 k) = (m ((c : Thread nD τ).loc main_arg4)) (ix1 k) := by
  rw [gains]
  pointwise

theorem read_gain0 (c : Dev nD) (t : Fin cfg0.N) (k : Fin 128) : iblk m c 4 t (ix2 0 k) = (m ((c : Thread nD τ).loc main_arg4)) (ix1 k) := by
  refine Eq.trans ?_ (gain0_at m c k)
  blk_simp [iblk, idx t]
  blk_ext [idx t]

theorem gain1_at (c : Dev nD) (k : Fin 128) : V m c main_v4 (ix2 1 k) = (m ((c : Thread nD τ).loc main_arg5)) (ix1 k) := by
  rw [gains]
  pointwise

theorem read_gain1 (c : Dev nD) (t : Fin cfg0.N) (k : Fin 128) : iblk m c 4 t (ix2 1 k) = (m ((c : Thread nD τ).loc main_arg5)) (ix1 k) := by
  refine Eq.trans ?_ (gain1_at m c k)
  blk_simp [iblk, idx t]
  blk_ext [idx t]

theorem gain2_at (c : Dev nD) (k : Fin 128) : V m c main_v4 (ix2 2 k) = (m ((c : Thread nD τ).loc main_arg6)) (ix1 k) := by
  rw [gains]
  pointwise

theorem read_gain2 (c : Dev nD) (t : Fin cfg0.N) (k : Fin 128) : iblk m c 4 t (ix2 2 k) = (m ((c : Thread nD τ).loc main_arg6)) (ix1 k) := by
  refine Eq.trans ?_ (gain2_at m c k)
  blk_simp [iblk, idx t]
  blk_ext [idx t]

theorem gain3_at (c : Dev nD) (k : Fin 128) : V m c main_v4 (ix2 3 k) = (m ((c : Thread nD τ).loc main_arg7)) (ix1 k) := by
  rw [gains]
  pointwise

theorem read_gain3 (c : Dev nD) (t : Fin cfg0.N) (k : Fin 128) : iblk m c 4 t (ix2 3 k) = (m ((c : Thread nD τ).loc main_arg7)) (ix1 k) := by
  refine Eq.trans ?_ (gain3_at m c k)
  blk_simp [iblk, idx t]
  blk_ext [idx t]

theorem hy_element (c : Dev nD) (t : Fin cfg0.N) (r : Fin 512) (q : Fin 1536) : out0_7 (iblk m c 0 t) (iblk m c 1 t) (iblk m c 2 t) (iblk m c 3 t) (iblk m c 4 t) (iblk m c 5 t) (iblk m c 6 t) (ix2 r q)
    = Cert.Reference4Ideal.Proj.hy (m ((c : Thread nD τ).loc main_arg0)) (m ((c : Thread nD τ).loc main_arg1)) (m ((c : Thread nD τ).loc main_arg2)) (m ((c : Thread nD τ).loc main_arg3)) (ix2 ⟨t.val * 512 + r.val, by have := t.isLt; have : cfg0.N = 16 := N_0; omega⟩ q) := by
  rw [hy_out, Cert.Reference4Ideal.Proj.hy_apply]
  simp only [read_x, read_mod m c t r, read_norm, read_w]

theorem hy_final (c : Dev nD) : (dats m 0 c).arrAt 7 cfg0.N = Cert.Reference4Ideal.Proj.hy (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (hy_element m c t y0 y1).trans (congrArg _ ?_)
  blk_ext [idx t]

theorem naq_element (c : Dev nD) (t : Fin cfg0.N) (r : Fin 512) (q : Fin 768) : out0_8 (iblk m c 0 t) (iblk m c 1 t) (iblk m c 2 t) (iblk m c 3 t) (iblk m c 4 t) (iblk m c 5 t) (iblk m c 6 t) (ix2 r q)
    = Cert.Reference4Ideal.Proj.naq (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + r.val, by have := t.isLt; have : cfg0.N = 16 := N_0; omega⟩ q) := by
  rw [naq_tiles, Cert.Reference4Ideal.Proj.naq_apply]
  simp only [naq_block, naq_gain, read_gain0, read_x, read_mod m c t r, read_norm, read_w]

theorem naq_final (c : Dev nD) : (dats m 0 c).arrAt 8 cfg0.N = Cert.Reference4Ideal.Proj.naq (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  idx_vars y
  refine (naq_element m c t y0 y1).trans (congrArg _ ?_)
  blk_ext [idx t]

theorem nak_element (c : Dev nD) (t : Fin cfg0.N) (r : Fin 512) (q : Fin 768) : out0_9 (iblk m c 0 t) (iblk m c 1 t) (iblk m c 2 t) (iblk m c 3 t) (iblk m c 4 t) (iblk m c 5 t) (iblk m c 6 t) (ix2 r q)
    = Cert.Reference4Ideal.Proj.nak (m ((c : Thread nD τ).loc main_arg0)) (m ((c : Thread nD τ).loc main_arg1)) (m ((c : Thread nD τ).loc main_arg2)) (m ((c : Thread nD τ).loc main_arg3)) (m ((c : Thread nD τ).loc main_arg5)) (ix2 ⟨t.val * 512 + r.val, by have := t.isLt; have : cfg0.N = 16 := N_0; omega⟩ q) := by
  rw [nak_tiles, Cert.Reference4Ideal.Proj.nak_apply]
  simp only [nak_block, nak_gain, read_gain1, read_x, read_mod m c t r, read_norm, read_w]

theorem nak_final (c : Dev nD) : (dats m 0 c).arrAt 9 cfg0.N = Cert.Reference4Ideal.Proj.nak (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t hf y => ?_
  blk_simp
  rw [after0_9]
  idx_vars y
  refine (nak_element m c t y0 y1).trans (congrArg _ ?_)
  blk_ext [idx t]

theorem nav_element (c : Dev nD) (t : Fin cfg0.N) (r : Fin 512) (q : Fin 768) : out0_10 (iblk m c 0 t) (iblk m c 1 t) (iblk m c 2 t) (iblk m c 3 t) (iblk m c 4 t) (iblk m c 5 t) (iblk m c 6 t) (ix2 r q)
    = Cert.Reference4Ideal.Proj.nav (m ((c : Thread nD τ).loc main_arg0)) (m ((c : Thread nD τ).loc main_arg1)) (m ((c : Thread nD τ).loc main_arg2)) (m ((c : Thread nD τ).loc main_arg3)) (ix2 ⟨t.val * 512 + r.val, by have := t.isLt; have : cfg0.N = 16 := N_0; omega⟩ q) := by
  rw [nav_tiles, Cert.Reference4Ideal.Proj.nav_apply]
  simp only [nav_block, read_x, read_mod m c t r, read_norm, read_w]

theorem nav_final (c : Dev nD) : (dats m 0 c).arrAt 10 cfg0.N = Cert.Reference4Ideal.Proj.nav (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  idx_vars y
  refine (nav_element m c t y0 y1).trans (congrArg _ ?_)
  blk_ext [idx t]

theorem gq_element (c : Dev nD) (t : Fin cfg0.N) (r : Fin 512) (q : Fin 768) : out0_11 (iblk m c 0 t) (iblk m c 1 t) (iblk m c 2 t) (iblk m c 3 t) (iblk m c 4 t) (iblk m c 5 t) (iblk m c 6 t) (ix2 r q)
    = Cert.Reference4Ideal.Proj.gq (m ((c : Thread nD τ).loc main_arg0)) (m ((c : Thread nD τ).loc main_arg1)) (m ((c : Thread nD τ).loc main_arg2)) (m ((c : Thread nD τ).loc main_arg3)) (m ((c : Thread nD τ).loc main_arg6)) (ix2 ⟨t.val * 512 + r.val, by have := t.isLt; have : cfg0.N = 16 := N_0; omega⟩ q) := by
  rw [gq_tiles, Cert.Reference4Ideal.Proj.gq_apply]
  simp only [gq_block, cos_block, sin_block, read_cos, read_sin, spun_ang, gq_gain, read_gain2, read_x, read_mod m c t r, read_norm, read_w]

theorem gq_final (c : Dev nD) : (dats m 0 c).arrAt 11 cfg0.N = Cert.Reference4Ideal.Proj.gq (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 11 _ (by decide +kernel) fun t hf y => ?_
  blk_simp
  rw [after0_11]
  idx_vars y
  refine (gq_element m c t y0 y1).trans (congrArg _ ?_)
  blk_ext [idx t]

theorem gk_element (c : Dev nD) (t : Fin cfg0.N) (r : Fin 512) (q : Fin 256) : out0_12 (iblk m c 0 t) (iblk m c 1 t) (iblk m c 2 t) (iblk m c 3 t) (iblk m c 4 t) (iblk m c 5 t) (iblk m c 6 t) (ix2 r q)
    = Cert.Reference4Ideal.Proj.gk (m ((c : Thread nD τ).loc main_arg0)) (m ((c : Thread nD τ).loc main_arg1)) (m ((c : Thread nD τ).loc main_arg2)) (m ((c : Thread nD τ).loc main_arg3)) (m ((c : Thread nD τ).loc main_arg7)) (ix2 ⟨t.val * 512 + r.val, by have := t.isLt; have : cfg0.N = 16 := N_0; omega⟩ q) := by
  rw [gk_tiles, Cert.Reference4Ideal.Proj.gk_apply]
  simp only [gk_block, cos_block, sin_block, read_cos, read_sin, spun_ang, gk_gain, read_gain3, read_x, read_mod m c t r, read_norm, read_w]

theorem gk_final (c : Dev nD) : (dats m 0 c).arrAt 12 cfg0.N = Cert.Reference4Ideal.Proj.gk (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 12 _ (by decide +kernel) fun t hf y => ?_
  blk_simp
  rw [after0_12]
  idx_vars y
  refine (gk_element m c t y0 y1).trans (congrArg _ ?_)
  blk_ext [idx t]

theorem gv_element (c : Dev nD) (t : Fin cfg0.N) (r : Fin 512) (q : Fin 256) : out0_13 (iblk m c 0 t) (iblk m c 1 t) (iblk m c 2 t) (iblk m c 3 t) (iblk m c 4 t) (iblk m c 5 t) (iblk m c 6 t) (ix2 r q)
    = Cert.Reference4Ideal.Proj.gv (m ((c : Thread nD τ).loc main_arg0)) (m ((c : Thread nD τ).loc main_arg1)) (m ((c : Thread nD τ).loc main_arg2)) (m ((c : Thread nD τ).loc main_arg3)) (ix2 ⟨t.val * 512 + r.val, by have := t.isLt; have : cfg0.N = 16 := N_0; omega⟩ q) := by
  rw [gv_tiles, Cert.Reference4Ideal.Proj.gv_apply]
  simp only [gv_block, read_x, read_mod m c t r, read_norm, read_w]

theorem gv_final (c : Dev nD) : (dats m 0 c).arrAt 13 cfg0.N = Cert.Reference4Ideal.Proj.gv (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  blk_simp
  rw [after0_13]
  idx_vars y
  refine (gv_element m c t y0 y1).trans (congrArg _ ?_)
  blk_ext [idx t]

end Cert.Kernel4Ideal.Proj
end
-- ==== Proof.RopeRun.lean ====
module

public import proofs.«01_k».proof.Proof.Rope
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel4Ideal.Proj
open Cert.Kernel4Ideal Cert.Kernel4Ideal.Gen Cert.Rows
open Cert.Reference4Ideal.Proj (rowAng colAng ang ang_0 ang_1 ang_2 ang_3)
variable (m : (ℓ : Loc nD τ sig) → Buf (Elt Ideal) ℓ)

set_option maxHeartbeats 4000000 in
/-- What every run leaves: the seven results, and the arguments as they were. -/
theorem leaves (ρ : Dev nD → PrngReg) : θ_run defs (onTc (τ := τ) (main (F := Ideal))) ⟨m, fun _ => 0, ρ⟩ fun r => ∀ c : Dev nD,
      r.2.mem ((c : Thread nD τ).loc main_v42_0) = Cert.Reference4Ideal.Proj.hy (m ((c : Thread nD τ).loc main_arg0)) (m ((c : Thread nD τ).loc main_arg1)) (m ((c : Thread nD τ).loc main_arg2)) (m ((c : Thread nD τ).loc main_arg3))
      ∧ r.2.mem ((c : Thread nD τ).loc main_v42_1) = Cert.Reference4Ideal.Proj.naq (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v42_2) = Cert.Reference4Ideal.Proj.nak (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v42_3) = Cert.Reference4Ideal.Proj.nav (m ((c : Thread nD τ).loc main_arg0)) (m ((c : Thread nD τ).loc main_arg1)) (m ((c : Thread nD τ).loc main_arg2)) (m ((c : Thread nD τ).loc main_arg3))
      ∧ r.2.mem ((c : Thread nD τ).loc main_v42_4) = Cert.Reference4Ideal.Proj.gq (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c : Thread nD τ).loc main_v42_5) = Cert.Reference4Ideal.Proj.gk (m ((c : Thread nD τ).loc main_arg0)) (m ((c : Thread nD τ).loc main_arg1)) (m ((c : Thread nD τ).loc main_arg2)) (m ((c : Thread nD τ).loc main_arg3)) (m ((c : Thread nD τ).loc main_arg7))
      ∧ r.2.mem ((c : Thread nD τ).loc main_v42_6) = Cert.Reference4Ideal.Proj.gv (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  have keep : ∀ {r : PUnit × MemSt nD τ sig (Elt Ideal)}, Pipeline.FramePost cfgs (dats m) 0 (V m) r → ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := fun h c =>
    ⟨((h c).2 main_arg0 (Pipeline.mem_restRefs_of _ (by decide) (by decide))).trans (V_main_arg0 m c), ((h c).2 main_arg1 (Pipeline.mem_restRefs_of _ (by decide) (by decide))).trans (V_main_arg1 m c), ((h c).2 main_arg2 (Pipeline.mem_restRefs_of _ (by decide) (by decide))).trans (V_main_arg2 m c), ((h c).2 main_arg3 (Pipeline.mem_restRefs_of _ (by decide) (by decide))).trans (V_main_arg3 m c), ((h c).2 main_arg4 (Pipeline.mem_restRefs_of _ (by decide) (by decide))).trans (V_main_arg4 m c), ((h c).2 main_arg5 (Pipeline.mem_restRefs_of _ (by decide) (by decide))).trans (V_main_arg5 m c), ((h c).2 main_arg6 (Pipeline.mem_restRefs_of _ (by decide) (by decide))).trans (V_main_arg6 m c), ((h c).2 main_arg7 (Pipeline.mem_restRefs_of _ (by decide) (by decide))).trans (V_main_arg7 m c)⟩
  exact (θ_run defs _ _).mono (fun r h c => ⟨((h c).1 7).trans (hy_final m c), ((h c).1 8).trans (naq_final m c), ((h c).1 9).trans (nak_final m c), ((h c).1 10).trans (nav_final m c), ((h c).1 11).trans (gq_final m c), ((h c).1 12).trans (gk_final m c), ((h c).1 13).trans (gv_final m c), keep h c⟩) (run_main m ρ)
end Cert.Kernel4Ideal.Proj
end
-- ==== Proof.RopeClaim.lean ====
module

public import proofs.«01_k».proof.Defs
public import proofs.«01_k».proof.Proof.RopeRun
public import proofs.«01_k».proof.Proof.Gen.Reference4Ideal.Run
public import Idealize.ShloMosaic.Lib.Claim
public import Idealize.ShloMosaic.Adequacy
public import Idealize.ShloMosaic.Init
@[expose] public section
set_option maxRecDepth 16384
noncomputable section
open Idealize.ShloMosaic Idealize.SL.Sem
namespace Cert.Proof

theorem frame_reference4 : Cert.quiescent_Reference4Ideal (hReference4Ideal := Cert.Reference4Ideal.Gen.facts) := by
  intro m g _
  exact (θ_run Cert.Reference4Ideal.defs _ _).mono
    (fun r h => ⟨fun c => (h c).2.2.2.2.2.2.2, Idealize.ShloMosaic.sem_eq_zero_of_no_sems (by decide) r.2⟩) (Cert.Reference4Ideal.Value.run m g)

theorem algebraic4 : Cert.algebraic_Kernel4Ideal_Reference4Ideal (hKernel4Ideal := Cert.Kernel4Ideal.Gen.facts)
    (hReference4Ideal := Cert.Reference4Ideal.Gen.facts) := by
  intro m g m' g' _ ha
  refine ⟨fun c => Cert.Reference4Ideal.Proj.hy (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Reference4Ideal.Proj.naq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Proj.nak (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg5)),
    fun c => Cert.Reference4Ideal.Proj.nav (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Reference4Ideal.Proj.gq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6)),
    fun c => Cert.Reference4Ideal.Proj.gk (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg7)),
    fun c => Cert.Reference4Ideal.Proj.gv (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    Cert.Kernel4Ideal.Proj.leaves m g, ?_⟩
  refine (θ_run Cert.Reference4Ideal.defs _ _).mono (fun r h c => ?_) (Cert.Reference4Ideal.Value.run m' g')
  obtain ⟨h0, h1, h2, h3, h4, h5, h6, h7⟩ := ha c
  obtain ⟨r0, r1, r2, r3, r4, r5, r6, kept⟩ := h c
  refine ⟨r0.trans ?_, r1.trans ?_, r2.trans ?_, r3.trans ?_, r4.trans ?_, r5.trans ?_, r6.trans ?_, kept⟩
  · beta_reduce; rw [← h0, ← h1, ← h2, ← h3]; rfl
  · beta_reduce; rw [← h0, ← h1, ← h2, ← h3, ← h4]; rfl
  · beta_reduce; rw [← h0, ← h1, ← h2, ← h3, ← h5]; rfl
  · beta_reduce; rw [← h0, ← h1, ← h2, ← h3]; rfl
  · beta_reduce; rw [← h0, ← h1, ← h2, ← h3, ← h6]; rfl
  · beta_reduce; rw [← h0, ← h1, ← h2, ← h3, ← h7]; rfl
  · beta_reduce; rw [← h0, ← h1, ← h2, ← h3]; rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Final
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Experts
public import proofs.«01_k».proof.Proof.Proj
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.RopeClaim
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩) (Cert.ReferenceIdeal.Value.run m g)

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hp ha
  have hr := fun c => Cert.Pre_finite_scores.Real.reals _ _ _ _ _ (hp c)
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  refine Eq.trans ?_ (Cert.KernelIdeal.Final.final m (fun c => (hr c).1) (fun c => (hr c).2.1) (fun c => (hr c).2.2) c).symm
  refine (Cert.ReferenceIdeal.Attn.res_eq m' c).trans ?_
  obtain ⟨h0, h1, h2, h3, h4⟩ := ha c
  rw [h0, h1, h2, h3, h4]

theorem frame_reference2 : Cert.quiescent_Reference2Ideal (hReference2Ideal := Cert.Reference2Ideal.Gen.facts) := by
  intro m g _
  exact (θ_run Cert.Reference2Ideal.defs _ _).mono
    (fun r h => ⟨fun c => (h c).2, Idealize.ShloMosaic.sem_eq_zero_of_no_sems (by decide) r.2⟩) (Cert.Reference2Ideal.Value.run m g)

theorem algebraic2 : Cert.algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 4 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  refine Eq.trans ?_ (Cert.Kernel2Ideal.Experts.final m c).symm
  obtain ⟨h0, h1, h2, h3⟩ := ha c
  rw [h0, h1, h2, h3]
  rfl

theorem frame_reference3 : Cert.quiescent_Reference3Ideal (hReference3Ideal := Cert.Reference3Ideal.Gen.facts) := by
  intro m g _
  exact (θ_run Cert.Reference3Ideal.defs _ _).mono
    (fun r h => ⟨fun c => (h c).2.2.2.2.2.2.2, Idealize.ShloMosaic.sem_eq_zero_of_no_sems (by decide) r.2⟩) (Cert.Reference3Ideal.Value.run m g)

theorem algebraic3 : Cert.algebraic_Kernel3Ideal_Reference3Ideal (hKernel3Ideal := Cert.Kernel3Ideal.Gen.facts)
    (hReference3Ideal := Cert.Reference3Ideal.Gen.facts) := by
  intro m g m' g' _ ha
  refine ⟨fun c => Cert.Reference3Ideal.Proj.hy (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => Cert.Reference3Ideal.Proj.naq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => Cert.Reference3Ideal.Proj.gq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg6)),
    fun c => Cert.Reference3Ideal.Proj.nak (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg5)),
    fun c => Cert.Reference3Ideal.Proj.nav (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => Cert.Reference3Ideal.Proj.gk (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg7)),
    fun c => Cert.Reference3Ideal.Proj.gv (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    Cert.Kernel3Ideal.Proj.leaves m g, ?_⟩
  refine (θ_run Cert.Reference3Ideal.defs _ _).mono (fun r h c => ?_) (Cert.Reference3Ideal.Value.run m' g')
  obtain ⟨h0, h1, h2, h3, h4, h5, h6, h7⟩ := ha c
  obtain ⟨r0, r1, r2, r3, r4, r5, r6, kept⟩ := h c
  refine ⟨r0.trans ?_, r1.trans ?_, r2.trans ?_, r3.trans ?_, r4.trans ?_, r5.trans ?_, r6.trans ?_, kept⟩ <;>
    dsimp only [Cert.Reference3Ideal.Value.res_main_v105, Cert.Reference3Ideal.Value.res_main_v110, Cert.Reference3Ideal.Value.res_main_v65, Cert.Reference3Ideal.Value.res_main_v97] <;>
    simp only [h0, h1, h2, h3, h4, h5, h6, h7] <;> rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_scores.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.Kernel2.Gen.frame m g,
    fun m g _ => Cert.Kernel2Ideal.Gen.frame m g,
    frame_reference2,
    fun m g _ => Cert.Kernel3.Gen.frame m g,
    fun m g _ => Cert.Kernel3Ideal.Gen.frame m g,
    frame_reference3,
    fun m g _ => Cert.Kernel4.Gen.frame m g,
    fun m g _ => Cert.Kernel4Ideal.Gen.frame m g,
    frame_reference4,
    IdealRules.named_const.statement Cert.KernelIdeal.κ "qscale" .f32 0x3E0293EE#32 (((11863283 / 134217728) * (Real.log 2)⁻¹ : ℝ) : EReal) rfl,
    algebraic,
    trivial,
    algebraic2,
    trivial,
    algebraic3,
    trivial,
    algebraic4⟩

end Cert.Proof

end
